-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0))) = (fun _ => 1#1)

def Pre_Frames (m : (ℓ : Loc Cert.Frames.nD Cert.Frames.τ Cert.Frames.sig) → Buf (Elt Bits) ℓ) : Prop :=
  True

def Pre_FramesIdeal (m : (ℓ : Loc Cert.FramesIdeal.nD Cert.FramesIdeal.τ Cert.FramesIdeal.sig) → Buf (Elt Ideal) ℓ) : Prop :=
  True

def Pre_FramesIdeal_finite_planes [hPre_finite_planes : Cert.Pre_finite_planes.Facts] (m : (ℓ : Loc Cert.FramesIdeal.nD Cert.FramesIdeal.τ Cert.FramesIdeal.sig) → Buf (Elt Ideal) ℓ) : Prop :=
  ∀ c : Dev Cert.FramesIdeal.nD,
    (Cert.Pre_finite_planes.fn (F := Ideal) (m ((c.tc : Thread Cert.FramesIdeal.nD Cert.FramesIdeal.τ).loc Cert.FramesIdeal.main_arg0)) (m ((c.tc : Thread Cert.FramesIdeal.nD Cert.FramesIdeal.τ).loc Cert.FramesIdeal.main_arg1)) (m ((c.tc : Thread Cert.FramesIdeal.nD Cert.FramesIdeal.τ).loc Cert.FramesIdeal.main_arg2)) (m ((c.tc : Thread Cert.FramesIdeal.nD Cert.FramesIdeal.τ).loc Cert.FramesIdeal.main_arg3)) (m ((c.tc : Thread Cert.FramesIdeal.nD Cert.FramesIdeal.τ).loc Cert.FramesIdeal.main_arg4)) (m ((c.tc : Thread Cert.FramesIdeal.nD Cert.FramesIdeal.τ).loc Cert.FramesIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Frames [hFrames : Cert.Frames.Facts] : Prop :=
  ∀ (m : (ℓ : Loc Cert.Frames.nD Cert.Frames.τ Cert.Frames.sig) → Buf (Elt Bits) ℓ) (g : Dev Cert.Frames.nD → PrngReg), Pre_Frames m →
    θ_run (Cert.Frames.defs (F := Bits)) (onTc (τ := Cert.Frames.τ) (Cert.Frames.main (F := Bits))) ⟨m, fun _ => 0, g⟩ (fun r => (∀ c : Dev Cert.Frames.nD,
      r.2.mem ((c.tc : Thread Cert.Frames.nD Cert.Frames.τ).loc Cert.Frames.main_arg0) = m ((c.tc : Thread Cert.Frames.nD Cert.Frames.τ).loc Cert.Frames.main_arg0)
      ∧ r.2.mem ((c.tc : Thread Cert.Frames.nD Cert.Frames.τ).loc Cert.Frames.main_arg1) = m ((c.tc : Thread Cert.Frames.nD Cert.Frames.τ).loc Cert.Frames.main_arg1)
      ∧ r.2.mem ((c.tc : Thread Cert.Frames.nD Cert.Frames.τ).loc Cert.Frames.main_arg2) = m ((c.tc : Thread Cert.Frames.nD Cert.Frames.τ).loc Cert.Frames.main_arg2)
      ∧ r.2.mem ((c.tc : Thread Cert.Frames.nD Cert.Frames.τ).loc Cert.Frames.main_arg3) = m ((c.tc : Thread Cert.Frames.nD Cert.Frames.τ).loc Cert.Frames.main_arg3)
      ∧ r.2.mem ((c.tc : Thread Cert.Frames.nD Cert.Frames.τ).loc Cert.Frames.main_arg4) = m ((c.tc : Thread Cert.Frames.nD Cert.Frames.τ).loc Cert.Frames.main_arg4)
      ∧ r.2.mem ((c.tc : Thread Cert.Frames.nD Cert.Frames.τ).loc Cert.Frames.main_arg5) = m ((c.tc : Thread Cert.Frames.nD Cert.Frames.τ).loc Cert.Frames.main_arg5))
      ∧ r.2.sem = fun _ => 0)

def quiescent_FramesIdeal [hFramesIdeal : Cert.FramesIdeal.Facts] : Prop :=
  ∀ (m : (ℓ : Loc Cert.FramesIdeal.nD Cert.FramesIdeal.τ Cert.FramesIdeal.sig) → Buf (Elt Ideal) ℓ) (g : Dev Cert.FramesIdeal.nD → PrngReg), Pre_FramesIdeal m →
    θ_run (Cert.FramesIdeal.defs (F := Ideal)) (onTc (τ := Cert.FramesIdeal.τ) (Cert.FramesIdeal.main (F := Ideal))) ⟨m, fun _ => 0, g⟩ (fun r => (∀ c : Dev Cert.FramesIdeal.nD,
      r.2.mem ((c.tc : Thread Cert.FramesIdeal.nD Cert.FramesIdeal.τ).loc Cert.FramesIdeal.main_arg0) = m ((c.tc : Thread Cert.FramesIdeal.nD Cert.FramesIdeal.τ).loc Cert.FramesIdeal.main_arg0)
      ∧ r.2.mem ((c.tc : Thread Cert.FramesIdeal.nD Cert.FramesIdeal.τ).loc Cert.FramesIdeal.main_arg1) = m ((c.tc : Thread Cert.FramesIdeal.nD Cert.FramesIdeal.τ).loc Cert.FramesIdeal.main_arg1)
      ∧ r.2.mem ((c.tc : Thread Cert.FramesIdeal.nD Cert.FramesIdeal.τ).loc Cert.FramesIdeal.main_arg2) = m ((c.tc : Thread Cert.FramesIdeal.nD Cert.FramesIdeal.τ).loc Cert.FramesIdeal.main_arg2)
      ∧ r.2.mem ((c.tc : Thread Cert.FramesIdeal.nD Cert.FramesIdeal.τ).loc Cert.FramesIdeal.main_arg3) = m ((c.tc : Thread Cert.FramesIdeal.nD Cert.FramesIdeal.τ).loc Cert.FramesIdeal.main_arg3)
      ∧ r.2.mem ((c.tc : Thread Cert.FramesIdeal.nD Cert.FramesIdeal.τ).loc Cert.FramesIdeal.main_arg4) = m ((c.tc : Thread Cert.FramesIdeal.nD Cert.FramesIdeal.τ).loc Cert.FramesIdeal.main_arg4)
      ∧ r.2.mem ((c.tc : Thread Cert.FramesIdeal.nD Cert.FramesIdeal.τ).loc Cert.FramesIdeal.main_arg5) = m ((c.tc : Thread Cert.FramesIdeal.nD Cert.FramesIdeal.τ).loc Cert.FramesIdeal.main_arg5))
      ∧ r.2.sem = fun _ => 0)

def quiescent_FramesIdeal_pre_finite_planes [hFramesIdeal : Cert.FramesIdeal.Facts] [hPre_finite_planes : Cert.Pre_finite_planes.Facts] : Prop :=
  ∀ (m : (ℓ : Loc Cert.FramesIdeal.nD Cert.FramesIdeal.τ Cert.FramesIdeal.sig) → Buf (Elt Ideal) ℓ) (g : Dev Cert.FramesIdeal.nD → PrngReg), Pre_FramesIdeal_finite_planes m →
    θ_run (Cert.FramesIdeal.defs (F := Ideal)) (onTc (τ := Cert.FramesIdeal.τ) (Cert.FramesIdeal.main (F := Ideal))) ⟨m, fun _ => 0, g⟩ (fun r => (∀ c : Dev Cert.FramesIdeal.nD,
      r.2.mem ((c.tc : Thread Cert.FramesIdeal.nD Cert.FramesIdeal.τ).loc Cert.FramesIdeal.main_arg0) = m ((c.tc : Thread Cert.FramesIdeal.nD Cert.FramesIdeal.τ).loc Cert.FramesIdeal.main_arg0)
      ∧ r.2.mem ((c.tc : Thread Cert.FramesIdeal.nD Cert.FramesIdeal.τ).loc Cert.FramesIdeal.main_arg1) = m ((c.tc : Thread Cert.FramesIdeal.nD Cert.FramesIdeal.τ).loc Cert.FramesIdeal.main_arg1)
      ∧ r.2.mem ((c.tc : Thread Cert.FramesIdeal.nD Cert.FramesIdeal.τ).loc Cert.FramesIdeal.main_arg2) = m ((c.tc : Thread Cert.FramesIdeal.nD Cert.FramesIdeal.τ).loc Cert.FramesIdeal.main_arg2)
      ∧ r.2.mem ((c.tc : Thread Cert.FramesIdeal.nD Cert.FramesIdeal.τ).loc Cert.FramesIdeal.main_arg3) = m ((c.tc : Thread Cert.FramesIdeal.nD Cert.FramesIdeal.τ).loc Cert.FramesIdeal.main_arg3)
      ∧ r.2.mem ((c.tc : Thread Cert.FramesIdeal.nD Cert.FramesIdeal.τ).loc Cert.FramesIdeal.main_arg4) = m ((c.tc : Thread Cert.FramesIdeal.nD Cert.FramesIdeal.τ).loc Cert.FramesIdeal.main_arg4)
      ∧ r.2.mem ((c.tc : Thread Cert.FramesIdeal.nD Cert.FramesIdeal.τ).loc Cert.FramesIdeal.main_arg5) = m ((c.tc : Thread Cert.FramesIdeal.nD Cert.FramesIdeal.τ).loc Cert.FramesIdeal.main_arg5))
      ∧ r.2.sem = fun _ => 0)

def preserves_Kernel_KernelIdeal : Prop :=
  IdealRules.named_const.Statement Cert.KernelIdeal.κ "mask" .f32 0xFF61B1E6#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v3)) (v2 : (c : Dev Cert.KernelIdeal.nD) → Buf (Elt Ideal) ((c.tc : Thread Cert.KernelIdeal.nD Cert.KernelIdeal.τ).loc Cert.KernelIdeal.main_v1_2)) (v3 : (c : Dev Cert.KernelIdeal.nD) → Buf (Elt Ideal) ((c.tc : Thread Cert.KernelIdeal.nD Cert.KernelIdeal.τ).loc Cert.KernelIdeal.main_v1_3)) (v4 : (c : Dev Cert.KernelIdeal.nD) → Buf (Elt Ideal) ((c.tc : Thread Cert.KernelIdeal.nD Cert.KernelIdeal.τ).loc Cert.KernelIdeal.main_v1_4)) (v5 : (c : Dev Cert.KernelIdeal.nD) → Buf (Elt Ideal) ((c.tc : Thread Cert.KernelIdeal.nD Cert.KernelIdeal.τ).loc Cert.KernelIdeal.main_v1_5)) (v6 : (c : Dev Cert.KernelIdeal.nD) → Buf (Elt Ideal) ((c.tc : Thread Cert.KernelIdeal.nD Cert.KernelIdeal.τ).loc Cert.KernelIdeal.main_v1_6)) (v7 : (c : Dev Cert.KernelIdeal.nD) → Buf (Elt Ideal) ((c.tc : Thread Cert.KernelIdeal.nD Cert.KernelIdeal.τ).loc Cert.KernelIdeal.main_v1_7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_v1_3) = v3 c
          ∧ r.2.mem ((c.tc : Thread Cert.KernelIdeal.nD Cert.KernelIdeal.τ).loc Cert.KernelIdeal.main_v1_4) = v4 c
          ∧ r.2.mem ((c.tc : Thread Cert.KernelIdeal.nD Cert.KernelIdeal.τ).loc Cert.KernelIdeal.main_v1_5) = v5 c
          ∧ r.2.mem ((c.tc : Thread Cert.KernelIdeal.nD Cert.KernelIdeal.τ).loc Cert.KernelIdeal.main_v1_6) = v6 c
          ∧ r.2.mem ((c.tc : Thread Cert.KernelIdeal.nD Cert.KernelIdeal.τ).loc Cert.KernelIdeal.main_v1_7) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_v38) = v2 c
          ∧ r.2.mem ((c.tc : Thread Cert.ReferenceIdeal.nD Cert.ReferenceIdeal.τ).loc Cert.ReferenceIdeal.main_v41) = v3 c
          ∧ r.2.mem ((c.tc : Thread Cert.ReferenceIdeal.nD Cert.ReferenceIdeal.τ).loc Cert.ReferenceIdeal.main_v44) = v4 c
          ∧ r.2.mem ((c.tc : Thread Cert.ReferenceIdeal.nD Cert.ReferenceIdeal.τ).loc Cert.ReferenceIdeal.main_v47) = v5 c
          ∧ r.2.mem ((c.tc : Thread Cert.ReferenceIdeal.nD Cert.ReferenceIdeal.τ).loc Cert.ReferenceIdeal.main_v50) = v6 c
          ∧ r.2.mem ((c.tc : Thread Cert.ReferenceIdeal.nD Cert.ReferenceIdeal.τ).loc Cert.ReferenceIdeal.main_v53) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_Frames_FramesIdeal : Prop :=
  True

def holds_FramesIdeal_orthonormal [hFramesIdeal : Cert.FramesIdeal.Facts] [hPost_orthonormal : Cert.Post_orthonormal.Facts] : Prop :=
  ∀ (m : (ℓ : Loc Cert.FramesIdeal.nD Cert.FramesIdeal.τ Cert.FramesIdeal.sig) → Buf (Elt Ideal) ℓ) (g : Dev Cert.FramesIdeal.nD → PrngReg), Pre_FramesIdeal m →
    θ_run (Cert.FramesIdeal.defs (F := Ideal)) (onTc (τ := Cert.FramesIdeal.τ) (Cert.FramesIdeal.main (F := Ideal))) ⟨m, fun _ => 0, g⟩ (fun r => ∀ c : Dev Cert.FramesIdeal.nD,
      r.2.mem ((c.tc : Thread Cert.FramesIdeal.nD Cert.FramesIdeal.τ).loc Cert.FramesIdeal.main_arg0) = m ((c.tc : Thread Cert.FramesIdeal.nD Cert.FramesIdeal.τ).loc Cert.FramesIdeal.main_arg0)
      ∧ r.2.mem ((c.tc : Thread Cert.FramesIdeal.nD Cert.FramesIdeal.τ).loc Cert.FramesIdeal.main_arg1) = m ((c.tc : Thread Cert.FramesIdeal.nD Cert.FramesIdeal.τ).loc Cert.FramesIdeal.main_arg1)
      ∧ r.2.mem ((c.tc : Thread Cert.FramesIdeal.nD Cert.FramesIdeal.τ).loc Cert.FramesIdeal.main_arg2) = m ((c.tc : Thread Cert.FramesIdeal.nD Cert.FramesIdeal.τ).loc Cert.FramesIdeal.main_arg2)
      ∧ r.2.mem ((c.tc : Thread Cert.FramesIdeal.nD Cert.FramesIdeal.τ).loc Cert.FramesIdeal.main_arg3) = m ((c.tc : Thread Cert.FramesIdeal.nD Cert.FramesIdeal.τ).loc Cert.FramesIdeal.main_arg3)
      ∧ r.2.mem ((c.tc : Thread Cert.FramesIdeal.nD Cert.FramesIdeal.τ).loc Cert.FramesIdeal.main_arg4) = m ((c.tc : Thread Cert.FramesIdeal.nD Cert.FramesIdeal.τ).loc Cert.FramesIdeal.main_arg4)
      ∧ r.2.mem ((c.tc : Thread Cert.FramesIdeal.nD Cert.FramesIdeal.τ).loc Cert.FramesIdeal.main_arg5) = m ((c.tc : Thread Cert.FramesIdeal.nD Cert.FramesIdeal.τ).loc Cert.FramesIdeal.main_arg5)
      ∧ (Cert.Post_orthonormal.fn (F := Ideal) (m ((c.tc : Thread Cert.FramesIdeal.nD Cert.FramesIdeal.τ).loc Cert.FramesIdeal.main_arg0)) (m ((c.tc : Thread Cert.FramesIdeal.nD Cert.FramesIdeal.τ).loc Cert.FramesIdeal.main_arg1)) (m ((c.tc : Thread Cert.FramesIdeal.nD Cert.FramesIdeal.τ).loc Cert.FramesIdeal.main_arg2)) (m ((c.tc : Thread Cert.FramesIdeal.nD Cert.FramesIdeal.τ).loc Cert.FramesIdeal.main_arg3)) (m ((c.tc : Thread Cert.FramesIdeal.nD Cert.FramesIdeal.τ).loc Cert.FramesIdeal.main_arg4)) (m ((c.tc : Thread Cert.FramesIdeal.nD Cert.FramesIdeal.τ).loc Cert.FramesIdeal.main_arg5)) (r.2.mem ((c.tc : Thread Cert.FramesIdeal.nD Cert.FramesIdeal.τ).loc Cert.FramesIdeal.main_v0_0)) (r.2.mem ((c.tc : Thread Cert.FramesIdeal.nD Cert.FramesIdeal.τ).loc Cert.FramesIdeal.main_v0_1)) (r.2.mem ((c.tc : Thread Cert.FramesIdeal.nD Cert.FramesIdeal.τ).loc Cert.FramesIdeal.main_v0_2)) (r.2.mem ((c.tc : Thread Cert.FramesIdeal.nD Cert.FramesIdeal.τ).loc Cert.FramesIdeal.main_v0_3)) (r.2.mem ((c.tc : Thread Cert.FramesIdeal.nD Cert.FramesIdeal.τ).loc Cert.FramesIdeal.main_v0_4)) (r.2.mem ((c.tc : Thread Cert.FramesIdeal.nD Cert.FramesIdeal.τ).loc Cert.FramesIdeal.main_v0_5)) (r.2.mem ((c.tc : Thread Cert.FramesIdeal.nD Cert.FramesIdeal.τ).loc Cert.FramesIdeal.main_v0_6)) (r.2.mem ((c.tc : Thread Cert.FramesIdeal.nD Cert.FramesIdeal.τ).loc Cert.FramesIdeal.main_v0_7)) (r.2.mem ((c.tc : Thread Cert.FramesIdeal.nD Cert.FramesIdeal.τ).loc Cert.FramesIdeal.main_v0_8))) = (fun _ => 1#1))

def holds_FramesIdeal_ascending_pre_finite_planes [hFramesIdeal : Cert.FramesIdeal.Facts] [hPre_finite_planes : Cert.Pre_finite_planes.Facts] [hPost_ascending : Cert.Post_ascending.Facts] : Prop :=
  ∀ (m : (ℓ : Loc Cert.FramesIdeal.nD Cert.FramesIdeal.τ Cert.FramesIdeal.sig) → Buf (Elt Ideal) ℓ) (g : Dev Cert.FramesIdeal.nD → PrngReg), Pre_FramesIdeal_finite_planes m →
    θ_run (Cert.FramesIdeal.defs (F := Ideal)) (onTc (τ := Cert.FramesIdeal.τ) (Cert.FramesIdeal.main (F := Ideal))) ⟨m, fun _ => 0, g⟩ (fun r => ∀ c : Dev Cert.FramesIdeal.nD,
      r.2.mem ((c.tc : Thread Cert.FramesIdeal.nD Cert.FramesIdeal.τ).loc Cert.FramesIdeal.main_arg0) = m ((c.tc : Thread Cert.FramesIdeal.nD Cert.FramesIdeal.τ).loc Cert.FramesIdeal.main_arg0)
      ∧ r.2.mem ((c.tc : Thread Cert.FramesIdeal.nD Cert.FramesIdeal.τ).loc Cert.FramesIdeal.main_arg1) = m ((c.tc : Thread Cert.FramesIdeal.nD Cert.FramesIdeal.τ).loc Cert.FramesIdeal.main_arg1)
      ∧ r.2.mem ((c.tc : Thread Cert.FramesIdeal.nD Cert.FramesIdeal.τ).loc Cert.FramesIdeal.main_arg2) = m ((c.tc : Thread Cert.FramesIdeal.nD Cert.FramesIdeal.τ).loc Cert.FramesIdeal.main_arg2)
      ∧ r.2.mem ((c.tc : Thread Cert.FramesIdeal.nD Cert.FramesIdeal.τ).loc Cert.FramesIdeal.main_arg3) = m ((c.tc : Thread Cert.FramesIdeal.nD Cert.FramesIdeal.τ).loc Cert.FramesIdeal.main_arg3)
      ∧ r.2.mem ((c.tc : Thread Cert.FramesIdeal.nD Cert.FramesIdeal.τ).loc Cert.FramesIdeal.main_arg4) = m ((c.tc : Thread Cert.FramesIdeal.nD Cert.FramesIdeal.τ).loc Cert.FramesIdeal.main_arg4)
      ∧ r.2.mem ((c.tc : Thread Cert.FramesIdeal.nD Cert.FramesIdeal.τ).loc Cert.FramesIdeal.main_arg5) = m ((c.tc : Thread Cert.FramesIdeal.nD Cert.FramesIdeal.τ).loc Cert.FramesIdeal.main_arg5)
      ∧ (Cert.Post_ascending.fn (F := Ideal) (m ((c.tc : Thread Cert.FramesIdeal.nD Cert.FramesIdeal.τ).loc Cert.FramesIdeal.main_arg0)) (m ((c.tc : Thread Cert.FramesIdeal.nD Cert.FramesIdeal.τ).loc Cert.FramesIdeal.main_arg1)) (m ((c.tc : Thread Cert.FramesIdeal.nD Cert.FramesIdeal.τ).loc Cert.FramesIdeal.main_arg2)) (m ((c.tc : Thread Cert.FramesIdeal.nD Cert.FramesIdeal.τ).loc Cert.FramesIdeal.main_arg3)) (m ((c.tc : Thread Cert.FramesIdeal.nD Cert.FramesIdeal.τ).loc Cert.FramesIdeal.main_arg4)) (m ((c.tc : Thread Cert.FramesIdeal.nD Cert.FramesIdeal.τ).loc Cert.FramesIdeal.main_arg5)) (r.2.mem ((c.tc : Thread Cert.FramesIdeal.nD Cert.FramesIdeal.τ).loc Cert.FramesIdeal.main_v0_0)) (r.2.mem ((c.tc : Thread Cert.FramesIdeal.nD Cert.FramesIdeal.τ).loc Cert.FramesIdeal.main_v0_1)) (r.2.mem ((c.tc : Thread Cert.FramesIdeal.nD Cert.FramesIdeal.τ).loc Cert.FramesIdeal.main_v0_2)) (r.2.mem ((c.tc : Thread Cert.FramesIdeal.nD Cert.FramesIdeal.τ).loc Cert.FramesIdeal.main_v0_3)) (r.2.mem ((c.tc : Thread Cert.FramesIdeal.nD Cert.FramesIdeal.τ).loc Cert.FramesIdeal.main_v0_4)) (r.2.mem ((c.tc : Thread Cert.FramesIdeal.nD Cert.FramesIdeal.τ).loc Cert.FramesIdeal.main_v0_5)) (r.2.mem ((c.tc : Thread Cert.FramesIdeal.nD Cert.FramesIdeal.τ).loc Cert.FramesIdeal.main_v0_6)) (r.2.mem ((c.tc : Thread Cert.FramesIdeal.nD Cert.FramesIdeal.τ).loc Cert.FramesIdeal.main_v0_7)) (r.2.mem ((c.tc : Thread Cert.FramesIdeal.nD Cert.FramesIdeal.τ).loc Cert.FramesIdeal.main_v0_8))) = (fun _ => 1#1))

def holds_FramesIdeal_nearly_diagonal_pre_finite_planes [hFramesIdeal : Cert.FramesIdeal.Facts] [hPre_finite_planes : Cert.Pre_finite_planes.Facts] [hPost_nearly_diagonal : Cert.Post_nearly_diagonal.Facts] : Prop :=
  ∀ (m : (ℓ : Loc Cert.FramesIdeal.nD Cert.FramesIdeal.τ Cert.FramesIdeal.sig) → Buf (Elt Ideal) ℓ) (g : Dev Cert.FramesIdeal.nD → PrngReg), Pre_FramesIdeal_finite_planes m →
    θ_run (Cert.FramesIdeal.defs (F := Ideal)) (onTc (τ := Cert.FramesIdeal.τ) (Cert.FramesIdeal.main (F := Ideal))) ⟨m, fun _ => 0, g⟩ (fun r => ∀ c : Dev Cert.FramesIdeal.nD,
      r.2.mem ((c.tc : Thread Cert.FramesIdeal.nD Cert.FramesIdeal.τ).loc Cert.FramesIdeal.main_arg0) = m ((c.tc : Thread Cert.FramesIdeal.nD Cert.FramesIdeal.τ).loc Cert.FramesIdeal.main_arg0)
      ∧ r.2.mem ((c.tc : Thread Cert.FramesIdeal.nD Cert.FramesIdeal.τ).loc Cert.FramesIdeal.main_arg1) = m ((c.tc : Thread Cert.FramesIdeal.nD Cert.FramesIdeal.τ).loc Cert.FramesIdeal.main_arg1)
      ∧ r.2.mem ((c.tc : Thread Cert.FramesIdeal.nD Cert.FramesIdeal.τ).loc Cert.FramesIdeal.main_arg2) = m ((c.tc : Thread Cert.FramesIdeal.nD Cert.FramesIdeal.τ).loc Cert.FramesIdeal.main_arg2)
      ∧ r.2.mem ((c.tc : Thread Cert.FramesIdeal.nD Cert.FramesIdeal.τ).loc Cert.FramesIdeal.main_arg3) = m ((c.tc : Thread Cert.FramesIdeal.nD Cert.FramesIdeal.τ).loc Cert.FramesIdeal.main_arg3)
      ∧ r.2.mem ((c.tc : Thread Cert.FramesIdeal.nD Cert.FramesIdeal.τ).loc Cert.FramesIdeal.main_arg4) = m ((c.tc : Thread Cert.FramesIdeal.nD Cert.FramesIdeal.τ).loc Cert.FramesIdeal.main_arg4)
      ∧ r.2.mem ((c.tc : Thread Cert.FramesIdeal.nD Cert.FramesIdeal.τ).loc Cert.FramesIdeal.main_arg5) = m ((c.tc : Thread Cert.FramesIdeal.nD Cert.FramesIdeal.τ).loc Cert.FramesIdeal.main_arg5)
      ∧ (Cert.Post_nearly_diagonal.fn (F := Ideal) (m ((c.tc : Thread Cert.FramesIdeal.nD Cert.FramesIdeal.τ).loc Cert.FramesIdeal.main_arg0)) (m ((c.tc : Thread Cert.FramesIdeal.nD Cert.FramesIdeal.τ).loc Cert.FramesIdeal.main_arg1)) (m ((c.tc : Thread Cert.FramesIdeal.nD Cert.FramesIdeal.τ).loc Cert.FramesIdeal.main_arg2)) (m ((c.tc : Thread Cert.FramesIdeal.nD Cert.FramesIdeal.τ).loc Cert.FramesIdeal.main_arg3)) (m ((c.tc : Thread Cert.FramesIdeal.nD Cert.FramesIdeal.τ).loc Cert.FramesIdeal.main_arg4)) (m ((c.tc : Thread Cert.FramesIdeal.nD Cert.FramesIdeal.τ).loc Cert.FramesIdeal.main_arg5)) (r.2.mem ((c.tc : Thread Cert.FramesIdeal.nD Cert.FramesIdeal.τ).loc Cert.FramesIdeal.main_v0_0)) (r.2.mem ((c.tc : Thread Cert.FramesIdeal.nD Cert.FramesIdeal.τ).loc Cert.FramesIdeal.main_v0_1)) (r.2.mem ((c.tc : Thread Cert.FramesIdeal.nD Cert.FramesIdeal.τ).loc Cert.FramesIdeal.main_v0_2)) (r.2.mem ((c.tc : Thread Cert.FramesIdeal.nD Cert.FramesIdeal.τ).loc Cert.FramesIdeal.main_v0_3)) (r.2.mem ((c.tc : Thread Cert.FramesIdeal.nD Cert.FramesIdeal.τ).loc Cert.FramesIdeal.main_v0_4)) (r.2.mem ((c.tc : Thread Cert.FramesIdeal.nD Cert.FramesIdeal.τ).loc Cert.FramesIdeal.main_v0_5)) (r.2.mem ((c.tc : Thread Cert.FramesIdeal.nD Cert.FramesIdeal.τ).loc Cert.FramesIdeal.main_v0_6)) (r.2.mem ((c.tc : Thread Cert.FramesIdeal.nD Cert.FramesIdeal.τ).loc Cert.FramesIdeal.main_v0_7)) (r.2.mem ((c.tc : Thread Cert.FramesIdeal.nD Cert.FramesIdeal.τ).loc Cert.FramesIdeal.main_v0_8))) = (fun _ => 1#1))

def Claim : Prop :=
  ∃ (hKernel : Cert.Kernel.Facts) (hKernelIdeal : Cert.KernelIdeal.Facts) (hReferenceIdeal : Cert.ReferenceIdeal.Facts) (hFrames : Cert.Frames.Facts) (hFramesIdeal : Cert.FramesIdeal.Facts) (hPre_finite : Cert.Pre_finite.Facts) (hPre_finite_planes : Cert.Pre_finite_planes.Facts) (hPost_orthonormal : Cert.Post_orthonormal.Facts) (hPost_ascending : Cert.Post_ascending.Facts) (hPost_nearly_diagonal : Cert.Post_nearly_diagonal.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Frames (hFrames := hFrames)
    ∧ quiescent_FramesIdeal (hFramesIdeal := hFramesIdeal)
    ∧ quiescent_FramesIdeal_pre_finite_planes (hFramesIdeal := hFramesIdeal) (hPre_finite_planes := hPre_finite_planes)
    ∧ preserves_Kernel_KernelIdeal
    ∧ algebraic_KernelIdeal_ReferenceIdeal_pre_finite (hKernelIdeal := hKernelIdeal) (hReferenceIdeal := hReferenceIdeal) (hPre_finite := hPre_finite)
    ∧ preserves_Frames_FramesIdeal
    ∧ holds_FramesIdeal_orthonormal (hFramesIdeal := hFramesIdeal) (hPost_orthonormal := hPost_orthonormal)
    ∧ holds_FramesIdeal_ascending_pre_finite_planes (hFramesIdeal := hFramesIdeal) (hPre_finite_planes := hPre_finite_planes) (hPost_ascending := hPost_ascending)
    ∧ holds_FramesIdeal_nearly_diagonal_pre_finite_planes (hFramesIdeal := hFramesIdeal) (hPre_finite_planes := hPre_finite_planes) (hPost_nearly_diagonal := hPost_nearly_diagonal)
-- ==== Post_ascending.lean ====
abbrev S16x1x2048 : Shape := ⟨3, ![16, 1, 2048]⟩

class Facts : Prop where

variable [Facts]

def fn_part2 {F : FTy → Type} [FloatOps F] (main_arg2 : FVec F S16x1x2048 .f32) (main_arg4 : FVec F S16x1x2048 .f32) (main_arg5 : FVec F S16x1x2048 .f32) (main_arg8 : FVec F S16x1x2048 .f32) (main_arg11 : FVec F S16x1x2048 .f32) (main_arg14 : FVec F S16x1x2048 .f32) (main_v19 : FVec F S16x1x2048 .f32) (main_v39 : FVec F S16x1x2048 .f32) (main_v45 : FVec F S16x1x2048 .f32) (main_v46 : FVec F S16x1x2048 .f32) (main_v47 : FVec F S16x1x2048 .f32) : IVec S16x1x2048 1 :=
  let main_v48 : FVec F S16x1x2048 .f32 := addf main_v46 main_v47
  let main_v49 : FVec F S16x1x2048 .f32 := mulf main_arg4 main_arg14
  let main_v50 : FVec F S16x1x2048 .f32 := addf main_v48 main_v49
  let main_v51 : FVec F S16x1x2048 .f32 := mulf main_arg11 main_v50
  let main_v52 : FVec F S16x1x2048 .f32 := addf main_v45 main_v51
  let main_v53 : FVec F S16x1x2048 .f32 := mulf main_arg2 main_arg8
  let main_v54 : FVec F S16x1x2048 .f32 := mulf main_arg4 main_arg11
  let main_v55 : FVec F S16x1x2048 .f32 := addf main_v53 main_v54
  let main_v56 : FVec F S16x1x2048 .f32 := mulf main_arg5 main_arg14
  let main_v57 : FVec F S16x1x2048 .f32 := addf main_v55 main_v56
  let main_v58 : FVec F S16x1x2048 .f32 := mulf main_arg14 main_v57
  let main_v59 : FVec F S16x1x2048 .f32 := addf main_v52 main_v58
  let main_v60 : IVec S16x1x2048 1 := cmpf .ole main_v19 main_v39
  let main_v61 : IVec S16x1x2048 1 := cmpf .ole main_v39 main_v59
  let main_v62 : IVec S16x1x2048 1 := andi main_v60 main_v61
  main_v62

def fn_part1 {F : FTy → Type} [FloatOps F] (main_arg0 : FVec F S16x1x2048 .f32) (main_arg1 : FVec F S16x1x2048 .f32) (main_arg2 : FVec F S16x1x2048 .f32) (main_arg3 : FVec F S16x1x2048 .f32) (main_arg4 : FVec F S16x1x2048 .f32) (main_arg5 : FVec F S16x1x2048 .f32) (main_arg7 : FVec F S16x1x2048 .f32) (main_arg8 : FVec F S16x1x2048 .f32) (main_arg10 : FVec F S16x1x2048 .f32) (main_arg11 : FVec F S16x1x2048 .f32) (main_arg13 : FVec F S16x1x2048 .f32) (main_arg14 : FVec F S16x1x2048 .f32) (main_v19 : FVec F S16x1x2048 .f32) (main_v22 : FVec F S16x1x2048 .f32) (main_v23 : FVec F S16x1x2048 .f32) : IVec S16x1x2048 1 :=
  let main_v24 : FVec F S16x1x2048 .f32 := addf main_v22 main_v23
  let main_v25 : FVec F S16x1x2048 .f32 := mulf main_arg7 main_v24
  let main_v26 : FVec F S16x1x2048 .f32 := mulf main_arg1 main_arg7
  let main_v27 : FVec F S16x1x2048 .f32 := mulf main_arg3 main_arg10
  let main_v28 : FVec F S16x1x2048 .f32 := addf main_v26 main_v27
  let main_v29 : FVec F S16x1x2048 .f32 := mulf main_arg4 main_arg13
  let main_v30 : FVec F S16x1x2048 .f32 := addf main_v28 main_v29
  let main_v31 : FVec F S16x1x2048 .f32 := mulf main_arg10 main_v30
  let main_v32 : FVec F S16x1x2048 .f32 := addf main_v25 main_v31
  let main_v33 : FVec F S16x1x2048 .f32 := mulf main_arg2 main_arg7
  let main_v34 : FVec F S16x1x2048 .f32 := mulf main_arg4 main_arg10
  let main_v35 : FVec F S16x1x2048 .f32 := addf main_v33 main_v34
  let main_v36 : FVec F S16x1x2048 .f32 := mulf main_arg5 main_arg13
  let main_v37 : FVec F S16x1x2048 .f32 := addf main_v35 main_v36
  let main_v38 : FVec F S16x1x2048 .f32 := mulf main_arg13 main_v37
  let main_v39 : FVec F S16x1x2048 .f32 := addf main_v32 main_v38
  let main_v40 : FVec F S16x1x2048 .f32 := mulf main_arg0 main_arg8
  let main_v41 : FVec F S16x1x2048 .f32 := mulf main_arg1 main_arg11
  let main_v42 : FVec F S16x1x2048 .f32 := addf main_v40 main_v41
  let main_v43 : FVec F S16x1x2048 .f32 := mulf main_arg2 main_arg14
  let main_v44 : FVec F S16x1x2048 .f32 := addf main_v42 main_v43
  let main_v45 : FVec F S16x1x2048 .f32 := mulf main_arg8 main_v44
  let main_v46 : FVec F S16x1x2048 .f32 := mulf main_arg1 main_arg8
  let main_v47 : FVec F S16x1x2048 .f32 := mulf main_arg3 main_arg11
  fn_part2 (F := F) main_arg2 main_arg4 main_arg5 main_arg8 main_arg11 main_arg14 main_v19 main_v39 main_v45 main_v46 main_v47

def fn {F : FTy → Type} [FloatOps F] (main_arg0 : FVec F S16x1x2048 .f32) (main_arg1 : FVec F S16x1x2048 .f32) (main_arg2 : FVec F S16x1x2048 .f32) (main_arg3 : FVec F S16x1x2048 .f32) (main_arg4 : FVec F S16x1x2048 .f32) (main_arg5 : FVec F S16x1x2048 .f32) (main_arg6 : FVec F S16x1x2048 .f32) (main_arg7 : FVec F S16x1x2048 .f32) (main_arg8 : FVec F S16x1x2048 .f32) (main_arg9 : FVec F S16x1x2048 .f32) (main_arg10 : FVec F S16x1x2048 .f32) (main_arg11 : FVec F S16x1x2048 .f32) (main_arg12 : FVec F S16x1x2048 .f32) (main_arg13 : FVec F S16x1x2048 .f32) (main_arg14 : FVec F S16x1x2048 .f32) : IVec S16x1x2048 1 :=
  let main_v0 : FVec F S16x1x2048 .f32 := mulf main_arg0 main_arg6
  let main_v1 : FVec F S16x1x2048 .f32 := mulf main_arg1 main_arg9
  let main_v2 : FVec F S16x1x2048 .f32 := addf main_v0 main_v1
  let main_v3 : FVec F S16x1x2048 .f32 := mulf main_arg2 main_arg12
  let main_v4 : FVec F S16x1x2048 .f32 := addf main_v2 main_v3
  let main_v5 : FVec F S16x1x2048 .f32 := mulf main_arg6 main_v4
  let main_v6 : FVec F S16x1x2048 .f32 := mulf main_arg1 main_arg6
  let main_v7 : FVec F S16x1x2048 .f32 := mulf main_arg3 main_arg9
  let main_v8 : FVec F S16x1x2048 .f32 := addf main_v6 main_v7
  let main_v9 : FVec F S16x1x2048 .f32 := mulf main_arg4 main_arg12
  let main_v10 : FVec F S16x1x2048 .f32 := addf main_v8 main_v9
  let main_v11 : FVec F S16x1x2048 .f32 := mulf main_arg9 main_v10
  let main_v12 : FVec F S16x1x2048 .f32 := addf main_v5 main_v11
  let main_v13 : FVec F S16x1x2048 .f32 := mulf main_arg2 main_arg6
  let main_v14 : FVec F S16x1x2048 .f32 := mulf main_arg4 main_arg9
  let main_v15 : FVec F S16x1x2048 .f32 := addf main_v13 main_v14
  let main_v16 : FVec F S16x1x2048 .f32 := mulf main_arg5 main_arg12
  let main_v17 : FVec F S16x1x2048 .f32 := addf main_v15 main_v16
  let main_v18 : FVec F S16x1x2048 .f32 := mulf main_arg12 main_v17
  let main_v19 : FVec F S16x1x2048 .f32 := addf main_v12 main_v18
  let main_v20 : FVec F S16x1x2048 .f32 := mulf main_arg0 main_arg7
  let main_v21 : FVec F S16x1x2048 .f32 := mulf main_arg1 main_arg10
  let main_v22 : FVec F S16x1x2048 .f32 := addf main_v20 main_v21
  let main_v23 : FVec F S16x1x2048 .f32 := mulf main_arg2 main_arg13
  fn_part1 (F := F) main_arg0 main_arg1 main_arg2 main_arg3 main_arg4 main_arg5 main_arg7 main_arg8 main_arg10 main_arg11 main_arg13 main_arg14 main_v19 main_v22 main_v23
-- ==== Post_nearly_diagonal.lean ====
abbrev S16x1x2048 : Shape := ⟨3, ![16, 1, 2048]⟩
abbrev S_ : Shape := ⟨0, ![]⟩

class Facts : Prop where
  bcast_S_S16x1x2048 : S_.BroadcastsInDim S16x1x2048 (![] : Fin 0 → Fin S16x1x2048.rank)

variable [Facts]

def fn_part3 {F : FTy → Type} [FloatOps F] (main_v64 : FVec F S16x1x2048 .f32) (main_v69 : FVec F S16x1x2048 .f32) (main_v70 : FVec F S16x1x2048 .f32) : IVec S16x1x2048 1 :=
  let main_v71 : FVec F S16x1x2048 .f32 := mulf main_v69 main_v70
  let main_v72 : IVec S16x1x2048 1 := cmpf .ole main_v64 main_v71
  main_v72

def fn_part2 {F : FTy → Type} [FloatOps F] (main_arg1 : FVec F S16x1x2048 .f32) (main_arg2 : FVec F S16x1x2048 .f32) (main_arg4 : FVec F S16x1x2048 .f32) (main_arg5 : FVec F S16x1x2048 .f32) (main_arg8 : FVec F S16x1x2048 .f32) (main_arg10 : FVec F S16x1x2048 .f32) (main_arg11 : FVec F S16x1x2048 .f32) (main_arg13 : FVec F S16x1x2048 .f32) (main_arg14 : FVec F S16x1x2048 .f32) (main_v19 : FVec F S16x1x2048 .f32) (main_v39 : FVec F S16x1x2048 .f32) (main_v45 : FVec F S16x1x2048 .f32) (main_v46 : FVec F S16x1x2048 .f32) (main_v47 : FVec F S16x1x2048 .f32) : IVec S16x1x2048 1 :=
  let main_v48 : FVec F S16x1x2048 .f32 := addf main_v46 main_v47
  let main_v49 : FVec F S16x1x2048 .f32 := mulf main_arg4 main_arg14
  let main_v50 : FVec F S16x1x2048 .f32 := addf main_v48 main_v49
  let main_v51 : FVec F S16x1x2048 .f32 := mulf main_arg10 main_v50
  let main_v52 : FVec F S16x1x2048 .f32 := addf main_v45 main_v51
  let main_v53 : FVec F S16x1x2048 .f32 := mulf main_arg2 main_arg8
  let main_v54 : FVec F S16x1x2048 .f32 := mulf main_arg4 main_arg11
  let main_v55 : FVec F S16x1x2048 .f32 := addf main_v53 main_v54
  let main_v56 : FVec F S16x1x2048 .f32 := mulf main_arg5 main_arg14
  let main_v57 : FVec F S16x1x2048 .f32 := addf main_v55 main_v56
  let main_v58 : FVec F S16x1x2048 .f32 := mulf main_arg13 main_v57
  let main_v59 : FVec F S16x1x2048 .f32 := addf main_v52 main_v58
  let main_v60 : FVec F S16x1x2048 .f32 := mulf main_v19 main_v19
  let main_v61 : FVec F S16x1x2048 .f32 := mulf main_v39 main_v39
  let main_v62 : FVec F S16x1x2048 .f32 := addf main_v60 main_v61
  let main_v63 : FVec F S16x1x2048 .f32 := mulf main_v59 main_v59
  let main_v64 : FVec F S16x1x2048 .f32 := addf main_v62 main_v63
  let main_v65 : FVec F S16x1x2048 .f32 := mulf main_arg1 main_arg1
  let main_v66 : FVec F S16x1x2048 .f32 := mulf main_arg2 main_arg2
  let main_v67 : FVec F S16x1x2048 .f32 := addf main_v65 main_v66
  let main_v68 : FVec F S16x1x2048 .f32 := mulf main_arg4 main_arg4
  let main_v69 : FVec F S16x1x2048 .f32 := addf main_v67 main_v68
  let main_cst : FVec F S_ .f32 := constant S_ .f32 0x38000000#32
  let main_v70 : FVec F S16x1x2048 .f32 := broadcastInDim S16x1x2048 ![] bcast_S_S16x1x2048 main_cst
  fn_part3 (F := F) main_v64 main_v69 main_v70

def fn_part1 {F : FTy → Type} [FloatOps F] (main_arg0 : FVec F S16x1x2048 .f32) (main_arg1 : FVec F S16x1x2048 .f32) (main_arg2 : FVec F S16x1x2048 .f32) (main_arg3 : FVec F S16x1x2048 .f32) (main_arg4 : FVec F S16x1x2048 .f32) (main_arg5 : FVec F S16x1x2048 .f32) (main_arg6 : FVec F S16x1x2048 .f32) (main_arg7 : FVec F S16x1x2048 .f32) (main_arg8 : FVec F S16x1x2048 .f32) (main_arg9 : FVec F S16x1x2048 .f32) (main_arg10 : FVec F S16x1x2048 .f32) (main_arg11 : FVec F S16x1x2048 .f32) (main_arg12 : FVec F S16x1x2048 .f32) (main_arg13 : FVec F S16x1x2048 .f32) (main_arg14 : FVec F S16x1x2048 .f32) (main_v19 : FVec F S16x1x2048 .f32) (main_v22 : FVec F S16x1x2048 .f32) (main_v23 : FVec F S16x1x2048 .f32) : IVec S16x1x2048 1 :=
  let main_v24 : FVec F S16x1x2048 .f32 := addf main_v22 main_v23
  let main_v25 : FVec F S16x1x2048 .f32 := mulf main_arg6 main_v24
  let main_v26 : FVec F S16x1x2048 .f32 := mulf main_arg1 main_arg8
  let main_v27 : FVec F S16x1x2048 .f32 := mulf main_arg3 main_arg11
  let main_v28 : FVec F S16x1x2048 .f32 := addf main_v26 main_v27
  let main_v29 : FVec F S16x1x2048 .f32 := mulf main_arg4 main_arg14
  let main_v30 : FVec F S16x1x2048 .f32 := addf main_v28 main_v29
  let main_v31 : FVec F S16x1x2048 .f32 := mulf main_arg9 main_v30
  let main_v32 : FVec F S16x1x2048 .f32 := addf main_v25 main_v31
  let main_v33 : FVec F S16x1x2048 .f32 := mulf main_arg2 main_arg8
  let main_v34 : FVec F S16x1x2048 .f32 := mulf main_arg4 main_arg11
  let main_v35 : FVec F S16x1x2048 .f32 := addf main_v33 main_v34
  let main_v36 : FVec F S16x1x2048 .f32 := mulf main_arg5 main_arg14
  let main_v37 : FVec F S16x1x2048 .f32 := addf main_v35 main_v36
  let main_v38 : FVec F S16x1x2048 .f32 := mulf main_arg12 main_v37
  let main_v39 : FVec F S16x1x2048 .f32 := addf main_v32 main_v38
  let main_v40 : FVec F S16x1x2048 .f32 := mulf main_arg0 main_arg8
  let main_v41 : FVec F S16x1x2048 .f32 := mulf main_arg1 main_arg11
  let main_v42 : FVec F S16x1x2048 .f32 := addf main_v40 main_v41
  let main_v43 : FVec F S16x1x2048 .f32 := mulf main_arg2 main_arg14
  let main_v44 : FVec F S16x1x2048 .f32 := addf main_v42 main_v43
  let main_v45 : FVec F S16x1x2048 .f32 := mulf main_arg7 main_v44
  let main_v46 : FVec F S16x1x2048 .f32 := mulf main_arg1 main_arg8
  let main_v47 : FVec F S16x1x2048 .f32 := mulf main_arg3 main_arg11
  fn_part2 (F := F) main_arg1 main_arg2 main_arg4 main_arg5 main_arg8 main_arg10 main_arg11 main_arg13 main_arg14 main_v19 main_v39 main_v45 main_v46 main_v47

def fn {F : FTy → Type} [FloatOps F] (main_arg0 : FVec F S16x1x2048 .f32) (main_arg1 : FVec F S16x1x2048 .f32) (main_arg2 : FVec F S16x1x2048 .f32) (main_arg3 : FVec F S16x1x2048 .f32) (main_arg4 : FVec F S16x1x2048 .f32) (main_arg5 : FVec F S16x1x2048 .f32) (main_arg6 : FVec F S16x1x2048 .f32) (main_arg7 : FVec F S16x1x2048 .f32) (main_arg8 : FVec F S16x1x2048 .f32) (main_arg9 : FVec F S16x1x2048 .f32) (main_arg10 : FVec F S16x1x2048 .f32) (main_arg11 : FVec F S16x1x2048 .f32) (main_arg12 : FVec F S16x1x2048 .f32) (main_arg13 : FVec F S16x1x2048 .f32) (main_arg14 : FVec F S16x1x2048 .f32) : IVec S16x1x2048 1 :=
  let main_v0 : FVec F S16x1x2048 .f32 := mulf main_arg0 main_arg7
  let main_v1 : FVec F S16x1x2048 .f32 := mulf main_arg1 main_arg10
  let main_v2 : FVec F S16x1x2048 .f32 := addf main_v0 main_v1
  let main_v3 : FVec F S16x1x2048 .f32 := mulf main_arg2 main_arg13
  let main_v4 : FVec F S16x1x2048 .f32 := addf main_v2 main_v3
  let main_v5 : FVec F S16x1x2048 .f32 := mulf main_arg6 main_v4
  let main_v6 : FVec F S16x1x2048 .f32 := mulf main_arg1 main_arg7
  let main_v7 : FVec F S16x1x2048 .f32 := mulf main_arg3 main_arg10
  let main_v8 : FVec F S16x1x2048 .f32 := addf main_v6 main_v7
  let main_v9 : FVec F S16x1x2048 .f32 := mulf main_arg4 main_arg13
  let main_v10 : FVec F S16x1x2048 .f32 := addf main_v8 main_v9
  let main_v11 : FVec F S16x1x2048 .f32 := mulf main_arg9 main_v10
  let main_v12 : FVec F S16x1x2048 .f32 := addf main_v5 main_v11
  let main_v13 : FVec F S16x1x2048 .f32 := mulf main_arg2 main_arg7
  let main_v14 : FVec F S16x1x2048 .f32 := mulf main_arg4 main_arg10
  let main_v15 : FVec F S16x1x2048 .f32 := addf main_v13 main_v14
  let main_v16 : FVec F S16x1x2048 .f32 := mulf main_arg5 main_arg13
  let main_v17 : FVec F S16x1x2048 .f32 := addf main_v15 main_v16
  let main_v18 : FVec F S16x1x2048 .f32 := mulf main_arg12 main_v17
  let main_v19 : FVec F S16x1x2048 .f32 := addf main_v12 main_v18
  let main_v20 : FVec F S16x1x2048 .f32 := mulf main_arg0 main_arg8
  let main_v21 : FVec F S16x1x2048 .f32 := mulf main_arg1 main_arg11
  let main_v22 : FVec F S16x1x2048 .f32 := addf main_v20 main_v21
  let main_v23 : FVec F S16x1x2048 .f32 := mulf main_arg2 main_arg14
  fn_part1 (F := F) main_arg0 main_arg1 main_arg2 main_arg3 main_arg4 main_arg5 main_arg6 main_arg7 main_arg8 main_arg9 main_arg10 main_arg11 main_arg12 main_arg13 main_arg14 main_v19 main_v22 main_v23
-- ==== Post_orthonormal.lean ====
abbrev S16x1x2048 : Shape := ⟨3, ![16, 1, 2048]⟩
abbrev S_ : Shape := ⟨0, ![]⟩

class Facts : Prop where
  bcast_S_S16x1x2048 : S_.BroadcastsInDim S16x1x2048 (![] : Fin 0 → Fin S16x1x2048.rank)

variable [Facts]

def fn_part2 {F : FTy → Type} [FloatOps F] (main_v38 : IVec S16x1x2048 1) (main_v41 : FVec F S16x1x2048 .f32) (main_v42 : FVec F S16x1x2048 .f32) : IVec S16x1x2048 1 :=
  let main_v43 : FVec F S16x1x2048 .f32 := addf main_v41 main_v42
  let main_cst_4 : FVec F S_ .f32 := constant S_ .f32 0x00000000#32
  let main_v44 : FVec F S16x1x2048 .f32 := broadcastInDim S16x1x2048 ![] bcast_S_S16x1x2048 main_cst_4
  let main_v45 : IVec S16x1x2048 1 := cmpf .oeq main_v43 main_v44
  let main_v46 : IVec S16x1x2048 1 := andi main_v38 main_v45
  main_v46

def fn_part1 {F : FTy → Type} [FloatOps F] (main_arg6 : FVec F S16x1x2048 .f32) (main_arg7 : FVec F S16x1x2048 .f32) (main_arg8 : FVec F S16x1x2048 .f32) (main_arg9 : FVec F S16x1x2048 .f32) (main_arg10 : FVec F S16x1x2048 .f32) (main_arg11 : FVec F S16x1x2048 .f32) (main_arg12 : FVec F S16x1x2048 .f32) (main_arg13 : FVec F S16x1x2048 .f32) (main_arg14 : FVec F S16x1x2048 .f32) (main_v14 : IVec S16x1x2048 1) (main_v19 : FVec F S16x1x2048 .f32) (main_v20 : FVec F S16x1x2048 .f32) : IVec S16x1x2048 1 :=
  let main_v21 : IVec S16x1x2048 1 := cmpf .oeq main_v19 main_v20
  let main_v22 : IVec S16x1x2048 1 := andi main_v14 main_v21
  let main_v23 : FVec F S16x1x2048 .f32 := mulf main_arg6 main_arg7
  let main_v24 : FVec F S16x1x2048 .f32 := mulf main_arg9 main_arg10
  let main_v25 : FVec F S16x1x2048 .f32 := addf main_v23 main_v24
  let main_v26 : FVec F S16x1x2048 .f32 := mulf main_arg12 main_arg13
  let main_v27 : FVec F S16x1x2048 .f32 := addf main_v25 main_v26
  let main_cst_2 : FVec F S_ .f32 := constant S_ .f32 0x00000000#32
  let main_v28 : FVec F S16x1x2048 .f32 := broadcastInDim S16x1x2048 ![] bcast_S_S16x1x2048 main_cst_2
  let main_v29 : IVec S16x1x2048 1 := cmpf .oeq main_v27 main_v28
  let main_v30 : IVec S16x1x2048 1 := andi main_v22 main_v29
  let main_v31 : FVec F S16x1x2048 .f32 := mulf main_arg6 main_arg8
  let main_v32 : FVec F S16x1x2048 .f32 := mulf main_arg9 main_arg11
  let main_v33 : FVec F S16x1x2048 .f32 := addf main_v31 main_v32
  let main_v34 : FVec F S16x1x2048 .f32 := mulf main_arg12 main_arg14
  let main_v35 : FVec F S16x1x2048 .f32 := addf main_v33 main_v34
  let main_cst_3 : FVec F S_ .f32 := constant S_ .f32 0x00000000#32
  let main_v36 : FVec F S16x1x2048 .f32 := broadcastInDim S16x1x2048 ![] bcast_S_S16x1x2048 main_cst_3
  let main_v37 : IVec S16x1x2048 1 := cmpf .oeq main_v35 main_v36
  let main_v38 : IVec S16x1x2048 1 := andi main_v30 main_v37
  let main_v39 : FVec F S16x1x2048 .f32 := mulf main_arg7 main_arg8
  let main_v40 : FVec F S16x1x2048 .f32 := mulf main_arg10 main_arg11
  let main_v41 : FVec F S16x1x2048 .f32 := addf main_v39 main_v40
  let main_v42 : FVec F S16x1x2048 .f32 := mulf main_arg13 main_arg14
  fn_part2 (F := F) main_v38 main_v41 main_v42

def fn {F : FTy → Type} [FloatOps F] (main_arg0 : FVec F S16x1x2048 .f32) (main_arg1 : FVec F S16x1x2048 .f32) (main_arg2 : FVec F S16x1x2048 .f32) (main_arg3 : FVec F S16x1x2048 .f32) (main_arg4 : FVec F S16x1x2048 .f32) (main_arg5 : FVec F S16x1x2048 .f32) (main_arg6 : FVec F S16x1x2048 .f32) (main_arg7 : FVec F S16x1x2048 .f32) (main_arg8 : FVec F S16x1x2048 .f32) (main_arg9 : FVec F S16x1x2048 .f32) (main_arg10 : FVec F S16x1x2048 .f32) (main_arg11 : FVec F S16x1x2048 .f32) (main_arg12 : FVec F S16x1x2048 .f32) (main_arg13 : FVec F S16x1x2048 .f32) (main_arg14 : FVec F S16x1x2048 .f32) : IVec S16x1x2048 1 :=
  let main_v0 : FVec F S16x1x2048 .f32 := mulf main_arg6 main_arg6
  let main_v1 : FVec F S16x1x2048 .f32 := mulf main_arg9 main_arg9
  let main_v2 : FVec F S16x1x2048 .f32 := addf main_v0 main_v1
  let main_v3 : FVec F S16x1x2048 .f32 := mulf main_arg12 main_arg12
  let main_v4 : FVec F S16x1x2048 .f32 := addf main_v2 main_v3
  let main_cst : FVec F S_ .f32 := constant S_ .f32 0x3F800000#32
  let main_v5 : FVec F S16x1x2048 .f32 := broadcastInDim S16x1x2048 ![] bcast_S_S16x1x2048 main_cst
  let main_v6 : IVec S16x1x2048 1 := cmpf .oeq main_v4 main_v5
  let main_v7 : FVec F S16x1x2048 .f32 := mulf main_arg7 main_arg7
  let main_v8 : FVec F S16x1x2048 .f32 := mulf main_arg10 main_arg10
  let main_v9 : FVec F S16x1x2048 .f32 := addf main_v7 main_v8
  let main_v10 : FVec F S16x1x2048 .f32 := mulf main_arg13 main_arg13
  let main_v11 : FVec F S16x1x2048 .f32 := addf main_v9 main_v10
  let main_cst_0 : FVec F S_ .f32 := constant S_ .f32 0x3F800000#32
  let main_v12 : FVec F S16x1x2048 .f32 := broadcastInDim S16x1x2048 ![] bcast_S_S16x1x2048 main_cst_0
  let main_v13 : IVec S16x1x2048 1 := cmpf .oeq main_v11 main_v12
  let main_v14 : IVec S16x1x2048 1 := andi main_v6 main_v13
  let main_v15 : FVec F S16x1x2048 .f32 := mulf main_arg8 main_arg8
  let main_v16 : FVec F S16x1x2048 .f32 := mulf main_arg11 main_arg11
  let main_v17 : FVec F S16x1x2048 .f32 := addf main_v15 main_v16
  let main_v18 : FVec F S16x1x2048 .f32 := mulf main_arg14 main_arg14
  let main_v19 : FVec F S16x1x2048 .f32 := addf main_v17 main_v18
  let main_cst_1 : FVec F S_ .f32 := constant S_ .f32 0x3F800000#32
  let main_v20 : FVec F S16x1x2048 .f32 := broadcastInDim S16x1x2048 ![] bcast_S_S16x1x2048 main_cst_1
  fn_part1 (F := F) main_arg6 main_arg7 main_arg8 main_arg9 main_arg10 main_arg11 main_arg12 main_arg13 main_arg14 main_v14 main_v19 main_v20
-- ==== Pre_finite.lean ====
abbrev S16x2048x3 : Shape := ⟨3, ![16, 2048, 3]⟩
abbrev S_ : Shape := ⟨0, ![]⟩

class Facts : Prop where
  bcast_S_S16x2048x3 : S_.BroadcastsInDim S16x2048x3 (![] : Fin 0 → Fin S16x2048x3.rank)
  reducesTo_S16x2048x3_S_d0_1_2 : S16x2048x3.ReducesTo [0, 1, 2] S_
  h_S_ : 0 < S_.numel

variable [Facts]

def fn {F : FTy → Type} [FloatOps F] (main_arg0 : FVec F S16x2048x3 .f32) : IVec S_ 1 :=
  let main_v0 : FVec F S16x2048x3 .f32 := Host.absf main_arg0
  let main_cst : FVec F S_ .f32 := constant S_ .f32 0x7F800000#32
  let main_v1 : FVec F S16x2048x3 .f32 := broadcastInDim S16x2048x3 ![] bcast_S_S16x2048x3 main_cst
  let main_v2 : IVec S16x2048x3 1 := cmpf .olt main_v0 main_v1
  let main_c : IVec S_ 1 := constantI S_ 1 1#1
  let main_v3 : IVec S_ 1 := (fun x v => Host.reduce IntOp.andi x v reducesTo_S16x2048x3_S_d0_1_2 h_S_) main_v2 main_c
  main_v3
-- ==== Pre_finite_planes.lean ====
abbrev S16x1x2048 : Shape := ⟨3, ![16, 1, 2048]⟩
abbrev S_ : Shape := ⟨0, ![]⟩

class Facts : Prop where
  bcast_S_S16x1x2048 : S_.BroadcastsInDim S16x1x2048 (![] : Fin 0 → Fin S16x1x2048.rank)

variable [Facts]

def fn_part1 {F : FTy → Type} [FloatOps F] (main_arg5 : FVec F S16x1x2048 .f32) (main_v18 : IVec S16x1x2048 1) : IVec S16x1x2048 1 :=
  let main_v19 : FVec F S16x1x2048 .f32 := Host.absf main_arg5
  let main_cst_4 : FVec F S_ .f32 := constant S_ .f32 0x7F800000#32
  let main_v20 : FVec F S16x1x2048 .f32 := broadcastInDim S16x1x2048 ![] bcast_S_S16x1x2048 main_cst_4
  let main_v21 : IVec S16x1x2048 1 := cmpf .olt main_v19 main_v20
  let main_v22 : IVec S16x1x2048 1 := andi main_v18 main_v21
  main_v22

def fn {F : FTy → Type} [FloatOps F] (main_arg0 : FVec F S16x1x2048 .f32) (main_arg1 : FVec F S16x1x2048 .f32) (main_arg2 : FVec F S16x1x2048 .f32) (main_arg3 : FVec F S16x1x2048 .f32) (main_arg4 : FVec F S16x1x2048 .f32) (main_arg5 : FVec F S16x1x2048 .f32) : IVec S16x1x2048 1 :=
  let main_v0 : FVec F S16x1x2048 .f32 := Host.absf main_arg0
  let main_cst : FVec F S_ .f32 := constant S_ .f32 0x7F800000#32
  let main_v1 : FVec F S16x1x2048 .f32 := broadcastInDim S16x1x2048 ![] bcast_S_S16x1x2048 main_cst
  let main_v2 : IVec S16x1x2048 1 := cmpf .olt main_v0 main_v1
  let main_v3 : FVec F S16x1x2048 .f32 := Host.absf main_arg1
  let main_cst_0 : FVec F S_ .f32 := constant S_ .f32 0x7F800000#32
  let main_v4 : FVec F S16x1x2048 .f32 := broadcastInDim S16x1x2048 ![] bcast_S_S16x1x2048 main_cst_0
  let main_v5 : IVec S16x1x2048 1 := cmpf .olt main_v3 main_v4
  let main_v6 : IVec S16x1x2048 1 := andi main_v2 main_v5
  let main_v7 : FVec F S16x1x2048 .f32 := Host.absf main_arg2
  let main_cst_1 : FVec F S_ .f32 := constant S_ .f32 0x7F800000#32
  let main_v8 : FVec F S16x1x2048 .f32 := broadcastInDim S16x1x2048 ![] bcast_S_S16x1x2048 main_cst_1
  let main_v9 : IVec S16x1x2048 1 := cmpf .olt main_v7 main_v8
  let main_v10 : IVec S16x1x2048 1 := andi main_v6 main_v9
  let main_v11 : FVec F S16x1x2048 .f32 := Host.absf main_arg3
  let main_cst_2 : FVec F S_ .f32 := constant S_ .f32 0x7F800000#32
  let main_v12 : FVec F S16x1x2048 .f32 := broadcastInDim S16x1x2048 ![] bcast_S_S16x1x2048 main_cst_2
  let main_v13 : IVec S16x1x2048 1 := cmpf .olt main_v11 main_v12
  let main_v14 : IVec S16x1x2048 1 := andi main_v10 main_v13
  let main_v15 : FVec F S16x1x2048 .f32 := Host.absf main_arg4
  let main_cst_3 : FVec F S_ .f32 := constant S_ .f32 0x7F800000#32
  let main_v16 : FVec F S16x1x2048 .f32 := broadcastInDim S16x1x2048 ![] bcast_S_S16x1x2048 main_cst_3
  let main_v17 : IVec S16x1x2048 1 := cmpf .olt main_v15 main_v16
  let main_v18 : IVec S16x1x2048 1 := andi main_v14 main_v17
  fn_part1 (F := F) main_arg5 main_v18
-- ==== Kernel.lean ====
abbrev S16x2048x3 : Shape := ⟨3, ![16, 2048, 3]⟩
abbrev S16x3x2048 : Shape := ⟨3, ![16, 3, 2048]⟩
abbrev S16x32x3x2048 : Shape := ⟨4, ![16, 32, 3, 2048]⟩
abbrev S16x1x2048 : Shape := ⟨3, ![16, 1, 2048]⟩
abbrev S1x2048x3 : Shape := ⟨3, ![1, 2048, 3]⟩
abbrev S1x3x2048 : Shape := ⟨3, ![1, 3, 2048]⟩
abbrev S1x3x128 : Shape := ⟨3, ![1, 3, 128]⟩
abbrev S1x32x3x128 : Shape := ⟨4, ![1, 32, 3, 128]⟩
abbrev S1x1x128 : Shape := ⟨3, ![1, 1, 128]⟩
abbrev S2048x128 : Shape := ⟨2, ![2048, 128]⟩
abbrev S32x3x128 : Shape := ⟨3, ![32, 3, 128]⟩
abbrev S3x128 : Shape := ⟨2, ![3, 128]⟩
abbrev S2048x3 : Shape := ⟨2, ![2048, 3]⟩
abbrev S3x2048 : Shape := ⟨2, ![3, 2048]⟩
abbrev S2048 : Shape := ⟨1, ![2048]⟩
abbrev S2048x1 : Shape := ⟨2, ![2048, 1]⟩
abbrev S128 : Shape := ⟨1, ![128]⟩
abbrev S1x128 : Shape := ⟨2, ![1, 128]⟩
abbrev S1x1x3x128 : Shape := ⟨4, ![1, 1, 3, 128]⟩
abbrev S16x2048x32x3 : Shape := ⟨4, ![16, 2048, 32, 3]⟩

abbrev nBuf : Space → Nat
  | .hbm => 12
  | .vmem => 26
  | .smem => 0
  | _ => 0

abbrev bufTy : (tb : Table) → Fin (tcTables nBuf tb) → BufTy
  | .hbm, ⟨0, _⟩ => ⟨S16x2048x3, .f32⟩
  | .hbm, ⟨1, _⟩ => ⟨S16x3x2048, .f32⟩
  | .hbm, ⟨2, _⟩ => ⟨S16x32x3x2048, .f32⟩
  | .hbm, ⟨3, _⟩ => ⟨S16x3x2048, .f32⟩
  | .hbm, ⟨4, _⟩ => ⟨S16x1x2048, .f32⟩
  | .hbm, ⟨5, _⟩ => ⟨S16x1x2048, .f32⟩
  | .hbm, ⟨6, _⟩ => ⟨S16x1x2048, .f32⟩
  | .hbm, ⟨7, _⟩ => ⟨S16x1x2048, .f32⟩
  | .hbm, ⟨8, _⟩ => ⟨S16x1x2048, .f32⟩
  | .hbm, ⟨9, _⟩ => ⟨S16x1x2048, .f32⟩
  | .hbm, ⟨10, _⟩ => ⟨S16x2048x3, .f32⟩
  | .hbm, ⟨11, _⟩ => ⟨S16x2048x32x3, .f32⟩
  | .local _ .vmem, ⟨0, _⟩ => ⟨S1x2048x3, .f32⟩
  | .local _ .vmem, ⟨1, _⟩ => ⟨S1x2048x3, .f32⟩
  | .local _ .vmem, ⟨2, _⟩ => ⟨S1x3x2048, .f32⟩
  | .local _ .vmem, ⟨3, _⟩ => ⟨S1x3x2048, .f32⟩
  | .local _ .vmem, ⟨4, _⟩ => ⟨S1x3x128, .f32⟩
  | .local _ .vmem, ⟨5, _⟩ => ⟨S1x3x128, .f32⟩
  | .local _ .vmem, ⟨6, _⟩ => ⟨S1x32x3x128, .f32⟩
  | .local _ .vmem, ⟨7, _⟩ => ⟨S1x32x3x128, .f32⟩
  | .local _ .vmem, ⟨8, _⟩ => ⟨S1x3x128, .f32⟩
  | .local _ .vmem, ⟨9, _⟩ => ⟨S1x3x128, .f32⟩
  | .local _ .vmem, ⟨10, _⟩ => ⟨S1x1x128, .f32⟩
  | .local _ .vmem, ⟨11, _⟩ => ⟨S1x1x128, .f32⟩
  | .local _ .vmem, ⟨12, _⟩ => ⟨S1x1x128, .f32⟩
  | .local _ .vmem, ⟨13, _⟩ => ⟨S1x1x128, .f32⟩
  | .local _ .vmem, ⟨14, _⟩ => ⟨S1x1x128, .f32⟩
  | .local _ .vmem, ⟨15, _⟩ => ⟨S1x1x128, .f32⟩
  | .local _ .vmem, ⟨16, _⟩ => ⟨S1x1x128, .f32⟩
  | .local _ .vmem, ⟨17, _⟩ => ⟨S1x1x128, .f32⟩
  | .local _ .vmem, ⟨18, _⟩ => ⟨S1x1x128, .f32⟩
  | .local _ .vmem, ⟨19, _⟩ => ⟨S1x1x128, .f32⟩
  | .local _ .vmem, ⟨20, _⟩ => ⟨S1x1x128, .f32⟩
  | .local _ .vmem, ⟨21, _⟩ => ⟨S1x1x128, .f32⟩
  | .local _ .vmem, ⟨22, _⟩ => ⟨S2048x128, .f32⟩
  | .local _ .vmem, ⟨23, _⟩ => ⟨S2048x128, .i32⟩
  | .local _ .vmem, ⟨24, _⟩ => ⟨S32x3x128, .f32⟩
  | .local _ .vmem, ⟨25, _⟩ => ⟨S3x128, .f32⟩
  | _, _ => ⟨S16x2048x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev main_v1_2 : Ref sig .tc := ⟨.hbm, 4, rfl⟩
abbrev main_v1_3 : Ref sig .tc := ⟨.hbm, 5, rfl⟩
abbrev main_v1_4 : Ref sig .tc := ⟨.hbm, 6, rfl⟩
abbrev main_v1_5 : Ref sig .tc := ⟨.hbm, 7, rfl⟩
abbrev main_v1_6 : Ref sig .tc := ⟨.hbm, 8, rfl⟩
abbrev main_v1_7 : Ref sig .tc := ⟨.hbm, 9, rfl⟩
abbrev main_v2 : Ref sig .tc := ⟨.hbm, 10, rfl⟩
abbrev main_v3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![16, 16], ![false, false]⟩

@[reducible] def k0_t1_loop : Scf.Loop 32 :=
  let c0_i32 : BitVec 32 := 0#32
  let c32_i32 : BitVec 32 := 32#32
  let v34 : BitVec 32 := Scalar.addi c0_i32 c32_i32
  let c1_i32 : BitVec 32 := 1#32
  ⟨c0_i32, v34, c1_i32⟩
def k0_off1 (k0_t1 : Fin k0_t1_loop.trips) : Fin 3 → Nat :=
  let c0_i32 : BitVec 32 := 0#32
  let c1_i32 : BitVec 32 := 1#32
  let arg17 : BitVec 32 := Scf.iv c0_i32 c1_i32 k0_t1
  let v821 : Index := Scalar.indexCast arg17
  let c0_253 : Index := 0#32
  let c0_254 : Index := 0#32
  ![v821.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x3x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x3x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x32x3x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x3x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S16x2048x3 : Shape := ⟨3, ![16, 2048, 3]⟩
abbrev S_ : Shape := ⟨0, ![]⟩
abbrev S16x2048 : Shape := ⟨2, ![16, 2048]⟩
abbrev S16x2048x1 : Shape := ⟨3, ![16, 2048, 1]⟩
abbrev S16x2048x2048 : Shape := ⟨3, ![16, 2048, 2048]⟩
abbrev S16x1x2048 : Shape := ⟨3, ![16, 1, 2048]⟩
abbrev S16x2048x32 : Shape := ⟨3, ![16, 2048, 32]⟩
abbrev S16 : Shape := ⟨1, ![16]⟩
abbrev S16x1x1 : Shape := ⟨3, ![16, 1, 1]⟩
abbrev S16x2048x32x1 : Shape := ⟨4, ![16, 2048, 32, 1]⟩
abbrev S16x2048x32x2 : Shape := ⟨4, ![16, 2048, 32, 2]⟩
abbrev S16x2048x32x3 : Shape := ⟨4, ![16, 2048, 32, 3]⟩
abbrev S16x2048x1x3 : Shape := ⟨4, ![16, 2048, 1, 3]⟩
abbrev S16x2048x3x3 : Shape := ⟨4, ![16, 2048, 3, 3]⟩
abbrev S16x2048x1x1 : Shape := ⟨4, ![16, 2048, 1, 1]⟩

abbrev nBuf : Space → Nat
  | .hbm => 65
  | .vmem => 0
  | .smem => 0
  | _ => 0

abbrev bufTy : (tb : Table) → Fin (tcTables nBuf tb) → BufTy
  | .hbm, ⟨0, _⟩ => ⟨S16x2048x3, .f32⟩
  | .hbm, ⟨1, _⟩ => ⟨S16x2048x3, .f32⟩
  | .hbm, ⟨2, _⟩ => ⟨S_, .f32⟩
  | .hbm, ⟨3, _⟩ => ⟨S16x2048, .f32⟩
  | .hbm, ⟨4, _⟩ => ⟨S16x2048x1, .f32⟩
  | .hbm, ⟨5, _⟩ => ⟨S16x2048x2048, .f32⟩
  | .hbm, ⟨6, _⟩ => ⟨S_, .f32⟩
  | .hbm, ⟨7, _⟩ => ⟨S16x2048x2048, .f32⟩
  | .hbm, ⟨8, _⟩ => ⟨S16x2048x2048, .f32⟩
  | .hbm, ⟨9, _⟩ => ⟨S16x2048x2048, .f32⟩
  | .hbm, ⟨10, _⟩ => ⟨S16x2048x2048, .f32⟩
  | .hbm, ⟨11, _⟩ => ⟨S16x1x2048, .f32⟩
  | .hbm, ⟨12, _⟩ => ⟨S16x2048x2048, .f32⟩
  | .hbm, ⟨13, _⟩ => ⟨S16x2048x2048, .f32⟩
  | .hbm, ⟨14, _⟩ => ⟨S16x2048x2048, .f32⟩
  | .hbm, ⟨15, _⟩ => ⟨S16x2048x32, .f32⟩
  | .hbm, ⟨16, _⟩ => ⟨S16x2048x32, .i32⟩
  | .hbm, ⟨17, _⟩ => ⟨S16, .i32⟩
  | .hbm, ⟨18, _⟩ => ⟨S16x1x1, .i32⟩
  | .hbm, ⟨19, _⟩ => ⟨S_, .i32⟩
  | .hbm, ⟨20, _⟩ => ⟨S16x1x1, .i32⟩
  | .hbm, ⟨21, _⟩ => ⟨S16x1x1, .i1⟩
  | .hbm, ⟨22, _⟩ => ⟨S_, .i32⟩
  | .hbm, ⟨23, _⟩ => ⟨S16x1x1, .i32⟩
  | .hbm, ⟨24, _⟩ => ⟨S16x1x1, .i32⟩
  | .hbm, ⟨25, _⟩ => ⟨S16x1x1, .i32⟩
  | .hbm, ⟨26, _⟩ => ⟨S_, .i32⟩
  | .hbm, ⟨27, _⟩ => ⟨S16x2048x32, .i32⟩
  | .hbm, ⟨28, _⟩ => ⟨S16x2048x32, .i1⟩
  | .hbm, ⟨29, _⟩ => ⟨S_, .i32⟩
  | .hbm, ⟨30, _⟩ => ⟨S16x2048x32, .i32⟩
  | .hbm, ⟨31, _⟩ => ⟨S16x2048x32, .i32⟩
  | .hbm, ⟨32, _⟩ => ⟨S16x2048x32, .i32⟩
  | .hbm, ⟨33, _⟩ => ⟨S16x2048x32, .i32⟩
  | .hbm, ⟨34, _⟩ => ⟨S16x2048x32x1, .i32⟩
  | .hbm, ⟨35, _⟩ => ⟨S16x2048x32x1, .i32⟩
  | .hbm, ⟨36, _⟩ => ⟨S16x2048x32x2, .i32⟩
  | .hbm, ⟨37, _⟩ => ⟨S16x2048x32x3, .f32⟩
  | .hbm, ⟨38, _⟩ => ⟨S_, .f32⟩
  | .hbm, ⟨39, _⟩ => ⟨S16x2048x3, .f32⟩
  | .hbm, ⟨40, _⟩ => ⟨S_, .f32⟩
  | .hbm, ⟨41, _⟩ => ⟨S16x2048x3, .f32⟩
  | .hbm, ⟨42, _⟩ => ⟨S16x2048x3, .f32⟩
  | .hbm, ⟨43, _⟩ => ⟨S16x2048x1x3, .f32⟩
  | .hbm, ⟨44, _⟩ => ⟨S16x2048x32x3, .f32⟩
  | .hbm, ⟨45, _⟩ => ⟨S16x2048x32x3, .f32⟩
  | .hbm, ⟨46, _⟩ => ⟨S16x2048x3x3, .f32⟩
  | .hbm, ⟨47, _⟩ => ⟨S16x2048x1x1, .f32⟩
  | .hbm, ⟨48, _⟩ => ⟨S16x2048, .f32⟩
  | .hbm, ⟨49, _⟩ => ⟨S16x1x2048, .f32⟩
  | .hbm, ⟨50, _⟩ => ⟨S16x2048x1x1, .f32⟩
  | .hbm, ⟨51, _⟩ => ⟨S16x2048, .f32⟩
  | .hbm, ⟨52, _⟩ => ⟨S16x1x2048, .f32⟩
  | .hbm, ⟨53, _⟩ => ⟨S16x2048x1x1, .f32⟩
  | .hbm, ⟨54, _⟩ => ⟨S16x2048, .f32⟩
  | .hbm, ⟨55, _⟩ => ⟨S16x1x2048, .f32⟩
  | .hbm, ⟨56, _⟩ => ⟨S16x2048x1x1, .f32⟩
  | .hbm, ⟨57, _⟩ => ⟨S16x2048, .f32⟩
  | .hbm, ⟨58, _⟩ => ⟨S16x1x2048, .f32⟩
  | .hbm, ⟨59, _⟩ => ⟨S16x2048x1x1, .f32⟩
  | .hbm, ⟨60, _⟩ => ⟨S16x2048, .f32⟩
  | .hbm, ⟨61, _⟩ => ⟨S16x1x2048, .f32⟩
  | .hbm, ⟨62, _⟩ => ⟨S16x2048x1x1, .f32⟩
  | .hbm, ⟨63, _⟩ => ⟨S16x2048, .f32⟩
  | .hbm, ⟨64, _⟩ => ⟨S16x1x2048, .f32⟩
  | _, _ => ⟨S16x2048x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_values : Ref sig .tc := ⟨.hbm, 15, rfl⟩
abbrev main_indices : Ref sig .tc := ⟨.hbm, 16, rfl⟩
abbrev main_v12 : Ref sig .tc := ⟨.hbm, 17, rfl⟩
abbrev main_v13 : Ref sig .tc := ⟨.hbm, 18, rfl⟩
abbrev main_c : Ref sig .tc := ⟨.hbm, 19, rfl⟩
abbrev main_v14 : Ref sig .tc := ⟨.hbm, 20, rfl⟩
abbrev main_v15 : Ref sig .tc := ⟨.hbm, 21, rfl⟩
abbrev main_c_1 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_c_2 : Ref sig .tc := ⟨.hbm, 26, rfl⟩
abbrev main_v19 : Ref sig .tc := ⟨.hbm, 27, rfl⟩
abbrev main_v20 : Ref sig .tc := ⟨.hbm, 28, rfl⟩
abbrev main_c_3 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_4 : Ref sig .tc := ⟨.hbm, 38, rfl⟩
abbrev main_v29 : Ref sig .tc := ⟨.hbm, 39, rfl⟩
abbrev main_cst_5 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩

abbrev nD : Nat := 1
abbrev τ : Topo := Topo.v7x

variable {F : FTy → Type} [FloatOps F]
-- ==== Frames.lean ====
abbrev S16x1x2048 : Shape := ⟨3, ![16, 1, 2048]⟩

abbrev nBuf : Space → Nat
  | .hbm => 15
  | .vmem => 15
  | .smem => 0
  | _ => 0

abbrev bufTy : (tb : Table) → Fin (tcTables nBuf tb) → BufTy
  | .hbm, ⟨0, _⟩ => ⟨S16x1x2048, .f32⟩
  | .hbm, ⟨1, _⟩ => ⟨S16x1x2048, .f32⟩
  | .hbm, ⟨2, _⟩ => ⟨S16x1x2048, .f32⟩
  | .hbm, ⟨3, _⟩ => ⟨S16x1x2048, .f32⟩
  | .hbm, ⟨4, _⟩ => ⟨S16x1x2048, .f32⟩
  | .hbm, ⟨5, _⟩ => ⟨S16x1x2048, .f32⟩
  | .hbm, ⟨6, _⟩ => ⟨S16x1x2048, .f32⟩
  | .hbm, ⟨7, _⟩ => ⟨S16x1x2048, .f32⟩
  | .hbm, ⟨8, _⟩ => ⟨S16x1x2048, .f32⟩
  | .hbm, ⟨9, _⟩ => ⟨S16x1x2048, .f32⟩
  | .hbm, ⟨10, _⟩ => ⟨S16x1x2048, .f32⟩
  | .hbm, ⟨11, _⟩ => ⟨S16x1x2048, .f32⟩
  | .hbm, ⟨12, _⟩ => ⟨S16x1x2048, .f32⟩
  | .hbm, ⟨13, _⟩ => ⟨S16x1x2048, .f32⟩
  | .hbm, ⟨14, _⟩ => ⟨S16x1x2048, .f32⟩
  | .local _ .vmem, ⟨0, _⟩ => ⟨S16x1x2048, .f32⟩
  | .local _ .vmem, ⟨1, _⟩ => ⟨S16x1x2048, .f32⟩
  | .local _ .vmem, ⟨2, _⟩ => ⟨S16x1x2048, .f32⟩
  | .local _ .vmem, ⟨3, _⟩ => ⟨S16x1x2048, .f32⟩
  | .local _ .vmem, ⟨4, _⟩ => ⟨S16x1x2048, .f32⟩
  | .local _ .vmem, ⟨5, _⟩ => ⟨S16x1x2048, .f32⟩
  | .local _ .vmem, ⟨6, _⟩ => ⟨S16x1x2048, .f32⟩
  | .local _ .vmem, ⟨7, _⟩ => ⟨S16x1x2048, .f32⟩
  | .local _ .vmem, ⟨8, _⟩ => ⟨S16x1x2048, .f32⟩
  | .local _ .vmem, ⟨9, _⟩ => ⟨S16x1x2048, .f32⟩
  | .local _ .vmem, ⟨10, _⟩ => ⟨S16x1x2048, .f32⟩
  | .local _ .vmem, ⟨11, _⟩ => ⟨S16x1x2048, .f32⟩
  | .local _ .vmem, ⟨12, _⟩ => ⟨S16x1x2048, .f32⟩
  | .local _ .vmem, ⟨13, _⟩ => ⟨S16x1x2048, .f32⟩
  | .local _ .vmem, ⟨14, _⟩ => ⟨S16x1x2048, .f32⟩
  | _, _ => ⟨S16x1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev main_v0_5 : Ref sig .tc := ⟨.hbm, 11, rfl⟩
abbrev main_v0_6 : Ref sig .tc := ⟨.hbm, 12, rfl⟩
abbrev main_v0_7 : Ref sig .tc := ⟨.hbm, 13, rfl⟩
abbrev main_v0_8 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c8_i32 : BitVec 32 := 8#32
  let v8 : BitVec 32 := Scalar.addi c0_i32 c8_i32
  let c1_i32 : BitVec 32 := 1#32
  ⟨c0_i32, v8, c1_i32⟩
abbrev stage0_0 : Fin 1 → Memref sig .tc .vmem S16x1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16x1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16x1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S16x1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S16x1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S16x1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S16x1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S16x1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S16x1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S16x1x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S16x1x2048 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
-- ==== Proof.Printed.lean ====
/-
  THE PRINTED KERNEL'S FRAME. Its words are not followed: the body is run with its output buffers and its scratch at any
  contents, and what the pipeline writes back is left unnamed. The argument ends unchanged, the counters at zero.
-/
module

public import proofs.«01_k».proof.Proof.Gen.Kernel.Frame
public import proofs.«01_k».proof.Proof.Gen.Kernel.Skeleton
public import proofs.«01_k».proof.Proof.Gen.Kernel.Loops
public import Idealize.ShloMosaic.Lib.Claim

@[expose] public section

set_option maxRecDepth 16384

noncomputable section

namespace Cert.Kernel.Knn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A buffer owned at some contents. -/
abbrev held (c : Dev nD) {s : Shape} {e : EltTy} (r : Memref sig .tc .vmem s e) : sProp 𝕄 :=
  iprop(∃ d, owns (c : Thread nD τ) r fullShare d)

set_option maxHeartbeats 1000000 in
/-- The body runs on whole buffers, the three inputs at their contents, everything else at anything; it leaves the inputs as they
    were. -/
theorem body_any (c : Dev nD) (i : grid0.Coords)
    (arg2 : Memref sig .tc .vmem S1x2048x3 .f32) (harg2 : arg2.IsWhole)
    (arg3 : Memref sig .tc .vmem S1x3x2048 .f32) (harg3 : arg3.IsWhole)
    (arg4 : Memref sig .tc .vmem S1x3x128 .f32) (harg4 : arg4.IsWhole)
    (arg5 : Memref sig .tc .vmem S1x32x3x128 .f32) (harg5 : arg5.IsWhole)
    (arg6 : Memref sig .tc .vmem S1x3x128 .f32) (harg6 : arg6.IsWhole)
    (arg7 : Memref sig .tc .vmem S1x1x128 .f32) (harg7 : arg7.IsWhole)
    (arg8 : Memref sig .tc .vmem S1x1x128 .f32) (harg8 : arg8.IsWhole)
    (arg9 : Memref sig .tc .vmem S1x1x128 .f32) (harg9 : arg9.IsWhole)
    (arg10 : Memref sig .tc .vmem S1x1x128 .f32) (harg10 : arg10.IsWhole)
    (arg11 : Memref sig .tc .vmem S1x1x128 .f32) (harg11 : arg11.IsWhole)
    (arg12 : Memref sig .tc .vmem S1x1x128 .f32) (harg12 : arg12.IsWhole)
    (arg13 : Memref sig .tc .vmem S2048x128 .f32) (harg13 : arg13.IsWhole)
    (arg14 : Memref sig .tc .vmem S2048x128 .i32) (harg14 : arg14.IsWhole)
    (arg15 : Memref sig .tc .vmem S32x3x128 .f32) (harg15 : arg15.IsWhole)
    (arg16 : Memref sig .tc .vmem S3x128 .f32) (harg16 : arg16.IsWhole)
    (x0 : Vec F S1x2048x3 .f32) (x1 : Vec F S1x3x2048 .f32) (x2 : Vec F S1x3x128 .f32)
    (E : Set ℕ) (K : PUnit → sProp 𝕄) :
    iprop(owns (c : Thread nD τ) arg2 fullShare x0 ∗ owns (c : Thread nD τ) arg3 fullShare x1 ∗ owns (c : Thread nD τ) arg4 fullShare x2
            ∗ held c arg5
            ∗ held c arg6
            ∗ held c arg7
            ∗ held c arg8
            ∗ held c arg9
            ∗ held c arg10
            ∗ held c arg11
            ∗ held c arg12
            ∗ held c arg13
            ∗ held c arg14
            ∗ held c arg15
            ∗ held c arg16
            ∗ (iprop(owns (c : Thread nD τ) arg2 fullShare x0 ∗ owns (c : Thread nD τ) arg3 fullShare x1 ∗ owns (c : Thread nD τ) arg4 fullShare x2
            ∗ held c arg5
            ∗ held c arg6
            ∗ held c arg7
            ∗ held c arg8
            ∗ held c arg9
            ∗ held c arg10
            ∗ held c arg11
            ∗ held c arg12
            ∗ held c arg13
            ∗ held c arg14
            ∗ held c arg15
            ∗ held c arg16) -∗ K ⟨⟩))
      ⊢ wp frame (wpE (defs₀ (F := F)) Variants.none c none) E (cc0_knn_body i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_knn_body_eq_skeleton]; unfold cc0_knn_body_skel
  simp only [k0_part19_eq_skeleton, k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton,
    k0_part11_eq_skeleton, k0_part12_eq_skeleton, k0_part13_eq_skeleton, k0_part14_eq_skeleton, k0_part15_eq_skeleton,
    k0_part16_eq_skeleton, k0_part17_eq_skeleton, k0_part18_eq_skeleton]
  unfold held owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%ds0, %fs0, -, HS0⟩, ⟨%ds1, %fs1, -, HS1⟩, ⟨%ds2, %fs2, -, HS2⟩, ⟨%ds3, %fs3, -, HS3⟩, Hk⟩
  obtain rfl := harg2.eq_unread hf0; obtain rfl := harg3.eq_unread hf1; obtain rfl := harg4.eq_unread hf2
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _, _; isplitr; swap; · iexact H3
    ipureintro; rfl
  isplitl [H4]
  · iexists _, _; isplitr; swap; · iexact H4
    ipureintro; rfl
  isplitl [H5]
  · iexists _, _; isplitr; swap; · iexact H5
    ipureintro; rfl
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [HS0]
  · iexists _, _; isplitr; swap; · iexact HS0
    ipureintro; rfl
  isplitl [HS1]
  · iexists _, _; isplitr; swap; · iexact HS1
    ipureintro; rfl
  isplitl [HS2]
  · iexists _, _; isplitr; swap; · iexact HS2
    ipureintro; rfl
  iexists _, _; isplitr; swap; · iexact HS3
  ipureintro; rfl

/-! ## The buffers the body is called with -/

/-- Window 0's staging buffer at a point. -/
abbrev stg0 (t : Fin cfg0.N) : Memref sig .tc .vmem S1x2048x3 .f32 := win0_0.stage (cfg0.slots t 0)
/-- Window 1's staging buffer at a point. -/
abbrev stg1 (t : Fin cfg0.N) : Memref sig .tc .vmem S1x3x2048 .f32 := win0_1.stage (cfg0.slots t 1)
/-- Window 2's staging buffer at a point. -/
abbrev stg2 (t : Fin cfg0.N) : Memref sig .tc .vmem S1x3x128 .f32 := win0_2.stage (cfg0.slots t 2)
/-- Window 3's staging buffer at a point. -/
abbrev stg3 (t : Fin cfg0.N) : Memref sig .tc .vmem S1x32x3x128 .f32 := win0_3.stage (cfg0.slots t 3)
/-- Window 4's staging buffer at a point. -/
abbrev stg4 (t : Fin cfg0.N) : Memref sig .tc .vmem S1x3x128 .f32 := win0_4.stage (cfg0.slots t 4)
/-- Window 5's staging buffer at a point. -/
abbrev stg5 (t : Fin cfg0.N) : Memref sig .tc .vmem S1x1x128 .f32 := win0_5.stage (cfg0.slots t 5)
/-- Window 6's staging buffer at a point. -/
abbrev stg6 (t : Fin cfg0.N) : Memref sig .tc .vmem S1x1x128 .f32 := win0_6.stage (cfg0.slots t 6)
/-- Window 7's staging buffer at a point. -/
abbrev stg7 (t : Fin cfg0.N) : Memref sig .tc .vmem S1x1x128 .f32 := win0_7.stage (cfg0.slots t 7)
/-- Window 8's staging buffer at a point. -/
abbrev stg8 (t : Fin cfg0.N) : Memref sig .tc .vmem S1x1x128 .f32 := win0_8.stage (cfg0.slots t 8)
/-- Window 9's staging buffer at a point. -/
abbrev stg9 (t : Fin cfg0.N) : Memref sig .tc .vmem S1x1x128 .f32 := win0_9.stage (cfg0.slots t 9)
/-- Window 10's staging buffer at a point. -/
abbrev stg10 (t : Fin cfg0.N) : Memref sig .tc .vmem S1x1x128 .f32 := win0_10.stage (cfg0.slots t 10)
/-- Scratch operand 0. -/
abbrev scr0 : Memref sig .tc .vmem S2048x128 .f32 := Memref.whole cc0_scratch0
/-- Scratch operand 1. -/
abbrev scr1 : Memref sig .tc .vmem S2048x128 .i32 := Memref.whole cc0_scratch1
/-- Scratch operand 2. -/
abbrev scr2 : Memref sig .tc .vmem S32x3x128 .f32 := Memref.whole cc0_scratch2
/-- Scratch operand 3. -/
abbrev scr3 : Memref sig .tc .vmem S3x128 .f32 := Memref.whole cc0_scratch3

/-- Between points the scratch is owned at some contents, and the generator register at some value. -/
theorem between_eq (c : Dev nD) :
    (Pipeline.ΦA spec0 c : sProp 𝕄)
      = iprop(iprop(held c scr0 ∗ held c scr1 ∗ held c scr2 ∗ held c scr3) ∗ (∃ r, prngReg c r)) := by
  unfold Pipeline.ΦA held; rw [scopedRest0_eq]; simp only [scr0, scr1, scr2, scr3, owns_whole]; try rfl

/-- The output windows, of which nothing is named. -/
def unread : Fin 11 → Bool := fun w => 3 ≤ w.val

/-- The arrays as the region finds them; after a point each input's buffer at its block, the outputs unnamed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
    | ⟨4, h⟩ => Pipeline.Dat.unnamed (cfg := cfg0) ⟨4, h⟩ t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
  Φ _ := Pipeline.ΦA spec0 c
  q w := Pipeline.shareOf spec0 w
  owed _ := 0

/-- The arrays at entry. -/
theorem entry_eq (c : Dev nD) (w : Fin cfg0.W) : (dats m 0 c).A w = V m c (Pipeline.arrRef spec0 w) := by
  dsimp only [dats]

/-- Window 0 after a point. -/
theorem left0 (c : Dev nD) (t : Fin cfg0.N) : (dats m 0 c).after 0 t = iblk m c 0 t := by dsimp only [dats]
/-- Window 1 after a point. -/
theorem left1 (c : Dev nD) (t : Fin cfg0.N) : (dats m 0 c).after 1 t = iblk m c 1 t := by dsimp only [dats]
/-- Window 2 after a point. -/
theorem left2 (c : Dev nD) (t : Fin cfg0.N) : (dats m 0 c).after 2 t = iblk m c 2 t := by dsimp only [dats]
/-- Window 0 before a point. -/
theorem found0 (c : Dev nD) (t : Fin cfg0.N) (d) : (dats m 0 c).before 0 t d = iblk m c 0 t :=
  before0_0_of m (dats m 0 c) (entry_eq m c 0) (left0 m c) t d
/-- Window 1 before a point. -/
theorem found1 (c : Dev nD) (t : Fin cfg0.N) (d) : (dats m 0 c).before 1 t d = iblk m c 1 t :=
  before0_1_of m (dats m 0 c) (entry_eq m c 1) (left1 m c) t d
/-- Window 2 before a point. -/
theorem found2 (c : Dev nD) (t : Fin cfg0.N) (d) : (dats m 0 c).before 2 t d = iblk m c 2 t :=
  before0_2_of m (dats m 0 c) (entry_eq m c 2) (left2 m c) t d

/-- What the body is called with at a point. -/
def handed (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ held c (stg3 t)
    ∗ held c (stg4 t)
    ∗ held c (stg5 t)
    ∗ held c (stg6 t)
    ∗ held c (stg7 t)
    ∗ held c (stg8 t)
    ∗ held c (stg9 t)
    ∗ held c (stg10 t))

/-- What it hands back. -/
def returned (c : Dev nD) (t : Fin cfg0.N) : sProp 𝕄 :=
  iprop((dats m 0 c).Φ t.succ ∗ (dats m 0 c).owesAt () t.succ
    ∗ owns (c : Thread nD τ) (stg0 t) fullShare ((dats m 0 c).after 0 t)
    ∗ owns (c : Thread nD τ) (stg1 t) fullShare ((dats m 0 c).after 1 t)
    ∗ owns (c : Thread nD τ) (stg2 t) fullShare ((dats m 0 c).after 2 t)
    ∗ held c (stg3 t)
    ∗ held c (stg4 t)
    ∗ held c (stg5 t)
    ∗ held c (stg6 t)
    ∗ held c (stg7 t)
    ∗ held c (stg8 t)
    ∗ held c (stg9 t)
    ∗ held c (stg10 t))

set_option maxHeartbeats 1200000 in
/-- The body's triple at a point. -/
theorem body_at (c : Dev nD) (t : Fin cfg0.N) :
    handed m c t ⊢ wp frame (wpE (defs₀ (F := F)) Variants.none c none) Set.univ (bodyAt0 t) (fun _ => returned m c t) := by
  unfold handed returned bodyAt0
  simp only [found0, found1, found2]
  rw [show (dats m 0 c).Φ t.succ = (dats m 0 c).Φ t.castSucc from rfl,
    show (dats m 0 c).owesAt () t.succ = (dats m 0 c).owesAt () t.castSucc from rfl, left0, left1, left2]
  rw [show (dats m 0 c).Φ t.castSucc = Pipeline.ΦA spec0 c from rfl, between_eq]
  iintro ⟨⟨⟨HS0, HS1, HS2, HS3⟩, Hg⟩, Ho, ⟨%d0, H0⟩, ⟨%d1, H1⟩, ⟨%d2, H2⟩, H3, H4, H5, H6, H7, H8, H9, H10⟩
  iapply (body_any c (grid0.coords t) _ _ _ _ _ _ _ _ _ _ _ _ _ _ _ _ _ _ _ _ _ _ _ _ _ _ _ _ _ _ (iblk m c 0 t) (iblk m c 1 t) (iblk m c 2 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HS0]; · iexact HS0
  isplitl [HS1]; · iexact HS1
  isplitl [HS2]; · iexact HS2
  isplitl [HS3]; · iexact HS3
  iintro ⟨H0, H1, H2, H3, H4, H5, H6, H7, H8, H9, H10, HS0, HS1, HS2, HS3⟩
  isplitl [HS0 HS1 HS2 HS3 Hg]
  · isplitl [HS0 HS1 HS2 HS3]
    · isplitl [HS0]; · iexact HS0
      isplitl [HS1]; · iexact HS1
      isplitl [HS2]; · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The pipeline's call at a point is the body on the point's buffers. -/
theorem call_eq (t : Fin cfg0.N) : defs₀ (F := F) .tc cfg0.body (cfg0.bodyArgs t (cfg0.slots t)) = bodyAt0 t := by
  unfold defs₀; rw [Defs.onTc_tc]

/-- The obligation. -/
theorem obligation (c : Dev nD) : BodyObligation (dats (F := F) m 0 c) (defs₀ (F := F)) Variants.none () Set.univ unread := fun t => by
  rw [bigSep_W0, bigSep_W0, call_eq]
  exact triple_restated (body_at m c t) rfl .rfl fun _ => .rfl

/-! ## The launch -/

/-- The buffers that the lines after the region write. -/
def rest : Finset (Ref sig .tc) := {main_v2, main_v3}

theorem rest_writes : ∀ ops ∈ ([hostOps1] : List (List (HloOp τ sig (Elt F)))), ∀ op ∈ ops,
    ∀ b : Ref sig .tc, Proc.devRef .tc b ∈ op.writes → b ∈ rest := by
  intro ops hops op hop
  simp only [List.mem_cons, List.mem_nil_iff, or_false] at hops
  subst hops
  simp only [hostOps1, List.mem_cons, List.mem_nil_iff, or_false] at hop
  rcases hop with rfl | rfl
  all_goals
    intro b hb
    simp only [StableHlo.unary_writes, Finset.mem_singleton] at hb
    cases Proc.devRef_injective _ hb
    decide

set_option backward.isDefEq.respectTransparency.types false in
set_option maxHeartbeats 800000 in
/-- Every fair execution ends, the inputs' arrays as they were and every counter zero. -/
theorem launch : θ_run defs (onTc (τ := τ) (main (F := F))) (s₀ m ρ) (fun r =>
    (Pipeline.RDat.FramePostR (cfgs 0) (fun c => (dats m 0 c).toRForget unread) rest (V m)) r ∧ r.2.sem = fun _ => 0) :=
  Pipeline.θ_run_frame_around_T_forget_shared (Q' := _) cfgs (dats m) (0 : Fin 1) launch₀0 defs₀ Variants.none unread rest m ρ main
    (hbody := fun c => (obligation m c).loose) (hq := fun _ _ _ => rfl)
    (howed := fun _ _ => rfl) (V₀ := V0 m) (opss := [hostOps1]) (hsub := sfx_sub) (hfresh := sfx_fresh) (hkeep := sfx_keeps)
    (hT := rest_writes) (hmain := hmain m Variants.none) (hA := entry_eq m) (hΦ := fun _ _ => rfl)

/-- The argument ends unchanged, the counters at zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  (θ_run defs _ _).mono (fun _ h => ⟨fun c =>
    (Pipeline.RDat.FramePostR.arr_in h.1 c 0 rfl).trans ((entry_eq m c 0).trans (V_main_arg0 m c)), h.2⟩) (launch m ρ)

end Cert.Kernel.Knn

end
-- ==== Proof.Spec.lean ====
/-
  THE TWO PROGRAMS' COMMON VALUES, at one cloud `b` and one query point `n`: the negated squared distance to every key
  point, the 32 positions a stable descending sort puts first, those points' coordinates, their centroid, the offsets from
  it and the sums of products of two coordinates of the offsets.
-/
module

public import Idealize.ShloMosaic.Lib.SortPrefix
public import Idealize.ShloMosaic.Lib.Pointwise
public import Idealize.ShloMosaic.PureOps.Ideal.Laws

@[expose] public section

noncomputable section

namespace Cert.Knn

open Idealize.ShloMosaic

/-- The point clouds: 16 of 2048 points with 3 coordinates each. -/
abbrev Clouds : Type := (⟨3, ![16, 2048, 3]⟩ : Shape).Idx → EReal

/-- Coordinate `a` of point `p` of cloud `b`. -/
def pt (X : Clouds) (b : Fin 16) (p : Fin 2048) (a : Fin 3) : EReal := X (ix3 b p a)

/-- The sum of the squares of a point's coordinates. -/
def sq (X : Clouds) (b : Fin 16) (p : Fin 2048) : EReal := ∑ x, pt X b p x * pt X b p x

/-- The negated squared distance of key `p` from query `n`. -/
def key (X : Clouds) (b : Fin 16) (n p : Fin 2048) : EReal :=
  -(sq X b n - Ideal.ofBits .f32 0x40000000#32 * (∑ x, pt X b n x * pt X b p x) + sq X b p)

/-- The position of the `t`-th nearest key. -/
def sel (X : Clouds) (b : Fin 16) (n : Fin 2048) (t : Fin 32) : Fin 2048 :=
  sortedFrom (fun p p' => decide (key X b n p' < key X b n p)) (t.castLE (by decide))

/-- The coordinates of the `t`-th nearest key. -/
def nb (X : Clouds) (b : Fin 16) (n : Fin 2048) (t : Fin 32) (a : Fin 3) : EReal := pt X b (sel X b n t) a

/-- The neighbours' centroid. -/
def mean (X : Clouds) (b : Fin 16) (n : Fin 2048) (a : Fin 3) : EReal :=
  Ideal.div (∑ t, nb X b n t a) (Ideal.ofBits .f32 0x42000000#32)

/-- A neighbour's offset from the centroid. -/
def off (X : Clouds) (b : Fin 16) (n : Fin 2048) (t : Fin 32) (a : Fin 3) : EReal := nb X b n t a - mean X b n a

/-- One entry of the offsets' covariance sums. -/
def cov (X : Clouds) (b : Fin 16) (n : Fin 2048) (i j : Fin 3) : EReal := ∑ t, off X b n t i * off X b n t j

theorem two_eq : Ideal.ofBits .f32 0x40000000#32 = ((2 : ℝ) : EReal) := by
  simp [Ideal.ofBits, Ideal.ieee, -EReal.coe_mul]; norm_num

/-- Finite points are at a finite distance. -/
theorem key_ne_bot (X : Clouds) (hX : ∀ i, ∃ r : ℝ, X i = (r : EReal)) (b : Fin 16) (n p : Fin 2048) : key X b n p ≠ ⊥ := by
  choose f hf using hX
  have hs : ∀ p q, (∑ x, pt X b p x * pt X b q x) = ((∑ x : Fin 3, f (ix3 b p x) * f (ix3 b q x) : ℝ) : EReal) := by
    intro p q
    simp only [pt, hf, Fin.sum_univ_three, ← EReal.coe_mul, ← EReal.coe_add]
  unfold key sq
  rw [hs, hs, hs, two_eq, ← EReal.coe_mul, ← EReal.coe_sub, ← EReal.coe_add, ← EReal.coe_neg]
  exact EReal.coe_ne_bot _

end Cert.Knn

end
-- ==== Proof.Reference.lean ====
/-
  THE REFERENCE'S VALUES: the arrays its run leaves, read at an index, are the common values of `Spec.lean`.
-/
module

public import proofs.«01_k».proof.Proof.Gen.ReferenceIdeal.Run
public import proofs.«01_k».proof.Proof.Spec
public import Idealize.ShloMosaic.Lib.Pointwise
public import Idealize.ShloMosaic.Lib.Tactic.CleanTypes

@[expose] public section

set_option maxRecDepth 16384

noncomputable section

namespace Cert.ReferenceIdeal.Knn

open Idealize.ShloMosaic Cert.ReferenceIdeal Cert.ReferenceIdeal.Gen
open Cert.ReferenceIdeal.Facts
open Cert.Knn (key sel nb mean off cov sq pt)

/-- Every query's negated squared distances to every key. -/
def keys (X : FVec Ideal S16x2048x3 .f32) : FVec Ideal S16x2048x2048 .f32 :=
  Host.negf (addf (subf (broadcastInDim S16x2048x2048 ![0, 1, 2] bcast_S16x2048x1_S16x2048x2048_0_1_2 (broadcastInDim S16x2048x1 ![0, 1] bcast_S16x2048_S16x2048x1_0_1 (Host.reduceAdd (mulf X X) (constant S_ .f32 0x00000000#32) reducesTo_S16x2048x3_S16x2048_d2 h_S_))) (mulf (broadcastInDim S16x2048x2048 ![] bcast_S_S16x2048x2048 (constant S_ .f32 0x40000000#32)) (Host.dotGeneral dot_S16x2048x3_S16x2048x3_S16x2048x2048_2_2_1_1_0_0 none X X))) (broadcastInDim S16x2048x2048 ![0, 1, 2] bcast_S16x1x2048_S16x2048x2048_0_1_2 (transpose S16x1x2048 [0, 2, 1] (broadcastInDim S16x2048x1 ![0, 1] bcast_S16x2048_S16x2048x1_0_1 (Host.reduceAdd (mulf X X) (constant S_ .f32 0x00000000#32) reducesTo_S16x2048x3_S16x2048_d2 h_S_)) transposes_S16x2048x1_S16x1x2048_0_2_1)))

theorem keys_at (X : FVec Ideal S16x2048x3 .f32) (b : Fin 16) (n p : Fin 2048) : keys X (ix3 b n p) = key X b n p := by
  pointwise [keys]
  rfl

/-- The `t`-th position of the sorted row, as a word. -/
theorem top_at (X : FVec Ideal S16x2048x3 .f32) (b : Fin 16) (n : Fin 2048) (t : Fin 32) :
    (Host.topK S16x2048x32 2 (FloatOps.cmpfTotal .gt) (keys X) sliceFits_S16x2048x2048_S16x2048x32).2 (ix3 b n t)
      = BitVec.ofNat 32 (sel X b n t).val := by
  pointwise [Host.topK]
  unfold Host.sort2
  pointwise
  have along : ∀ k : Fin 2048, (ix3 b n (t.castLE (by decide : 32 ≤ 2048)) : S16x2048x2048.Idx).along 2 k = ix3 b n k := by
    intro k; funext a; fin_cases a <;> rfl
  have hcmp : ∀ u v : EReal, (FloatOps.cmpfTotal (F := Ideal) (φ := .f32) .gt u v == 1#1) = decide (v < u) := by
    intro u v
    show (BitVec.ofBool (decide (v < u)) == 1#1) = decide (v < u)
    cases decide (v < u) <;> rfl
  have ht : (⟨t.val, by omega⟩ : Fin 2048) = t.castLE (by decide) := rfl
  rw [ht]
  simp only [along, hcmp, keys_at]
  rfl

/-- The pairs of row numbers the gather reads: the cloud, and the position in it. -/
def rows (I : IVec S16x2048x32 32) : IVec S16x2048x32x2 32 :=
  concatenate S16x2048x32x2 3 [⟨S16x2048x32x1, (broadcastInDim S16x2048x32x1 ![0, 1, 2] bcast_S16x2048x32_S16x2048x32x1_0_1_2 (broadcastInDim S16x2048x32 ![0, 1, 2] bcast_S16x1x1_S16x2048x32_0_1_2 (select (cmpi .slt (broadcastInDim S16x1x1 ![0] bcast_S16_S16x1x1_0 (iotaInDim S16 32 0)) (broadcastInDim S16x1x1 ![] bcast_S_S16x1x1 (constantI S_ 32 0#32))) (addi (broadcastInDim S16x1x1 ![0] bcast_S16_S16x1x1_0 (iotaInDim S16 32 0)) (broadcastInDim S16x1x1 ![] bcast_S_S16x1x1 (constantI S_ 32 16#32))) (broadcastInDim S16x1x1 ![0] bcast_S16_S16x1x1_0 (iotaInDim S16 32 0)))))⟩, ⟨S16x2048x32x1, (broadcastInDim S16x2048x32x1 ![0, 1, 2] bcast_S16x2048x32_S16x2048x32x1_0_1_2 (select (cmpi .slt I (broadcastInDim S16x2048x32 ![] bcast_S_S16x2048x32 (constantI S_ 32 0#32))) (addi I (broadcastInDim S16x2048x32 ![] bcast_S_S16x2048x32 (constantI S_ 32 2048#32))) I))⟩] concatenates_S16x2048x32x1_S16x2048x32x1_S16x2048x32x2_d3

/-- A small natural number survives the round trip through a signed word. -/
theorem toInt_small {k : ℕ} (hk : k < 2048) : (BitVec.ofNat 32 k).toInt = k := by
  have h : ((2 ^ 32 : ℕ) : ℤ) = 4294967296 := by norm_num
  rw [BitVec.toInt_eq_toNat_bmod, BitVec.toNat_ofNat, Nat.mod_eq_of_lt (by omega), Int.bmod_def, h]
  split <;> omega

theorem slt_zero {k : ℕ} (hk : k < 2048) : IntOp.cmpi .slt (BitVec.ofNat 32 k) 0#32 = 0#1 := by
  have e : (BitVec.ofNat 32 k).slt 0#32 = false := by
    rw [BitVec.slt_eq_decide, toInt_small hk]
    simp
  show BitVec.ofBool ((BitVec.ofNat 32 k).slt 0#32) = 0#1
  rw [e]; rfl

theorem rows_cloud (I : IVec S16x2048x32 32) (b : Fin 16) (n : Fin 2048) (t : Fin 32) :
    rows I (ix4 b n t 0) = BitVec.ofNat 32 b.val := by
  pointwise [rows]
  rw [slt_zero (by omega)]
  rfl

theorem rows_pos (I : IVec S16x2048x32 32) (b : Fin 16) (n : Fin 2048) (t : Fin 32) (p : Fin 2048)
    (h : I (ix3 b n t) = BitVec.ofNat 32 p.val) : rows I (ix4 b n t 1) = BitVec.ofNat 32 p.val := by
  pointwise [rows]
  rw [h, slt_zero p.isLt]
  rfl

/-- The gather reads the point that its pair of row numbers names. -/
theorem gather_at (X : FVec Ideal S16x2048x3 .f32) (I : IVec S16x2048x32x2 32) (b : Fin 16) (n : Fin 2048) (t : Fin 32)
    (a : Fin 3) (p : Fin 2048) (h0 : I (ix4 b n t 0) = BitVec.ofNat 32 b.val) (h1 : I (ix4 b n t 1) = BitVec.ofNat 32 p.val) :
    Host.gather gather_S16x2048x3_S16x2048x32x2_S16x2048x32x3_3_01_n_n_01_3_113 X I (ix4 b n t a) = X (ix3 b p a) := by
  have hs0 : (gather_S16x2048x3_S16x2048x32x2_S16x2048x32x3_3_01_n_n_01_3_113).siIdx (ix4 b n t a) ⟨0, by decide⟩ = ix4 b n t 0 := by
    funext x; fin_cases x <;> rfl
  have hs1 : (gather_S16x2048x3_S16x2048x32x2_S16x2048x32x3_3_01_n_n_01_3_113).siIdx (ix4 b n t a) ⟨1, by decide⟩ = ix4 b n t 1 := by
    funext x; fin_cases x <;> rfl
  have hb := b.isLt
  have hp := p.isLt
  refine congrArg X (funext fun x => Fin.ext ?_)
  fin_cases x
  · show min (I ((gather_S16x2048x3_S16x2048x32x2_S16x2048x32x3_3_01_n_n_01_3_113).siIdx (ix4 b n t a) ⟨0, by decide⟩)).toInt.toNat 15 + 0 + 0 = b.val
    rw [hs0, h0, toInt_small (by omega)]
    omega
  · show min (I ((gather_S16x2048x3_S16x2048x32x2_S16x2048x32x3_3_01_n_n_01_3_113).siIdx (ix4 b n t a) ⟨1, by decide⟩)).toInt.toNat 2047 + 0 + 0 = p.val
    rw [hs1, h1, toInt_small hp]
    omega
  · show 0 + 0 + a.val = a.val
    omega

/-- The neighbours' coordinates. -/
def neigh (X : FVec Ideal S16x2048x3 .f32) : FVec Ideal S16x2048x32x3 .f32 :=
  Host.gather gather_S16x2048x3_S16x2048x32x2_S16x2048x32x3_3_01_n_n_01_3_113 X
    (rows (Host.topK S16x2048x32 2 (FloatOps.cmpfTotal .gt) (keys X) sliceFits_S16x2048x2048_S16x2048x32).2)

theorem neigh_at (X : FVec Ideal S16x2048x3 .f32) (b : Fin 16) (n : Fin 2048) (t : Fin 32) (a : Fin 3) :
    neigh X (ix4 b n t a) = nb X b n t a :=
  gather_at X _ b n t a (sel X b n t) (rows_cloud _ b n t) (rows_pos _ b n t _ (top_at X b n t))

/-- The neighbours' centroids. -/
def means (G : FVec Ideal S16x2048x32x3 .f32) : FVec Ideal S16x2048x3 .f32 :=
  Host.divf (Host.reduceAdd G (constant S_ .f32 0x00000000#32) reducesTo_S16x2048x32x3_S16x2048x3_d2 h_S_) (broadcastInDim S16x2048x3 ![] bcast_S_S16x2048x3 (constant S_ .f32 0x42000000#32))

/-- The neighbours' offsets from the centroids. -/
def offs (G : FVec Ideal S16x2048x32x3 .f32) : FVec Ideal S16x2048x32x3 .f32 :=
  subf G (broadcastInDim S16x2048x32x3 ![0, 1, 2, 3] bcast_S16x2048x1x3_S16x2048x32x3_0_1_2_3 (broadcastInDim S16x2048x1x3 ![0, 1, 3] bcast_S16x2048x3_S16x2048x1x3_0_1_3 (means G)))

theorem means_at (X : FVec Ideal S16x2048x3 .f32) (b : Fin 16) (n : Fin 2048) (a : Fin 3) :
    means (neigh X) (ix3 b n a) = mean X b n a := by
  pointwise [means]
  simp only [neigh_at]
  rfl

theorem offs_at (X : FVec Ideal S16x2048x3 .f32) (b : Fin 16) (n : Fin 2048) (t : Fin 32) (a : Fin 3) :
    offs (neigh X) (ix4 b n t a) = off X b n t a := by
  pointwise [offs]
  simp only [neigh_at, means_at]
  rfl

theorem res_center (m : (ℓ : Loc nD τ sig) → Buf (Elt Ideal) ℓ) (c : Dev nD) :
    Value.res_main_v31 (F := Ideal) m c = means (neigh (m ((c.tc : Thread nD τ).loc main_arg0))) := rfl

theorem res_offs (m : (ℓ : Loc nD τ sig) → Buf (Elt Ideal) ℓ) (c : Dev nD) :
    Value.res_main_v34 (F := Ideal) m c = offs (neigh (m ((c.tc : Thread nD τ).loc main_arg0))) := rfl

/-- The sums of products of coordinates 0 and 0 of the offsets. -/
def cov00 (O : FVec Ideal S16x2048x32x3 .f32) : FVec Ideal S16x1x2048 .f32 :=
  broadcastInDim S16x1x2048 ![0, 2] bcast_S16x2048_S16x1x2048_0_2 (shapeCast _ (extractStridedSlice S16x2048x1x1 ![0, 0, 0, 0] (Host.dotGeneral dot_S16x2048x32x3_S16x2048x32x3_S16x2048x3x3_2_2_3_3_01_01 none O O) slices_S16x2048x3x3_S16x2048x1x1_0_0_0_0) shapeCasts_S16x2048x1x1_S16x2048)

theorem cov00_at (X : FVec Ideal S16x2048x3 .f32) (b : Fin 16) (n : Fin 2048) :
    cov00 (offs (neigh X)) (ix3 b 0 n) = cov X b n 0 0 := by
  pointwise [cov00]
  simp only [offs_at]
  rfl

theorem res_cov00 (m : (ℓ : Loc nD τ sig) → Buf (Elt Ideal) ℓ) (c : Dev nD) :
    Value.res_main_v38 (F := Ideal) m c = cov00 (offs (neigh (m ((c.tc : Thread nD τ).loc main_arg0)))) := rfl

/-- The sums of products of coordinates 0 and 1 of the offsets. -/
def cov01 (O : FVec Ideal S16x2048x32x3 .f32) : FVec Ideal S16x1x2048 .f32 :=
  broadcastInDim S16x1x2048 ![0, 2] bcast_S16x2048_S16x1x2048_0_2 (shapeCast _ (extractStridedSlice S16x2048x1x1 ![0, 0, 0, 1] (Host.dotGeneral dot_S16x2048x32x3_S16x2048x32x3_S16x2048x3x3_2_2_3_3_01_01 none O O) slices_S16x2048x3x3_S16x2048x1x1_0_0_0_1) shapeCasts_S16x2048x1x1_S16x2048)

theorem cov01_at (X : FVec Ideal S16x2048x3 .f32) (b : Fin 16) (n : Fin 2048) :
    cov01 (offs (neigh X)) (ix3 b 0 n) = cov X b n 0 1 := by
  pointwise [cov01]
  simp only [offs_at]
  rfl

theorem res_cov01 (m : (ℓ : Loc nD τ sig) → Buf (Elt Ideal) ℓ) (c : Dev nD) :
    Value.res_main_v41 (F := Ideal) m c = cov01 (offs (neigh (m ((c.tc : Thread nD τ).loc main_arg0)))) := rfl

/-- The sums of products of coordinates 0 and 2 of the offsets. -/
def cov02 (O : FVec Ideal S16x2048x32x3 .f32) : FVec Ideal S16x1x2048 .f32 :=
  broadcastInDim S16x1x2048 ![0, 2] bcast_S16x2048_S16x1x2048_0_2 (shapeCast _ (extractStridedSlice S16x2048x1x1 ![0, 0, 0, 2] (Host.dotGeneral dot_S16x2048x32x3_S16x2048x32x3_S16x2048x3x3_2_2_3_3_01_01 none O O) slices_S16x2048x3x3_S16x2048x1x1_0_0_0_2) shapeCasts_S16x2048x1x1_S16x2048)

theorem cov02_at (X : FVec Ideal S16x2048x3 .f32) (b : Fin 16) (n : Fin 2048) :
    cov02 (offs (neigh X)) (ix3 b 0 n) = cov X b n 0 2 := by
  pointwise [cov02]
  simp only [offs_at]
  rfl

theorem res_cov02 (m : (ℓ : Loc nD τ sig) → Buf (Elt Ideal) ℓ) (c : Dev nD) :
    Value.res_main_v44 (F := Ideal) m c = cov02 (offs (neigh (m ((c.tc : Thread nD τ).loc main_arg0)))) := rfl

/-- The sums of products of coordinates 1 and 1 of the offsets. -/
def cov11 (O : FVec Ideal S16x2048x32x3 .f32) : FVec Ideal S16x1x2048 .f32 :=
  broadcastInDim S16x1x2048 ![0, 2] bcast_S16x2048_S16x1x2048_0_2 (shapeCast _ (extractStridedSlice S16x2048x1x1 ![0, 0, 1, 1] (Host.dotGeneral dot_S16x2048x32x3_S16x2048x32x3_S16x2048x3x3_2_2_3_3_01_01 none O O) slices_S16x2048x3x3_S16x2048x1x1_0_0_1_1) shapeCasts_S16x2048x1x1_S16x2048)

theorem cov11_at (X : FVec Ideal S16x2048x3 .f32) (b : Fin 16) (n : Fin 2048) :
    cov11 (offs (neigh X)) (ix3 b 0 n) = cov X b n 1 1 := by
  pointwise [cov11]
  simp only [offs_at]
  rfl

theorem res_cov11 (m : (ℓ : Loc nD τ sig) → Buf (Elt Ideal) ℓ) (c : Dev nD) :
    Value.res_main_v47 (F := Ideal) m c = cov11 (offs (neigh (m ((c.tc : Thread nD τ).loc main_arg0)))) := rfl

/-- The sums of products of coordinates 1 and 2 of the offsets. -/
def cov12 (O : FVec Ideal S16x2048x32x3 .f32) : FVec Ideal S16x1x2048 .f32 :=
  broadcastInDim S16x1x2048 ![0, 2] bcast_S16x2048_S16x1x2048_0_2 (shapeCast _ (extractStridedSlice S16x2048x1x1 ![0, 0, 1, 2] (Host.dotGeneral dot_S16x2048x32x3_S16x2048x32x3_S16x2048x3x3_2_2_3_3_01_01 none O O) slices_S16x2048x3x3_S16x2048x1x1_0_0_1_2) shapeCasts_S16x2048x1x1_S16x2048)

theorem cov12_at (X : FVec Ideal S16x2048x3 .f32) (b : Fin 16) (n : Fin 2048) :
    cov12 (offs (neigh X)) (ix3 b 0 n) = cov X b n 1 2 := by
  pointwise [cov12]
  simp only [offs_at]
  rfl

theorem res_cov12 (m : (ℓ : Loc nD τ sig) → Buf (Elt Ideal) ℓ) (c : Dev nD) :
    Value.res_main_v50 (F := Ideal) m c = cov12 (offs (neigh (m ((c.tc : Thread nD τ).loc main_arg0)))) := rfl

/-- The sums of products of coordinates 2 and 2 of the offsets. -/
def cov22 (O : FVec Ideal S16x2048x32x3 .f32) : FVec Ideal S16x1x2048 .f32 :=
  broadcastInDim S16x1x2048 ![0, 2] bcast_S16x2048_S16x1x2048_0_2 (shapeCast _ (extractStridedSlice S16x2048x1x1 ![0, 0, 2, 2] (Host.dotGeneral dot_S16x2048x32x3_S16x2048x32x3_S16x2048x3x3_2_2_3_3_01_01 none O O) slices_S16x2048x3x3_S16x2048x1x1_0_0_2_2) shapeCasts_S16x2048x1x1_S16x2048)

theorem cov22_at (X : FVec Ideal S16x2048x3 .f32) (b : Fin 16) (n : Fin 2048) :
    cov22 (offs (neigh X)) (ix3 b 0 n) = cov X b n 2 2 := by
  pointwise [cov22]
  simp only [offs_at]
  rfl

theorem res_cov22 (m : (ℓ : Loc nD τ sig) → Buf (Elt Ideal) ℓ) (c : Dev nD) :
    Value.res_main_v53 (F := Ideal) m c = cov22 (offs (neigh (m ((c.tc : Thread nD τ).loc main_arg0)))) := rfl

end Cert.ReferenceIdeal.Knn

end
-- ==== Proof.Trip.lean ====
/-
  ONE SELECTION ROUND of the kernel's loop. The kernel keeps, for its 128 query points, the negated squared distances to
  all 2048 candidates (`arg13`); a round takes each column's largest entry (the least index among equal ones), reads
  that candidate's coordinates into slab `k` of `arg15`, adds them to the running sum in `arg16`, and masks the entry.
  Here the buffers' contents before round `k` are stated as plain recursions over the rounds (`distAt`, `sumAt`,
  `slabAt`), and one round is shown to take them from `k` to `k + 1`.
-/
module

public import proofs.«01_k».proof.Proof.Gen.KernelIdeal.Frame
public import proofs.«01_k».proof.Proof.Gen.KernelIdeal.Skeleton
public import Idealize.ShloMosaic.Lib.Exec
public import Idealize.ShloMosaic.Lib.ValueIdxCore
public import Idealize.ShloMosaic.Lib.VecWindow

@[expose] public section

set_option maxRecDepth 16384

noncomputable section

namespace Cert.KernelIdeal.Knn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

open Idealize.ShloMosaic.ValueIdx (ix2 ix3 ix4)

variable {F : FTy → Type} [FloatOps F] [Named F]

/-- The negated distances left after `k` rounds from `D₀`. -/
def distAt (D₀ : Vec F S2048x128 .f32) : ℕ → Vec F S2048x128 .f32
  | 0 => D₀
  | k + 1 => k0_pay7 (distAt D₀ k) k0_pay4

/-- The running sum of the chosen candidates after `k` rounds. -/
def sumAt (v3 : FVec F S3x2048 .f32) (D₀ : Vec F S2048x128 .f32) : ℕ → Vec F S3x128 .f32
  | 0 => k0_pay5
  | k + 1 => k0_pay10 v3 (distAt D₀ k) k0_pay4 (sumAt v3 D₀ k)

/-- All slabs: slab `j` is the candidates' coordinates chosen in round `j`. -/
def slabs (v3 : FVec F S3x2048 .f32) (D₀ : Vec F S2048x128 .f32) : Vec F S32x3x128 .f32 := fun x =>
  k0_pay9 v3 (distAt D₀ (x 0).val) k0_pay4 (ix3 0 (x 1) (x 2))

local notation "𝕄" => MT nD τ sig Unit (Elt F) ℕ (UR sig nD τ) ℕ

/-- What the loop keeps before round `k`: the index plane, the distances, the slabs of the rounds done, the sum. -/
def roundInv (c : Dev nD) (arg13 : Memref sig .tc .vmem S2048x128 .f32) (arg14 : Memref sig .tc .vmem S2048x128 .i32)
    (arg15 : Memref sig .tc .vmem S32x3x128 .f32) (arg16 : Memref sig .tc .vmem S3x128 .f32)
    (v3 : FVec F S3x2048 .f32) (D₀ : Vec F S2048x128 .f32) (k : ℕ) (_ : Unit) : sProp 𝕄 :=
  iprop((∃ f, (arg13.view.loc (c : Thread nD τ) ↦[arg13.view.set]{fullShare} f)
        ∗ ⌜arg13.view.read (Elt F) f = distAt D₀ k⌝)
    ∗ (∃ f, (arg14.view.loc (c : Thread nD τ) ↦[arg14.view.set]{fullShare} f)
        ∗ ⌜arg14.view.read (Elt F) f = (k0_pay4 : Vec F S2048x128 .i32)⌝)
    ∗ (∃ f, (arg15.view.loc (c : Thread nD τ) ↦[arg15.view.set]{fullShare} f)
        ∗ ⌜∀ x : S32x3x128.Idx, (x 0).val < k → arg15.view.read (Elt F) f x = slabs v3 D₀ x⌝)
    ∗ (∃ f, (arg16.view.loc (c : Thread nD τ) ↦[arg16.view.set]{fullShare} f)
        ∗ ⌜arg16.view.read (Elt F) f = sumAt v3 D₀ k⌝))

set_option maxHeartbeats 1000000 in
/-- One round takes `roundInv` from `k` to `k + 1`. -/
theorem round_step (c : Dev nD) (E : Set ℕ) (i : grid0.Coords)
    (arg2 : Memref sig .tc .vmem S1x2048x3 .f32) (harg2 : arg2.IsWhole)
    (arg3 : Memref sig .tc .vmem S1x3x2048 .f32) (harg3 : arg3.IsWhole)
    (arg4 : Memref sig .tc .vmem S1x3x128 .f32) (harg4 : arg4.IsWhole)
    (arg5 : Memref sig .tc .vmem S1x32x3x128 .f32) (harg5 : arg5.IsWhole)
    (arg6 : Memref sig .tc .vmem S1x3x128 .f32) (harg6 : arg6.IsWhole)
    (arg7 : Memref sig .tc .vmem S1x1x128 .f32) (harg7 : arg7.IsWhole)
    (arg8 : Memref sig .tc .vmem S1x1x128 .f32) (harg8 : arg8.IsWhole)
    (arg9 : Memref sig .tc .vmem S1x1x128 .f32) (harg9 : arg9.IsWhole)
    (arg10 : Memref sig .tc .vmem S1x1x128 .f32) (harg10 : arg10.IsWhole)
    (arg11 : Memref sig .tc .vmem S1x1x128 .f32) (harg11 : arg11.IsWhole)
    (arg12 : Memref sig .tc .vmem S1x1x128 .f32) (harg12 : arg12.IsWhole)
    (arg13 : Memref sig .tc .vmem S2048x128 .f32) (harg13 : arg13.IsWhole)
    (arg14 : Memref sig .tc .vmem S2048x128 .i32) (harg14 : arg14.IsWhole)
    (arg15 : Memref sig .tc .vmem S32x3x128 .f32) (harg15 : arg15.IsWhole)
    (arg16 : Memref sig .tc .vmem S3x128 .f32) (harg16 : arg16.IsWhole)
    (v3 : FVec F S3x2048 .f32) (D₀ : Vec F S2048x128 .f32) (k : Fin k0_t1_loop.trips) (acc : Unit) :
    roundInv c arg13 arg14 arg15 arg16 v3 D₀ k.val acc
      ⊢ wp frame (wpE (defs₀ (F := F)) Variants.none (c : Thread nD τ) none) E
          (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v3 k acc)
          (fun acc' => roundInv c arg13 arg14 arg15 arg16 v3 D₀ (k.val + 1) acc') := by
  have hk : k.val < 32 := Nat.lt_of_lt_of_le k.isLt k0_t1_abs.2.1
  unfold k0_t1_body roundInv
  iintro ⟨⟨%f13, H13, %h13⟩, ⟨%f14, H14, %h14⟩, ⟨%f15, H15, %h15⟩, ⟨%f16, H16, %h16⟩⟩
  obtain rfl := harg13.eq_unread h13
  obtain rfl := harg14.eq_unread h14
  obtain rfl := harg16.eq_unread h16
  sl_exec
  sl_step
  rw [View.readAt_full, View.readAt_full, View.readAt_full, h13, h14, h16]
  isplitl [H13]
  · iexists _; isplitl [H13]; · iexact H13
    ipureintro; exact View.read_writes_full _ _ _ _ _
  isplitl [H14]
  · iexists _; isplitl [H14]; · iexact H14
    ipureintro; exact h14
  isplitl [H15]
  · iexists _; isplitl [H15]; · iexact H15
    ipureintro
    intro x hx
    have hoff := k0_off1_eq k
    by_cases hxk : (x 0).val = k.val
    · refine (View.read_writes_cons_unit_of_mem (off' := ![k.val, 0, 0]) arg15.view f15 _ _ _ x
        (ix3 0 (x 1) (x 2) : S1x3x128.Idx) hoff ?_).trans ?_
      · intro a
        fin_cases a
        · show (x 0).val = k.val + 0
          omega
        · show (x 1).val = 0 + (x 1).val
          omega
        · show (x 2).val = 0 + (x 2).val
          omega
      · unfold slabs; rw [hxk]
    · refine (View.read_writes_cons_unit_of_not_mem (off' := ![k.val, 0, 0]) arg15.view f15 _ _ _ x hoff 0
        (Or.inl ?_)).trans (h15 x (by omega))
      show (x 0).val < k.val
      omega
  iexists _; isplitl [H16]; · iexact H16
  ipureintro; exact View.read_writes_full _ _ _ _ _

end Cert.KernelIdeal.Knn

end
-- ==== Proof.Blocks.lean ====
/-
  WHAT ONE RUN OF THE KERNEL LEAVES IN ITS OUTPUT BLOCKS, as plain functions of the chosen neighbours and their sum: the
  mean, the neighbours minus the mean, and the six distinct entries of the 3x3 sums of products, each a chain of 32
  additions from zero.
-/
module

public import proofs.«01_k».proof.Proof.Trip
public import Idealize.ShloMosaic.Lib.WholeRead
public import Idealize.ShloMosaic.Lib.ValueLayout

@[expose] public section

set_option maxRecDepth 16384

noncomputable section

namespace Cert.KernelIdeal.Knn

open Idealize.ShloMosaic Idealize.ShloMosaic.TcCoe Idealize.ShloMosaic.Tactic
open Cert.KernelIdeal.Gen
open Idealize.ShloMosaic.ValueIdx (ix2 ix3 ix4)

variable {F : FTy → Type} [FloatOps F] [Named F]

/-- The neighbours chosen in round `t`. -/
def nbr (NB : Vec F S32x3x128 .f32) (t : ℕ) : Vec F S1x3x128 .f32 := fun x =>
  NB (ix3 ⟨t % 32, Nat.mod_lt _ (by decide)⟩ (x 1) (x 2))

/-- One round's neighbours minus the mean. -/
def cent (w : Vec F S1x3x128 .f32) (ctr : FVec F S3x128 .f32) : FVec F S3x128 .f32 :=
  subf (shapeCast S3x128 w shapeCasts_S1x3x128_S3x128) ctr

/-- The same through bf16 and back. -/
def rnd (w : Vec F S1x3x128 .f32) (ctr : FVec F S3x128 .f32) : FVec F S3x128 .f32 :=
  extf .f32 (truncf .bf16 (cent w ctr) bitsLt_bf16_f32) bitsLt_bf16_f32

/-- The x, y, z coordinate rows. -/
def rowX (p : FVec F S3x128 .f32) : FVec F S1x128 .f32 := extractStridedSlice S1x128 ![0, 0] p slices_S3x128_o0_0_S1x128
@[inherit_doc rowX]
def rowY (p : FVec F S3x128 .f32) : FVec F S1x128 .f32 := extractStridedSlice S1x128 ![1, 0] p slices_S3x128_o1_0_S1x128
@[inherit_doc rowX]
def rowZ (p : FVec F S3x128 .f32) : FVec F S1x128 .f32 := extractStridedSlice S1x128 ![2, 0] p slices_S3x128_o2_0_S1x128

/-- The sum over the first `n` rounds of the products of two coordinates. -/
def covAt (ra rb : FVec F S3x128 .f32 → FVec F S1x128 .f32) (W : ℕ → Vec F S1x3x128 .f32) (ctr : FVec F S3x128 .f32) :
    ℕ → FVec F S1x128 .f32
  | 0 => broadcast S1x128 (Scalar.ofBits .f32 0x00000000#32)
  | n + 1 => addf (covAt ra rb W ctr n) (mulf (ra (rnd (W n) ctr)) (rb (rnd (W n) ctr)))

/-- The block of one such sum. -/
def covBlock (ra rb : FVec F S3x128 .f32 → FVec F S1x128 .f32) (W : ℕ → Vec F S1x3x128 .f32) (ctr : FVec F S3x128 .f32) :
    Vec F S1x1x128 .f32 :=
  shapeCast S1x1x128 (covAt ra rb W ctr 32) shapeCasts_S1x128_S1x1x128

/-- The block of the neighbours minus the mean. -/
def centBlock (W : ℕ → Vec F S1x3x128 .f32) (ctr : FVec F S3x128 .f32) : Vec F S1x32x3x128 .f32 := fun x =>
  cent (W (x 1).val) ctr (ix2 (x 2) (x 3))

/-- The pieces the kernel stores into that block, the last round's first. -/
def centPieces (W : ℕ → Vec F S1x3x128 .f32) (ctr : FVec F S3x128 .f32) :
    (n : ℕ) → n ≤ 32 → List (View.Piece (Elt F) S1x32x3x128 .f32)
  | 0, _ => []
  | n + 1, h => ⟨Rect.unit (s := S1x32x3x128) ![0, n, 0, 0] S1x1x3x128.size (by
        intro a; fin_cases a
        · show 0 + 1 ≤ 1; omega
        · show n + 1 ≤ 32; omega
        · show 0 + 3 ≤ 3; omega
        · show 0 + 128 ≤ 128; omega),
      shapeCast S1x1x3x128 (cent (W n) ctr) shapeCasts_S3x128_S1x1x3x128⟩ :: centPieces W ctr n (Nat.le_of_succ_le h)

/-- The chain of sums extended by one round. -/
theorem covAt_step {ra rb : FVec F S3x128 .f32 → FVec F S1x128 .f32} {W : ℕ → Vec F S1x3x128 .f32} {ctr : FVec F S3x128 .f32}
    {n : ℕ} {acc p : FVec F S1x128 .f32} (h : acc = covAt ra rb W ctr n)
    (hp : p = mulf (ra (rnd (W n) ctr)) (rb (rnd (W n) ctr))) : addf acc p = covAt ra rb W ctr (n + 1) := by
  subst h; subst hp; rfl

/-- The list of stores extended by one round's. -/
theorem centPieces_step {W : ℕ → Vec F S1x3x128 .f32} {ctr : FVec F S3x128 .f32} {n : ℕ} {h : n + 1 ≤ 32}
    {inb : ∀ a, (![0, n, 0, 0] : Fin 4 → ℕ) a + S1x1x3x128.size a ≤ S1x32x3x128.size a}
    {v : (Rect.unit (s := S1x32x3x128) ![0, n, 0, 0] S1x1x3x128.size inb).shape.Idx → Elt F .f32}
    {L : List (View.Piece (Elt F) S1x32x3x128 .f32)}
    (hv : v = shapeCast S1x1x3x128 (cent (W n) ctr) shapeCasts_S3x128_S1x1x3x128)
    (hL : L = centPieces W ctr n (Nat.le_of_succ_le h)) :
    ((⟨Rect.unit (s := S1x32x3x128) ![0, n, 0, 0] S1x1x3x128.size inb, v⟩ : View.Piece (Elt F) S1x32x3x128 .f32) :: L)
      = centPieces W ctr (n + 1) h := by
  subst hv; subst hL; rfl

/-- The slab an access reads at offset `t`. -/
theorem slab_rect (t : ℕ) : ∀ a, (![t % 32, 0, 0] : Fin 3 → ℕ) a + S1x3x128.size a ≤ S32x3x128.size a := by
  have ht : t % 32 < 32 := Nat.mod_lt _ (by decide)
  intro a; fin_cases a
  · show t % 32 + 1 ≤ 32; omega
  · show 0 + 3 ≤ 3; omega
  · show 0 + 128 ≤ 128; omega

/-- Loads of the slabs read the neighbours. -/
theorem slab_read (arg15 : Memref sig .tc .vmem S32x3x128 .f32) (harg15 : arg15.IsWhole) (NB : Vec F S32x3x128 .f32) :
    (fun t : ℕ => View.readAt (Elt F) arg15.view
      (Rect.unit (s := S32x3x128) ![t % 32, 0, 0] S1x3x128.size (slab_rect t)).toLoadRect (harg15.unread NB)) = nbr NB := by
  funext t x
  rw [Memref.IsWhole.readAt_unread harg15]
  unfold nbr
  congr 1
  funext a
  apply Fin.ext
  fin_cases a
  · show t % 32 + 1 * (x 0).val = t % 32
    have : (x 0).val < 1 := (x 0).isLt
    omega
  · show 0 + 1 * (x 1).val = (x 1).val
    omega
  · show 0 + 1 * (x 2).val = (x 2).val
    omega

/-- Rows `n` of the block read after the stores of the rounds before `n`. -/
theorem cent_read (arg5 : Memref sig .tc .vmem S1x32x3x128 .f32) (f : arg5.view.ty.Contents (Elt F))
    (W : ℕ → Vec F S1x3x128 .f32) (ctr : FVec F S3x128 .f32) (n : ℕ) (h : n ≤ 32) (x : S1x32x3x128.Idx) (hx : (x 1).val < n) :
    arg5.view.read (Elt F) (arg5.view.writes (Elt F) f (centPieces W ctr n h)) x = centBlock W ctr x := by
  induction n with
  | zero => omega
  | succ n ih =>
    unfold centPieces
    by_cases hn : (x 1).val = n
    · refine (View.read_writes_cons_unit_of_mem (off' := ![0, n, 0, 0]) arg5.view f _ _ _ x
        (ix4 0 0 (x 2) (x 3) : S1x1x3x128.Idx) rfl ?_).trans ?_
      · have h0 : (x 0).val < 1 := (x 0).isLt
        intro a
        fin_cases a
        · show (x 0).val = 0 + 0
          omega
        · show (x 1).val = n + 0
          omega
        · show (x 2).val = 0 + (x 2).val
          omega
        · show (x 3).val = 0 + (x 3).val
          omega
      · unfold centBlock
        rw [hn]
        refine shapeCast_apply (t := S1x1x3x128) (cent (W n) ctr) shapeCasts_S3x128_S1x1x3x128
          (ix4 0 0 (x 2) (x 3)) (ix2 (x 2) (x 3)) ?_
        rw [Shape.rowMajor_val_two, Shape.rowMajor_val_four]
        show (x 2).val * 128 + (x 3).val = ((0 * 1 + 0) * 3 + (x 2).val) * 128 + (x 3).val
        omega
    · refine (View.read_writes_cons_unit_of_not_mem (off' := ![0, n, 0, 0]) arg5.view f _ _ _ x rfl 1
        (Or.inl ?_)).trans (ih _ (by omega))
      show (x 1).val < n
      omega

theorem cent_read_all (arg5 : Memref sig .tc .vmem S1x32x3x128 .f32) (f : arg5.view.ty.Contents (Elt F))
    (W : ℕ → Vec F S1x3x128 .f32) (ctr : FVec F S3x128 .f32) :
    arg5.view.read (Elt F) (arg5.view.writes (Elt F) f (centPieces W ctr 32 le_rfl)) = centBlock W ctr :=
  funext fun x => cent_read arg5 f W ctr 32 le_rfl x (x 1).isLt

end Cert.KernelIdeal.Knn

end
-- ==== Proof.Body.lean ====
/-
  THE KERNEL BODY, RUN ONCE: on whole blocks of its three inputs it leaves the eight output blocks at the functions of
  `Blocks.lean` of the inputs alone, and its scratch at anything.
-/
module

public import proofs.«01_k».proof.Proof.Blocks

@[expose] public section

set_option maxRecDepth 16384

noncomputable section

namespace Cert.KernelIdeal.Knn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

open Idealize.ShloMosaic.ValueIdx (ix2 ix3 ix4)

variable {F : FTy → Type} [FloatOps F] [Named F]

local notation "𝕄" => MT nD τ sig Unit (Elt F) ℕ (UR sig nD τ) ℕ

/-- The chosen neighbours, by round. -/
def nbrOf (x0 : Vec F S1x2048x3 .f32) (x1 : Vec F S1x3x2048 .f32) (x2 : Vec F S1x3x128 .f32) : ℕ → Vec F S1x3x128 .f32 :=
  nbr (slabs (k0_pay2 x1) (k0_pay3 x0 x2))
/-- Their mean. -/
def meanOf (x0 : Vec F S1x2048x3 .f32) (x1 : Vec F S1x3x2048 .f32) (x2 : Vec F S1x3x128 .f32) : FVec F S3x128 .f32 :=
  k0_pay11 (sumAt (k0_pay2 x1) (k0_pay3 x0 x2) 32)
/-- The block of neighbours minus mean. -/
def outCent (x0 : Vec F S1x2048x3 .f32) (x1 : Vec F S1x3x2048 .f32) (x2 : Vec F S1x3x128 .f32) : Vec F S1x32x3x128 .f32 :=
  centBlock (nbrOf x0 x1 x2) (meanOf x0 x1 x2)
/-- The block of means. -/
def outMean (x0 : Vec F S1x2048x3 .f32) (x1 : Vec F S1x3x2048 .f32) (x2 : Vec F S1x3x128 .f32) : Vec F S1x3x128 .f32 :=
  shapeCast S1x3x128 (meanOf x0 x1 x2) shapeCasts_S3x128_S1x3x128
/-- The block of the sums of products of two coordinates. -/
def outCov (ra rb : FVec F S3x128 .f32 → FVec F S1x128 .f32)
    (x0 : Vec F S1x2048x3 .f32) (x1 : Vec F S1x3x2048 .f32) (x2 : Vec F S1x3x128 .f32) : Vec F S1x1x128 .f32 :=
  covBlock ra rb (nbrOf x0 x1 x2) (meanOf x0 x1 x2)

set_option maxHeartbeats 4000000 in
/-- The body's triple. -/
theorem body_run (c : Dev nD) (i : grid0.Coords)
    (arg2 : Memref sig .tc .vmem S1x2048x3 .f32) (harg2 : arg2.IsWhole)
    (arg3 : Memref sig .tc .vmem S1x3x2048 .f32) (harg3 : arg3.IsWhole)
    (arg4 : Memref sig .tc .vmem S1x3x128 .f32) (harg4 : arg4.IsWhole)
    (arg5 : Memref sig .tc .vmem S1x32x3x128 .f32) (harg5 : arg5.IsWhole)
    (arg6 : Memref sig .tc .vmem S1x3x128 .f32) (harg6 : arg6.IsWhole)
    (arg7 : Memref sig .tc .vmem S1x1x128 .f32) (harg7 : arg7.IsWhole)
    (arg8 : Memref sig .tc .vmem S1x1x128 .f32) (harg8 : arg8.IsWhole)
    (arg9 : Memref sig .tc .vmem S1x1x128 .f32) (harg9 : arg9.IsWhole)
    (arg10 : Memref sig .tc .vmem S1x1x128 .f32) (harg10 : arg10.IsWhole)
    (arg11 : Memref sig .tc .vmem S1x1x128 .f32) (harg11 : arg11.IsWhole)
    (arg12 : Memref sig .tc .vmem S1x1x128 .f32) (harg12 : arg12.IsWhole)
    (arg13 : Memref sig .tc .vmem S2048x128 .f32) (harg13 : arg13.IsWhole)
    (arg14 : Memref sig .tc .vmem S2048x128 .i32) (harg14 : arg14.IsWhole)
    (arg15 : Memref sig .tc .vmem S32x3x128 .f32) (harg15 : arg15.IsWhole)
    (arg16 : Memref sig .tc .vmem S3x128 .f32) (harg16 : arg16.IsWhole)
    (x0 : Vec F S1x2048x3 .f32) (x1 : Vec F S1x3x2048 .f32) (x2 : Vec F S1x3x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (iprop(owns (c : Thread nD τ) arg2 fullShare x0 ∗ owns (c : Thread nD τ) arg3 fullShare x1 ∗ owns (c : Thread nD τ) arg4 fullShare x2 ∗ owns (c : Thread nD τ) arg5 fullShare (outCent x0 x1 x2) ∗ owns (c : Thread nD τ) arg6 fullShare (outMean x0 x1 x2) ∗ owns (c : Thread nD τ) arg7 fullShare (outCov rowX rowX x0 x1 x2) ∗ owns (c : Thread nD τ) arg8 fullShare (outCov rowX rowY x0 x1 x2) ∗ owns (c : Thread nD τ) arg9 fullShare (outCov rowX rowZ x0 x1 x2) ∗ owns (c : Thread nD τ) arg10 fullShare (outCov rowY rowY x0 x1 x2) ∗ owns (c : Thread nD τ) arg11 fullShare (outCov rowY rowZ x0 x1 x2) ∗ owns (c : Thread nD τ) arg12 fullShare (outCov rowZ rowZ x0 x1 x2) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
      ⊢ wp frame (wpE (defs₀ (F := F)) Variants.none c none) E (cc0_knn_body i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_knn_body_eq_skeleton]; unfold cc0_knn_body_skel
  simp only [k0_part19_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton]
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%ds0, %fs0, -, HS0⟩, ⟨%ds1, %fs1, -, HS1⟩, ⟨%ds2, %fs2, -, HS2⟩, ⟨%ds3, %fs3, -, HS3⟩, Hk⟩
  obtain rfl := harg2.eq_unread hf0; obtain rfl := harg3.eq_unread hf1; obtain rfl := harg4.eq_unread hf2
  sl_exec
  have e0 : View.readAt (Elt F) arg2.view (Rect.unit ![0, 0, 0] S1x2048x3.size inb_S1x2048x3_S1x2048x3_0_0_0).toLoadRect
      (harg2.unread x0) = x0 := by rw [View.readAt_full, hf0]
  have e1 : View.readAt (Elt F) arg3.view (Rect.unit ![0, 0, 0] S1x3x2048.size inb_S1x3x2048_S1x3x2048_0_0_0).toLoadRect
      (harg3.unread x1) = x1 := by rw [View.readAt_full, hf1]
  have e2 : View.readAt (Elt F) arg4.view (Rect.unit ![0, 0, 0] S1x3x128.size inb_S1x3x128_S1x3x128_0_0_0).toLoadRect
      (harg4.unread x2) = x2 := by rw [View.readAt_full, hf2]
  sl_for (roundInv c arg13 arg14 arg15 arg16
    (k0_pay2 (View.readAt (Elt F) arg3.view (Rect.unit ![0, 0, 0] S1x3x2048.size inb_S1x3x2048_S1x3x2048_0_0_0).toLoadRect
      (harg3.unread x1)))
    (k0_pay3 (View.readAt (Elt F) arg2.view (Rect.unit ![0, 0, 0] S1x2048x3.size inb_S1x2048x3_S1x2048x3_0_0_0).toLoadRect
      (harg2.unread x0))
      (View.readAt (Elt F) arg4.view (Rect.unit ![0, 0, 0] S1x3x128.size inb_S1x3x128_S1x3x128_0_0_0).toLoadRect
      (harg4.unread x2)))) $$ [HS0 HS1 HS2 HS3]
  · intro k acc
    exact round_step c E i arg2 harg2 arg3 harg3 arg4 harg4 arg5 harg5 arg6 harg6 arg7 harg7 arg8 harg8 arg9 harg9 arg10 harg10 arg11 harg11 arg12 harg12 arg13 harg13 arg14 harg14 arg15 harg15 arg16 harg16 _ _ k acc
  · unfold roundInv
    isplitl [HS0]
    · iexists _; isplitl [HS0]; · iexact HS0
      ipureintro; exact View.read_writes_full _ _ _ _ _
    isplitl [HS1]
    · iexists _; isplitl [HS1]; · iexact HS1
      ipureintro; exact View.read_writes_full _ _ _ _ _
    isplitl [HS2]
    · iexists _; isplitl [HS2]; · iexact HS2
      ipureintro; intro x hx; exact absurd hx (Nat.not_lt_zero _)
    iexists _; isplitl [HS3]; · iexact HS3
    ipureintro; exact View.read_writes_full _ _ _ _ _
  iintro %acc HI
  rw [e0, e1, e2]
  unfold roundInv
  icases HI with ⟨⟨%g13, HS0, %h13⟩, ⟨%g14, HS1, %h14⟩, ⟨%g15, HS2, %h15⟩, ⟨%g16, HS3, %h16⟩⟩
  have h15' : arg15.view.read (Elt F) g15 = slabs (k0_pay2 x1) (k0_pay3 x0 x2) :=
    funext fun x => h15 x (lt_of_lt_of_eq (x 0).isLt (by decide +kernel))
  replace h16 : arg16.view.read (Elt F) g16 = sumAt (k0_pay2 x1) (k0_pay3 x0 x2) 32 :=
    h16.trans (congrArg _ (by decide +kernel))
  obtain rfl := harg15.eq_unread h15'
  obtain rfl := harg16.eq_unread h16
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; swap; · iexact H3
    ipureintro
    refine ((congrArg (fun L => arg5.view.read (Elt F) (arg5.view.writes (Elt F) f3 L)) ?hL).trans
      (cent_read_all arg5 f3 (fun t : ℕ => View.readAt (Elt F) arg15.view
      (Rect.unit (s := S32x3x128) ![t % 32, 0, 0] S1x3x128.size (slab_rect t)).toLoadRect (harg15.unread (slabs (k0_pay2 x1) (k0_pay3 x0 x2))))
      (k0_pay11 (View.readAt (Elt F) arg16.view (Rect.unit ![0, 0] S3x128.size inb_S3x128_S3x128_0_0).toLoadRect
         (harg16.unread (sumAt (k0_pay2 x1) (k0_pay3 x0 x2) 32)))))).trans ?_
    · iterate 32 refine centPieces_step rfl ?_
      rfl
    rw [slab_read, View.readAt_full, harg16.read_unread]
    rfl
  isplitl [H4]
  · iexists _; isplitr; swap; · iexact H4
    ipureintro
    refine (View.read_writes_full (s := S1x3x128) _ _ _ _ _).trans ?_
    rw [View.readAt_full, harg16.read_unread]
    rfl
  isplitl [H5]
  · iexists _; isplitr; swap; · iexact H5
    ipureintro
    refine (View.read_writes_full (s := S1x1x128) _ _ _ _ _).trans ?_
    refine Eq.trans (b := covBlock rowX rowX (fun t : ℕ => View.readAt (Elt F) arg15.view
      (Rect.unit (s := S32x3x128) ![t % 32, 0, 0] S1x3x128.size (slab_rect t)).toLoadRect (harg15.unread (slabs (k0_pay2 x1) (k0_pay3 x0 x2))))
      (k0_pay11 (View.readAt (Elt F) arg16.view (Rect.unit ![0, 0] S3x128.size inb_S3x128_S3x128_0_0).toLoadRect
         (harg16.unread (sumAt (k0_pay2 x1) (k0_pay3 x0 x2) 32))))) ?_ ?_
    · refine congrArg (fun v => shapeCast S1x1x128 v shapeCasts_S1x128_S1x1x128) ?_
      iterate 32 refine covAt_step ?_ rfl
      rfl
    rw [slab_read, View.readAt_full, harg16.read_unread]
    rfl
  isplitl [H6]
  · iexists _; isplitr; swap; · iexact H6
    ipureintro
    refine (View.read_writes_full (s := S1x1x128) _ _ _ _ _).trans ?_
    refine Eq.trans (b := covBlock rowX rowY (fun t : ℕ => View.readAt (Elt F) arg15.view
      (Rect.unit (s := S32x3x128) ![t % 32, 0, 0] S1x3x128.size (slab_rect t)).toLoadRect (harg15.unread (slabs (k0_pay2 x1) (k0_pay3 x0 x2))))
      (k0_pay11 (View.readAt (Elt F) arg16.view (Rect.unit ![0, 0] S3x128.size inb_S3x128_S3x128_0_0).toLoadRect
         (harg16.unread (sumAt (k0_pay2 x1) (k0_pay3 x0 x2) 32))))) ?_ ?_
    · refine congrArg (fun v => shapeCast S1x1x128 v shapeCasts_S1x128_S1x1x128) ?_
      iterate 32 refine covAt_step ?_ rfl
      rfl
    rw [slab_read, View.readAt_full, harg16.read_unread]
    rfl
  isplitl [H7]
  · iexists _; isplitr; swap; · iexact H7
    ipureintro
    refine (View.read_writes_full (s := S1x1x128) _ _ _ _ _).trans ?_
    refine Eq.trans (b := covBlock rowX rowZ (fun t : ℕ => View.readAt (Elt F) arg15.view
      (Rect.unit (s := S32x3x128) ![t % 32, 0, 0] S1x3x128.size (slab_rect t)).toLoadRect (harg15.unread (slabs (k0_pay2 x1) (k0_pay3 x0 x2))))
      (k0_pay11 (View.readAt (Elt F) arg16.view (Rect.unit ![0, 0] S3x128.size inb_S3x128_S3x128_0_0).toLoadRect
         (harg16.unread (sumAt (k0_pay2 x1) (k0_pay3 x0 x2) 32))))) ?_ ?_
    · refine congrArg (fun v => shapeCast S1x1x128 v shapeCasts_S1x128_S1x1x128) ?_
      iterate 32 refine covAt_step ?_ rfl
      rfl
    rw [slab_read, View.readAt_full, harg16.read_unread]
    rfl
  isplitl [H8]
  · iexists _; isplitr; swap; · iexact H8
    ipureintro
    refine (View.read_writes_full (s := S1x1x128) _ _ _ _ _).trans ?_
    refine Eq.trans (b := covBlock rowY rowY (fun t : ℕ => View.readAt (Elt F) arg15.view
      (Rect.unit (s := S32x3x128) ![t % 32, 0, 0] S1x3x128.size (slab_rect t)).toLoadRect (harg15.unread (slabs (k0_pay2 x1) (k0_pay3 x0 x2))))
      (k0_pay11 (View.readAt (Elt F) arg16.view (Rect.unit ![0, 0] S3x128.size inb_S3x128_S3x128_0_0).toLoadRect
         (harg16.unread (sumAt (k0_pay2 x1) (k0_pay3 x0 x2) 32))))) ?_ ?_
    · refine congrArg (fun v => shapeCast S1x1x128 v shapeCasts_S1x128_S1x1x128) ?_
      iterate 32 refine covAt_step ?_ rfl
      rfl
    rw [slab_read, View.readAt_full, harg16.read_unread]
    rfl
  isplitl [H9]
  · iexists _; isplitr; swap; · iexact H9
    ipureintro
    refine (View.read_writes_full (s := S1x1x128) _ _ _ _ _).trans ?_
    refine Eq.trans (b := covBlock rowY rowZ (fun t : ℕ => View.readAt (Elt F) arg15.view
      (Rect.unit (s := S32x3x128) ![t % 32, 0, 0] S1x3x128.size (slab_rect t)).toLoadRect (harg15.unread (slabs (k0_pay2 x1) (k0_pay3 x0 x2))))
      (k0_pay11 (View.readAt (Elt F) arg16.view (Rect.unit ![0, 0] S3x128.size inb_S3x128_S3x128_0_0).toLoadRect
         (harg16.unread (sumAt (k0_pay2 x1) (k0_pay3 x0 x2) 32))))) ?_ ?_
    · refine congrArg (fun v => shapeCast S1x1x128 v shapeCasts_S1x128_S1x1x128) ?_
      iterate 32 refine covAt_step ?_ rfl
      rfl
    rw [slab_read, View.readAt_full, harg16.read_unread]
    rfl
  isplitl [H10]
  · iexists _; isplitr; swap; · iexact H10
    ipureintro
    refine (View.read_writes_full (s := S1x1x128) _ _ _ _ _).trans ?_
    refine Eq.trans (b := covBlock rowZ rowZ (fun t : ℕ => View.readAt (Elt F) arg15.view
      (Rect.unit (s := S32x3x128) ![t % 32, 0, 0] S1x3x128.size (slab_rect t)).toLoadRect (harg15.unread (slabs (k0_pay2 x1) (k0_pay3 x0 x2))))
      (k0_pay11 (View.readAt (Elt F) arg16.view (Rect.unit ![0, 0] S3x128.size inb_S3x128_S3x128_0_0).toLoadRect
         (harg16.unread (sumAt (k0_pay2 x1) (k0_pay3 x0 x2) 32))))) ?_ ?_
    · refine congrArg (fun v => shapeCast S1x1x128 v shapeCasts_S1x128_S1x1x128) ?_
      iterate 32 refine covAt_step ?_ rfl
      rfl
    rw [slab_read, View.readAt_full, harg16.read_unread]
    rfl
  isplitl [HS0]
  · iexists _, _; isplitr; swap; · iexact HS0
    ipureintro; rfl
  isplitl [HS1]
  · iexists _, _; isplitr; swap; · iexact HS1
    ipureintro; rfl
  isplitl [HS2]
  · iexists _, _; isplitr; swap; · iexact HS2
    ipureintro; rfl
  iexists _, _; isplitr; swap; · iexact HS3
  ipureintro; rfl

end Cert.KernelIdeal.Knn

end
-- ==== Proof.Run.lean ====
/-
  THE RUN: what each buffer of the pipeline holds after each point, the body's triple (`Body.lean`) as the pipeline's
  obligation, and the launch. From it: the argument unchanged, every counter zero at the end.
-/
module

public import proofs.«01_k».proof.Proof.Body
public import Idealize.ShloMosaic.Lib.Claim

@[expose] public section

set_option maxRecDepth 16384

noncomputable section

namespace Cert.KernelIdeal.Knn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffers the body is called with -/

/-- Window 0's staging buffer at a point. -/
abbrev stg0 (t : Fin cfg0.N) : Memref sig .tc .vmem S1x2048x3 .f32 := win0_0.stage (cfg0.slots t 0)
/-- Window 1's staging buffer at a point. -/
abbrev stg1 (t : Fin cfg0.N) : Memref sig .tc .vmem S1x3x2048 .f32 := win0_1.stage (cfg0.slots t 1)
/-- Window 2's staging buffer at a point. -/
abbrev stg2 (t : Fin cfg0.N) : Memref sig .tc .vmem S1x3x128 .f32 := win0_2.stage (cfg0.slots t 2)
/-- Window 3's staging buffer at a point. -/
abbrev stg3 (t : Fin cfg0.N) : Memref sig .tc .vmem S1x32x3x128 .f32 := win0_3.stage (cfg0.slots t 3)
/-- Window 4's staging buffer at a point. -/
abbrev stg4 (t : Fin cfg0.N) : Memref sig .tc .vmem S1x3x128 .f32 := win0_4.stage (cfg0.slots t 4)
/-- Window 5's staging buffer at a point. -/
abbrev stg5 (t : Fin cfg0.N) : Memref sig .tc .vmem S1x1x128 .f32 := win0_5.stage (cfg0.slots t 5)
/-- Window 6's staging buffer at a point. -/
abbrev stg6 (t : Fin cfg0.N) : Memref sig .tc .vmem S1x1x128 .f32 := win0_6.stage (cfg0.slots t 6)
/-- Window 7's staging buffer at a point. -/
abbrev stg7 (t : Fin cfg0.N) : Memref sig .tc .vmem S1x1x128 .f32 := win0_7.stage (cfg0.slots t 7)
/-- Window 8's staging buffer at a point. -/
abbrev stg8 (t : Fin cfg0.N) : Memref sig .tc .vmem S1x1x128 .f32 := win0_8.stage (cfg0.slots t 8)
/-- Window 9's staging buffer at a point. -/
abbrev stg9 (t : Fin cfg0.N) : Memref sig .tc .vmem S1x1x128 .f32 := win0_9.stage (cfg0.slots t 9)
/-- Window 10's staging buffer at a point. -/
abbrev stg10 (t : Fin cfg0.N) : Memref sig .tc .vmem S1x1x128 .f32 := win0_10.stage (cfg0.slots t 10)
/-- Scratch operand 0. -/
abbrev scr0 : Memref sig .tc .vmem S2048x128 .f32 := Memref.whole cc0_scratch0
/-- Scratch operand 1. -/
abbrev scr1 : Memref sig .tc .vmem S2048x128 .i32 := Memref.whole cc0_scratch1
/-- Scratch operand 2. -/
abbrev scr2 : Memref sig .tc .vmem S32x3x128 .f32 := Memref.whole cc0_scratch2
/-- Scratch operand 3. -/
abbrev scr3 : Memref sig .tc .vmem S3x128 .f32 := Memref.whole cc0_scratch3

/-- Between points the scratch is owned at some contents, and the generator register at some value. -/
theorem between_eq (c : Dev nD) :
    (Pipeline.ΦA spec0 c : sProp 𝕄)
      = iprop(iprop((∃ d, owns (c : Thread nD τ) scr0 fullShare d) ∗ (∃ d, owns (c : Thread nD τ) scr1 fullShare d) ∗ (∃ d, owns (c : Thread nD τ) scr2 fullShare d) ∗ (∃ d, owns (c : Thread nD τ) scr3 fullShare d)) ∗ (∃ r, prngReg c r)) := by
  unfold Pipeline.ΦA; rw [scopedRest0_eq]; simp only [scr0, scr1, scr2, scr3, owns_whole]; try rfl

/-! ## What the buffers hold -/

/-- The arrays as the region finds them; after a point each input's buffer at its block, each output's at the body's
    function of the three input blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outCent (iblk m c 0 t) (iblk m c 1 t) (iblk m c 2 t)
    | ⟨4, _⟩ => outMean (iblk m c 0 t) (iblk m c 1 t) (iblk m c 2 t)
    | ⟨5, _⟩ => outCov rowX rowX (iblk m c 0 t) (iblk m c 1 t) (iblk m c 2 t)
    | ⟨6, _⟩ => outCov rowX rowY (iblk m c 0 t) (iblk m c 1 t) (iblk m c 2 t)
    | ⟨7, _⟩ => outCov rowX rowZ (iblk m c 0 t) (iblk m c 1 t) (iblk m c 2 t)
    | ⟨8, _⟩ => outCov rowY rowY (iblk m c 0 t) (iblk m c 1 t) (iblk m c 2 t)
    | ⟨9, _⟩ => outCov rowY rowZ (iblk m c 0 t) (iblk m c 1 t) (iblk m c 2 t)
    | ⟨10, _⟩ => outCov rowZ rowZ (iblk m c 0 t) (iblk m c 1 t) (iblk m c 2 t)
  Φ _ := Pipeline.ΦA spec0 c
  q w := Pipeline.shareOf spec0 w
  owed _ := 0

/-- The arrays at entry. -/
theorem entry_eq (c : Dev nD) (w : Fin cfg0.W) : (dats m 0 c).A w = V m c (Pipeline.arrRef spec0 w) := by
  dsimp only [dats]

/-- Window 0 after a point. -/
theorem left0 (c : Dev nD) (t : Fin cfg0.N) : (dats m 0 c).after 0 t = iblk m c 0 t := by dsimp only [dats]
/-- Window 1 after a point. -/
theorem left1 (c : Dev nD) (t : Fin cfg0.N) : (dats m 0 c).after 1 t = iblk m c 1 t := by dsimp only [dats]
/-- Window 2 after a point. -/
theorem left2 (c : Dev nD) (t : Fin cfg0.N) : (dats m 0 c).after 2 t = iblk m c 2 t := by dsimp only [dats]
/-- Window 3 after a point. -/
theorem left3 (c : Dev nD) (t : Fin cfg0.N) : (dats m 0 c).after 3 t = outCent (iblk m c 0 t) (iblk m c 1 t) (iblk m c 2 t) := by dsimp only [dats]
/-- Window 4 after a point. -/
theorem left4 (c : Dev nD) (t : Fin cfg0.N) : (dats m 0 c).after 4 t = outMean (iblk m c 0 t) (iblk m c 1 t) (iblk m c 2 t) := by dsimp only [dats]
/-- Window 5 after a point. -/
theorem left5 (c : Dev nD) (t : Fin cfg0.N) : (dats m 0 c).after 5 t = outCov rowX rowX (iblk m c 0 t) (iblk m c 1 t) (iblk m c 2 t) := by dsimp only [dats]
/-- Window 6 after a point. -/
theorem left6 (c : Dev nD) (t : Fin cfg0.N) : (dats m 0 c).after 6 t = outCov rowX rowY (iblk m c 0 t) (iblk m c 1 t) (iblk m c 2 t) := by dsimp only [dats]
/-- Window 7 after a point. -/
theorem left7 (c : Dev nD) (t : Fin cfg0.N) : (dats m 0 c).after 7 t = outCov rowX rowZ (iblk m c 0 t) (iblk m c 1 t) (iblk m c 2 t) := by dsimp only [dats]
/-- Window 8 after a point. -/
theorem left8 (c : Dev nD) (t : Fin cfg0.N) : (dats m 0 c).after 8 t = outCov rowY rowY (iblk m c 0 t) (iblk m c 1 t) (iblk m c 2 t) := by dsimp only [dats]
/-- Window 9 after a point. -/
theorem left9 (c : Dev nD) (t : Fin cfg0.N) : (dats m 0 c).after 9 t = outCov rowY rowZ (iblk m c 0 t) (iblk m c 1 t) (iblk m c 2 t) := by dsimp only [dats]
/-- Window 10 after a point. -/
theorem left10 (c : Dev nD) (t : Fin cfg0.N) : (dats m 0 c).after 10 t = outCov rowZ rowZ (iblk m c 0 t) (iblk m c 1 t) (iblk m c 2 t) := by dsimp only [dats]
/-- Input window 0 before a point. -/
theorem found0 (c : Dev nD) (t : Fin cfg0.N) (d) : (dats m 0 c).before 0 t d = iblk m c 0 t :=
  before0_0_of m (dats m 0 c) (entry_eq m c 0) (left0 m c) t d
/-- Input window 1 before a point. -/
theorem found1 (c : Dev nD) (t : Fin cfg0.N) (d) : (dats m 0 c).before 1 t d = iblk m c 1 t :=
  before0_1_of m (dats m 0 c) (entry_eq m c 1) (left1 m c) t d
/-- Input window 2 before a point. -/
theorem found2 (c : Dev nD) (t : Fin cfg0.N) (d) : (dats m 0 c).before 2 t d = iblk m c 2 t :=
  before0_2_of m (dats m 0 c) (entry_eq m c 2) (left2 m c) t d

/-! ## The obligation -/

/-- What the body is called with at a point. -/
def handed (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d))
    ∗ (∃ d, owns (c : Thread nD τ) (stg5 t) fullShare ((dats m 0 c).before 5 t d))
    ∗ (∃ d, owns (c : Thread nD τ) (stg6 t) fullShare ((dats m 0 c).before 6 t d))
    ∗ (∃ d, owns (c : Thread nD τ) (stg7 t) fullShare ((dats m 0 c).before 7 t d))
    ∗ (∃ d, owns (c : Thread nD τ) (stg8 t) fullShare ((dats m 0 c).before 8 t d))
    ∗ (∃ d, owns (c : Thread nD τ) (stg9 t) fullShare ((dats m 0 c).before 9 t d))
    ∗ (∃ d, owns (c : Thread nD τ) (stg10 t) fullShare ((dats m 0 c).before 10 t d)))

/-- What it hands back. -/
def returned (c : Dev nD) (t : Fin cfg0.N) : sProp 𝕄 :=
  iprop((dats m 0 c).Φ t.succ ∗ (dats m 0 c).owesAt () t.succ
    ∗ owns (c : Thread nD τ) (stg0 t) fullShare ((dats m 0 c).after 0 t)
    ∗ owns (c : Thread nD τ) (stg1 t) fullShare ((dats m 0 c).after 1 t)
    ∗ owns (c : Thread nD τ) (stg2 t) fullShare ((dats m 0 c).after 2 t)
    ∗ owns (c : Thread nD τ) (stg3 t) fullShare ((dats m 0 c).after 3 t)
    ∗ owns (c : Thread nD τ) (stg4 t) fullShare ((dats m 0 c).after 4 t)
    ∗ owns (c : Thread nD τ) (stg5 t) fullShare ((dats m 0 c).after 5 t)
    ∗ owns (c : Thread nD τ) (stg6 t) fullShare ((dats m 0 c).after 6 t)
    ∗ owns (c : Thread nD τ) (stg7 t) fullShare ((dats m 0 c).after 7 t)
    ∗ owns (c : Thread nD τ) (stg8 t) fullShare ((dats m 0 c).after 8 t)
    ∗ owns (c : Thread nD τ) (stg9 t) fullShare ((dats m 0 c).after 9 t)
    ∗ owns (c : Thread nD τ) (stg10 t) fullShare ((dats m 0 c).after 10 t))

set_option maxHeartbeats 1600000 in
/-- The body's triple at a point. -/
theorem body_at (c : Dev nD) (t : Fin cfg0.N) :
    handed m c t ⊢ wp frame (wpE (defs₀ (F := F)) Variants.none c none) Set.univ (bodyAt0 t) (fun _ => returned m c t) := by
  unfold handed returned bodyAt0
  simp only [found0, found1, found2]
  rw [show (dats m 0 c).Φ t.succ = (dats m 0 c).Φ t.castSucc from rfl,
    show (dats m 0 c).owesAt () t.succ = (dats m 0 c).owesAt () t.castSucc from rfl,
    left0, left1, left2, left3, left4, left5, left6, left7, left8, left9, left10]
  rw [show (dats m 0 c).Φ t.castSucc = Pipeline.ΦA spec0 c from rfl, between_eq]
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (body_run c (grid0.coords t) _ _ _ _ _ _ _ _ _ _ _ _ _ _ _ _ _ _ _ _ _ _ _ _ _ _ _ _ _ _ (iblk m c 0 t) (iblk m c 1 t) (iblk m c 2 t) Set.univ _)

  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  isplitl [HS0]; · iexact HS0
  isplitl [HS1]; · iexact HS1
  isplitl [HS2]; · iexact HS2
  isplitl [HS3]; · iexact HS3
  iintro ⟨H0, H1, H2, H3, H4, H5, H6, H7, H8, H9, H10, HS0, HS1, HS2, HS3⟩
  isplitl [HS0 HS1 HS2 HS3 Hg]
  · isplitl [HS0 HS1 HS2 HS3]
    · isplitl [HS0]
      · iexact HS0
      isplitl [HS1]
      · iexact HS1
      isplitl [HS2]
      · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The pipeline's call at a point is the body on the point's buffers. -/
theorem call_eq (t : Fin cfg0.N) : defs₀ (F := F) .tc cfg0.body (cfg0.bodyArgs t (cfg0.slots t)) = bodyAt0 t := by
  unfold defs₀; rw [Defs.onTc_tc]

/-- The obligation. -/
theorem obligation (c : Dev nD) : BodyObligation (dats (F := F) m 0 c) (defs₀ (F := F)) Variants.none () Set.univ := fun t => by
  rw [bigSep_W0, bigSep_W0, call_eq]
  exact triple_restated (body_at m c t) rfl .rfl fun _ => .rfl

/-! ## The launch -/

set_option backward.isDefEq.respectTransparency.types false in
set_option maxHeartbeats 800000 in
/-- Every fair execution ends, with every array at what its write-backs leave and every counter zero. -/
theorem launch : θ_run defs (onTc (τ := τ) (main (F := F))) (s₀ m ρ) (fun r =>
    (Pipeline.FramePost cfgs (dats m) 0 (Pipeline.afterTail₀ cfgs (dats m) 0 (V0 m) [hostOps1])) r ∧ r.2.sem = fun _ => 0) :=
  Pipeline.θ_run_frame_around_shared (Q' := _) cfgs (dats m) (0 : Fin 1) launch₀0 defs₀ Variants.none m ρ main
    (hbody := fun c => (obligation m c).loose) (hq := fun _ _ _ => rfl)
    (howed := fun _ _ => rfl) (V₀ := V0 m) (opss := [hostOps1]) (hsub := sfx_sub) (hfresh := sfx_fresh) (hkeep := sfx_keeps)
    (hmain := hmain m Variants.none) (hA := entry_eq m) (hΦ := fun _ _ => rfl)

/-- The argument ends unchanged, the counters at zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  θ_run_and (frame_of m ρ (dats m) (entry_eq m) ((θ_run defs _ _).mono (fun _ h => h.1) (launch m ρ)))
    ((θ_run defs _ _).mono (fun _ h => h.2) (launch m ρ))

end Cert.KernelIdeal.Knn

end
-- ==== Proof.Select.lean ====
/-
  REPEATED MAXIMUM IS A STABLE SORT'S PREFIX. A column of extended reals, none of them `⊥`; each round picks the first
  position of a greatest entry and overwrites it with `⊥`. The position picked in round `k` is the `k`-th of the stable
  descending sort of the column.
-/
module

public import Idealize.ShloMosaic.Lib.SortPrefix
public import Mathlib.Data.EReal.Basic

@[expose] public section

noncomputable section

namespace Cert.Knn

open Idealize.ShloMosaic

variable {n : ℕ}

/-- Greater key first, equal keys by position. -/
def ahead (f : Fin n → EReal) (a b : Fin n) : Bool := decide (f b < f a) || (decide (f a = f b) && decide (a < b))

/-- It is a strict total order. -/
theorem ahead_total (f : Fin n → EReal) : StrictTotalBefore (ahead f) :=
  StrictTotalBefore.of_key_then_position (fun a b : EReal => decide (b < a)) f (fun a => by simp)
    (fun a b c h h' => by simp only [decide_eq_true_eq] at *; exact lt_trans h' h)
    (fun a b => by
      simp only [decide_eq_true_eq]
      rcases lt_trichotomy a b with h | h | h
      · exact Or.inr (Or.inr h)
      · exact Or.inr (Or.inl h)
      · exact Or.inl h)

/-- A stable sort of an increasing list of positions asks its comparator only of a later position against an earlier one. -/
theorem stableSort_increasing (R R' : Fin n → Fin n → Bool) (h : ∀ a b, a < b → R b a = R' b a) :
    ∀ l : List (Fin n), l.Pairwise (· < ·) → stableSort R l = stableSort R' l
  | [], _ => rfl
  | a :: l, hl => by
    rw [List.pairwise_cons] at hl
    unfold stableSort
    rw [stableSort_increasing R R' h l hl.2]
    have key : ∀ m : List (Fin n), (∀ b ∈ m, a < b) → insertBefore R a m = insertBefore R' a m := by
      intro m
      induction m with
      | nil => intro _; rfl
      | cons b m ih =>
        intro hm
        unfold insertBefore
        rw [h a b (hm b (List.mem_cons_self ..)), ih fun c hc => hm c (List.mem_cons_of_mem _ hc)]
    exact key _ fun b hb => hl.1 b ((perm_stableSort R' l).mem_iff.mp hb)

/-- Sorting by the keys alone, stably, is sorting by key and then position. -/
theorem sortedFrom_keys (f : Fin n → EReal) (k : Fin n) :
    sortedFrom (fun a b => decide (f b < f a)) k = sortedFrom (ahead f) k := by
  have e : sortPositions n (fun a b => decide (f b < f a)) = sortPositions n (ahead f) :=
    stableSort_increasing _ _ (fun a b hab => by simp [ahead, not_lt.mpr hab.le]) _ (List.pairwise_lt_finRange n)
  unfold sortedFrom
  simp only [List.get_eq_getElem, Fin.val_cast]
  congr 1

/-- THE SELECTION. -/
theorem picks_eq {K : ℕ} (hK : K ≤ n) (f : Fin n → EReal) (hf : ∀ p, f p ≠ ⊥)
    (col : ℕ → Fin n → EReal) (pick : ℕ → Fin n) (h0 : col 0 = f)
    (hmax : ∀ k p, col k p ≤ col k (pick k)) (hfirst : ∀ k p, col k p = col k (pick k) → pick k ≤ p)
    (hstep : ∀ k p, col (k + 1) p = if p = pick k then ⊥ else col k p) (i : Fin K) :
    sortedFrom (fun a b => decide (f b < f a)) (i.castLE hK) = pick i.val := by
  classical
  have hcol : ∀ k p, col k p = if ∃ j, j < k ∧ pick j = p then ⊥ else f p := by
    intro k
    induction k with
    | zero => intro p; rw [h0]; simp
    | succ k ih =>
      intro p
      rw [hstep, ih]
      by_cases hp : p = pick k
      · rw [if_pos hp, if_pos ⟨k, Nat.lt_succ_self k, hp.symm⟩]
      · rw [if_neg hp]
        by_cases hj : ∃ j, j < k ∧ pick j = p
        · obtain ⟨j, hj, e⟩ := hj
          rw [if_pos ⟨j, hj, e⟩, if_pos ⟨j, Nat.lt_succ_of_lt hj, e⟩]
        · rw [if_neg hj, if_neg]
          rintro ⟨j, hj', e⟩
          rcases Nat.lt_succ_iff_lt_or_eq.mp hj' with h | h
          · exact hj ⟨j, h, e⟩
          · exact hp (h ▸ e.symm)
  have hfree : ∀ k, k < n → ∃ p, ∀ j, j < k → pick j ≠ p := by
    intro k hk
    have hc : ((Finset.range k).image pick).card < (Finset.univ : Finset (Fin n)).card := by
      rw [Finset.card_univ, Fintype.card_fin]
      exact lt_of_le_of_lt Finset.card_image_le (by rw [Finset.card_range]; exact hk)
    obtain ⟨p, -, hp⟩ := Finset.exists_mem_notMem_of_card_lt_card hc
    refine ⟨p, fun j hj e => hp ?_⟩
    exact Finset.mem_image.mpr ⟨j, Finset.mem_range.mpr hj, e⟩
  have hkeep : ∀ k p, (∀ j, j < k → pick j ≠ p) → col k p = f p := fun k p h => by
    rw [hcol, if_neg]; rintro ⟨j, hj, e⟩; exact h j hj e
  have hnew : ∀ k, k < n → ∀ j, j < k → pick j ≠ pick k := by
    intro k hk j hj e
    obtain ⟨p, hp⟩ := hfree k hk
    have h1 := hmax k p
    rw [hkeep k p hp, hcol k (pick k), if_pos ⟨j, hj, e⟩] at h1
    exact hf p (le_bot_iff.mp h1)
  have hfp : ∀ k, k < n → col k (pick k) = f (pick k) := fun k hk => hkeep k _ (hnew k hk)
  have hlast : ∀ (k : ℕ) (p : Fin n), k < n → (∀ j, j < k → pick j ≠ p) → ahead f p (pick k) = false := by
    intro k p hk hp
    have h1 := hmax k p
    have h2 := hfirst k p
    rw [hkeep k p hp, hfp k hk] at h1 h2
    simp only [ahead, Bool.or_eq_false_iff, Bool.and_eq_false_iff, decide_eq_false_iff_not, not_lt]
    refine ⟨h1, ?_⟩
    by_cases e : f p = f (pick k)
    · exact Or.inr (h2 e)
    · exact Or.inl e
  rw [sortedFrom_keys]
  refine (ahead_total f).sortedFrom_eq_of_prefix hK (fun j : Fin K => pick j.val) ?_ ?_ ?_ i
  · intro a b e
    rcases lt_trichotomy a.val b.val with h | h | h
    · exact absurd e (hnew b.val (lt_of_lt_of_le b.isLt hK) a.val h)
    · exact Fin.ext h
    · exact absurd e.symm (hnew a.val (lt_of_lt_of_le a.isLt hK) b.val h)
  · intro a b hab
    exact hlast a.val _ (lt_of_lt_of_le a.isLt hK)
      fun j hj => hnew b.val (lt_of_lt_of_le b.isLt hK) j (lt_trans hj hab)
  · intro a p hp
    exact hlast a.val p (lt_of_lt_of_le a.isLt hK) fun j hj => hp ⟨j, lt_trans hj a.isLt⟩

end Cert.Knn

end
-- ==== Proof.Pick.lean ====
/-
  ONE ROUND'S CHOICE: the first position of a greatest entry of a column, as the kernel computes it — the maximum, then the
  least of the positions (as signed words) whose entry equals it.
-/
module

public import Idealize.ShloMosaic.Lib.Pointwise
public import Idealize.ShloMosaic.PureOps.Ideal.Laws
public import Idealize.ShloMosaic.PureOps.Reduce
public import Mathlib.Data.EReal.Basic

@[expose] public section

noncomputable section

namespace Cert.Knn

open Idealize.ShloMosaic

/-- A column has a first position of a greatest entry. -/
theorem exists_firstMax (d : Fin 2048 → EReal) : ∃ p, (∀ q, d q ≤ d p) ∧ ∀ q, d q = d p → p ≤ q := by
  obtain ⟨p₀, -, h₀⟩ := Finset.exists_max_image Finset.univ d ⟨0, Finset.mem_univ _⟩
  have hne : (Finset.univ.filter fun q => d q = d p₀).Nonempty := ⟨p₀, by simp⟩
  refine ⟨(Finset.univ.filter fun q => d q = d p₀).min' hne, ?_, ?_⟩
  all_goals
    have hmem := (Finset.mem_filter.mp (Finset.min'_mem _ hne)).2
    intro q
    rw [hmem]
  · exact h₀ q (Finset.mem_univ _)
  · intro hq
    exact Finset.min'_le _ q (by simpa using hq)

/-- The first position of a greatest entry. -/
def firstMax (d : Fin 2048 → EReal) : Fin 2048 := (exists_firstMax d).choose

theorem firstMax_max (d : Fin 2048 → EReal) (q : Fin 2048) : d q ≤ d (firstMax d) := (exists_firstMax d).choose_spec.1 q

theorem firstMax_first (d : Fin 2048 → EReal) (q : Fin 2048) (h : d q = d (firstMax d)) : firstMax d ≤ q :=
  (exists_firstMax d).choose_spec.2 q h

/-- The running maximum from `⊥` is the greatest entry. -/
theorem fold_max_eq (d : Fin 2048 → EReal) : Finset.fold max ⊥ d Finset.univ = d (firstMax d) := by
  apply le_antisymm
  · rw [Finset.fold_max_le]
    exact ⟨bot_le, fun q _ => firstMax_max d q⟩
  · rw [Finset.le_fold_max]
    exact Or.inr ⟨_, Finset.mem_univ _, le_rfl⟩

/-- A small natural number survives the round trip through a signed word. -/
theorem toInt_small {k : ℕ} (hk : k ≤ 2048) : (BitVec.ofNat 32 k).toInt = k := by
  have h : ((2 ^ 32 : ℕ) : ℤ) = 4294967296 := by norm_num
  rw [BitVec.toInt_eq_toNat_bmod, BitVec.toNat_ofNat, Nat.mod_eq_of_lt (by omega), Int.bmod_def, h]
  split <;> omega

/-- The signed minimum of words is the minimum of what they stand for. -/
theorem toInt_minsi (x y : BitVec 32) : (IntOp.minsi x y).toInt = min x.toInt y.toInt := by
  unfold IntOp.minsi
  rw [BitVec.slt_eq_decide]
  split <;> rename_i h <;> simp at h <;> omega

/-- The least of the positions of the greatest entry, over words: the first such position's word. -/
theorem fold_minsi_eq (d : Fin 2048 → EReal) :
    Finset.fold IntOp.minsi 2147483647#32 (fun q : Fin 2048 => if d q = d (firstMax d) then BitVec.ofNat 32 q.val else 2048#32)
      Finset.univ = BitVec.ofNat 32 (firstMax d).val := by
  apply BitVec.eq_of_toInt_eq
  rw [← Finset.fold_hom (op' := min) (m := BitVec.toInt) toInt_minsi, toInt_small (firstMax d).isLt.le]
  apply le_antisymm
  · rw [Finset.fold_min_le]
    refine Or.inr ⟨firstMax d, Finset.mem_univ _, ?_⟩
    rw [if_pos rfl, toInt_small (firstMax d).isLt.le]
  · rw [Finset.le_fold_min]
    have hlt := (firstMax d).isLt
    refine ⟨?_, fun q _ => ?_⟩
    · have e : (2147483647#32 : BitVec 32).toInt = 2147483647 := by decide
      rw [e]; omega
    · split
      · rename_i h
        rw [toInt_small q.isLt.le]
        exact_mod_cast firstMax_first d q h
      · have e : (2048#32 : BitVec 32).toInt = 2048 := by decide
        rw [e]; omega

/-- Small numbers' words are equal where the numbers are. -/
theorem word_eq {p q : Fin 2048} : BitVec.ofNat 32 p.val = BitVec.ofNat 32 q.val ↔ p = q := by
  constructor
  · intro h
    have h' := congrArg BitVec.toInt h
    rw [toInt_small p.isLt.le, toInt_small q.isLt.le] at h'
    exact Fin.ext (by exact_mod_cast h')
  · rintro rfl; rfl

/-- A sum that weighs one position by one and every other by zero. -/
theorem sum_pick (f : Fin 2048 → EReal) (p : Fin 2048) : (∑ x, f x * (if x = p then 1 else 0)) = f p := by
  simp

end Cert.Knn

end
-- ==== Proof.Values.lean ====
/-
  THE KERNEL'S BLOCKS AT AN INDEX: what one run of the body leaves in its output blocks, when its input blocks are one cloud,
  its transpose and 128 of its points, are the common values of `Spec.lean`.
-/
module

public import proofs.«01_k».proof.Proof.Body
public import proofs.«01_k».proof.Proof.Select
public import proofs.«01_k».proof.Proof.Spec
public import proofs.«01_k».proof.Proof.Pick
public import Idealize.ShloMosaic.Lib.Pointwise
public import Idealize.ShloMosaic.PureOps.Ideal.Laws
public import Idealize.ShloMosaic.PureOps.Reduce

@[expose] public section

set_option maxRecDepth 16384

noncomputable section

namespace Cert.KernelIdeal.Knn

open Idealize.ShloMosaic Cert.KernelIdeal.Gen
open Cert.Knn

theorem pay2_at (x1 : FVec Ideal S1x3x2048 .f32) (a : Fin 3) (p : Fin 2048) :
    k0_pay2 (F := Ideal) x1 (ix2 a p) = x1 (ix3 0 a p) := by
  pointwise [k0_pay2]

theorem pay3_at (x0 : FVec Ideal S1x2048x3 .f32) (x2 : FVec Ideal S1x3x128 .f32) (p : Fin 2048) (l : Fin 128) :
    k0_pay3 (F := Ideal) x0 x2 (ix2 p l)
      = 0 - (∑ x, x2 (ix3 0 x l) * x2 (ix3 0 x l)
          - Ideal.ofBits .f32 0x40000000#32 * ∑ x, x0 (ix3 0 p x) * x2 (ix3 0 x l)
          + ∑ x, x0 (ix3 0 p x) * x0 (ix3 0 p x)) := by
  pointwise [k0_pay3]

theorem pay4_at (p : Fin 2048) (l : Fin 128) : k0_pay4 (ix2 p l) = BitVec.ofNat 32 p.val := by
  pointwise [k0_pay4]

theorem neg_inf_eq : Ideal.ofBits .f32 0xFF800000#32 = ⊥ := by simp [Ideal.ofBits, Ideal.ieee]

/-- The chosen position's flag. -/
theorem pay6_at (D : FVec Ideal S2048x128 .f32) (p : Fin 2048) (l : Fin 128) :
    k0_pay6 (F := Ideal) D k0_pay4 (ix2 p l)
      = if p = firstMax (fun x => D (ix2 x l)) then 1#1 else 0#1 := by
  pointwise [k0_pay6]
  simp only [pay4_at]
  rw [neg_inf_eq, fold_max_eq, fold_minsi_eq]
  by_cases h : p = firstMax (fun x => D (ix2 x l))
  · rw [if_pos h, ← h]
    show BitVec.ofBool (_ == _) = 1#1
    simp
  · rw [if_neg h]
    show BitVec.ofBool (_ == _) = 0#1
    rw [beq_eq_false_iff_ne.mpr (fun e => h (word_eq.mp e))]
    rfl

/-- A round's mask. -/
theorem pay7_at (D : FVec Ideal S2048x128 .f32) (p : Fin 2048) (l : Fin 128) :
    k0_pay7 (F := Ideal) D k0_pay4 (ix2 p l)
      = if p = firstMax (fun x => D (ix2 x l)) then ⊥ else D (ix2 p l) := by
  pointwise [k0_pay7]
  rw [pay6_at]
  split
  · rfl
  · rfl

theorem flag_eq (P : Prop) [Decidable P] :
    FloatOps.sitofp (F := Ideal) .f32 (BitVec.setWidth 32 (if P then 1#1 else 0#1)) = if P then (1 : EReal) else 0 := by
  split
  · show (((BitVec.setWidth 32 1#1).toInt : ℝ) : EReal) = 1
    rw [show (BitVec.setWidth 32 1#1).toInt = 1 by decide]; simp
  · show (((BitVec.setWidth 32 0#1).toInt : ℝ) : EReal) = 0
    rw [show (BitVec.setWidth 32 0#1).toInt = 0 by decide]; simp

/-- A round's chosen coordinates. -/
theorem pay8_at (v : FVec Ideal S3x2048 .f32) (D : FVec Ideal S2048x128 .f32) (a : Fin 3) (l : Fin 128) :
    k0_pay8 (F := Ideal) v D k0_pay4 (ix2 a l) = v (ix2 a (firstMax fun x => D (ix2 x l))) := by
  pointwise [k0_pay8]
  simp only [pay6_at, flag_eq]
  exact sum_pick (fun x => v (ix2 a x)) _

theorem pay9_at (v : FVec Ideal S3x2048 .f32) (D : FVec Ideal S2048x128 .f32) (a : Fin 3) (l : Fin 128) :
    k0_pay9 (F := Ideal) v D k0_pay4 (ix3 0 a l) = v (ix2 a (firstMax fun x => D (ix2 x l))) := by
  pointwise [k0_pay9]
  exact pay8_at v D a l

theorem pay10_at (v : FVec Ideal S3x2048 .f32) (D : FVec Ideal S2048x128 .f32) (s : FVec Ideal S3x128 .f32) (a : Fin 3) (l : Fin 128) :
    k0_pay10 (F := Ideal) v D k0_pay4 s (ix2 a l) = s (ix2 a l) + v (ix2 a (firstMax fun x => D (ix2 x l))) := by
  pointwise [k0_pay10]
  rw [pay8_at]

theorem pay11_at (s : FVec Ideal S3x128 .f32) (a : Fin 3) (l : Fin 128) :
    k0_pay11 (F := Ideal) s (ix2 a l) = s (ix2 a l) * Ideal.ofBits .f32 0x3D000000#32 := by
  pointwise [k0_pay11]

theorem pay5_at (a : Fin 3) (l : Fin 128) : k0_pay5 (F := Ideal) (ix2 a l) = 0 := by
  pointwise [k0_pay5]

/-- The position chosen in round `k` at lane `l`. -/
def pickAt (D₀ : FVec Ideal S2048x128 .f32) (l : Fin 128) (k : ℕ) : Fin 2048 :=
  firstMax fun x => distAt (F := Ideal) D₀ k (ix2 x l)

theorem dist_step (D₀ : FVec Ideal S2048x128 .f32) (l : Fin 128) (k : ℕ) (p : Fin 2048) :
    distAt (F := Ideal) D₀ (k + 1) (ix2 p l) = if p = pickAt D₀ l k then ⊥ else distAt (F := Ideal) D₀ k (ix2 p l) :=
  pay7_at _ p l

/-- The positions chosen are the sorted prefix. -/
theorem pick_sorted (D₀ : FVec Ideal S2048x128 .f32) (l : Fin 128) (h : ∀ p, D₀ (ix2 p l) ≠ ⊥) (t : Fin 32) :
    pickAt D₀ l t.val = sortedFrom (fun a b => decide (D₀ (ix2 b l) < D₀ (ix2 a l))) (t.castLE (by decide)) :=
  (picks_eq (by decide) (fun p => D₀ (ix2 p l)) h (fun k p => distAt (F := Ideal) D₀ k (ix2 p l)) (pickAt D₀ l) rfl
    (fun k p => firstMax_max (fun x => distAt (F := Ideal) D₀ k (ix2 x l)) p) (fun k p => firstMax_first (fun x => distAt (F := Ideal) D₀ k (ix2 x l)) p) (fun k p => dist_step D₀ l k p) t).symm

theorem sum_at (v : FVec Ideal S3x2048 .f32) (D₀ : FVec Ideal S2048x128 .f32) (a : Fin 3) (l : Fin 128) (n : ℕ) :
    sumAt (F := Ideal) v D₀ n (ix2 a l) = ∑ t ∈ Finset.range n, v (ix2 a (pickAt D₀ l t)) := by
  induction n with
  | zero => rw [Finset.sum_range_zero]; exact pay5_at a l
  | succ n ih => rw [Finset.sum_range_succ, ← ih]; exact pay10_at v _ _ a l

theorem thirty_two_eq : Ideal.ofBits .f32 0x42000000#32 = ((32 : ℝ) : EReal) := by
  simp [Ideal.ofBits, Ideal.ieee, -EReal.coe_mul]; norm_num

theorem reciprocal_eq : Ideal.ofBits .f32 0x3D000000#32 = ((1 / 32 : ℝ) : EReal) := by
  simp [Ideal.ofBits, Ideal.ieee, -EReal.coe_mul]; norm_num

section Block

variable {X : Clouds} (hX : ∀ i, ∃ r : ℝ, X i = (r : EReal)) {b : Fin 16} {n : Fin 2048} {l : Fin 128}
  {x0 : FVec Ideal S1x2048x3 .f32} {x1 : FVec Ideal S1x3x2048 .f32} {x2 : FVec Ideal S1x3x128 .f32}
  (h0 : ∀ p a, x0 (ix3 0 p a) = X (ix3 b p a)) (h1 : ∀ a p, x1 (ix3 0 a p) = X (ix3 b p a))
  (h2 : ∀ a, x2 (ix3 0 a l) = X (ix3 b n a))

include h0 h2 in
/-- The first round's distances. -/
theorem dist_key (p : Fin 2048) : k0_pay3 (F := Ideal) x0 x2 (ix2 p l) = key X b n p := by
  rw [pay3_at]
  simp only [h0, h2]
  rw [zero_sub]
  unfold key Cert.Knn.sq pt
  simp only [mul_comm (X (ix3 b p _)) (X (ix3 b n _))]

include hX h0 h2 in
theorem pick_sel (t : Fin 32) : pickAt (k0_pay3 (F := Ideal) x0 x2) l t.val = sel X b n t := by
  rw [pick_sorted _ l (fun p => by rw [dist_key h0 h2]; exact key_ne_bot X hX b n p)]
  simp only [dist_key h0 h2]
  rfl

include hX h0 h1 h2 in
theorem nbr_at (t : Fin 32) (a : Fin 3) : nbrOf (F := Ideal) x0 x1 x2 t.val (ix3 0 a l) = nb X b n t a := by
  have ht : t.val % 32 = t.val := Nat.mod_eq_of_lt t.isLt
  unfold nbrOf nbr slabs
  generalize hD : k0_pay3 (F := Ideal) x0 x2 = D
  generalize hv : k0_pay2 (F := Ideal) x1 = v
  show k0_pay9 (F := Ideal) v (distAt D (t.val % 32)) k0_pay4 (ix3 0 a l) = _
  rw [ht, pay9_at, ← hv, ← hD, pay2_at, h1]
  exact congrArg (fun p => X (ix3 b p a)) (pick_sel hX h0 h2 t)

include hX h0 h1 h2 in
theorem mean_at (a : Fin 3) : meanOf (F := Ideal) x0 x1 x2 (ix2 a l) = mean X b n a := by
  unfold meanOf
  rw [pay11_at, sum_at]
  unfold mean
  rw [thirty_two_eq, Ideal.div_coe (by norm_num), reciprocal_eq, Finset.sum_range]
  congr 1
  refine Finset.sum_congr rfl fun t _ => ?_
  rw [pay2_at, h1, pick_sel hX h0 h2]
  rfl

include hX h0 h1 h2 in
theorem outMean_at (a : Fin 3) : outMean (F := Ideal) x0 x1 x2 (ix3 0 a l) = mean X b n a := by
  pointwise [outMean]
  exact mean_at hX h0 h1 h2 a

include hX h0 h1 h2 in
theorem cent_at (t : Fin 32) (a : Fin 3) :
    cent (F := Ideal) (nbrOf x0 x1 x2 t.val) (meanOf x0 x1 x2) (ix2 a l) = off X b n t a := by
  pointwise [cent]
  rw [nbr_at hX h0 h1 h2, mean_at hX h0 h1 h2]
  rfl

include hX h0 h1 h2 in
theorem outCent_at (t : Fin 32) (a : Fin 3) : outCent (F := Ideal) x0 x1 x2 (ix4 0 t a l) = off X b n t a :=
  cent_at hX h0 h1 h2 t a

include hX h0 h1 h2 in
theorem rnd_at (t : Fin 32) (a : Fin 3) :
    rnd (F := Ideal) (nbrOf x0 x1 x2 t.val) (meanOf x0 x1 x2) (ix2 a l) = off X b n t a := by
  pointwise [rnd]
  exact cent_at hX h0 h1 h2 t a

theorem rowX_at (p : FVec Ideal S3x128 .f32) (l : Fin 128) : rowX p (ix2 0 l) = p (ix2 0 l) := by pointwise [rowX]
theorem rowY_at (p : FVec Ideal S3x128 .f32) (l : Fin 128) : rowY p (ix2 0 l) = p (ix2 1 l) := by pointwise [rowY]
theorem rowZ_at (p : FVec Ideal S3x128 .f32) (l : Fin 128) : rowZ p (ix2 0 l) = p (ix2 2 l) := by pointwise [rowZ]

include hX h0 h1 h2 in
theorem outCov_at {ra rb : FVec Ideal S3x128 .f32 → FVec Ideal S1x128 .f32} {i j : Fin 3}
    (ha : ∀ p l, ra p (ix2 0 l) = p (ix2 i l)) (hb : ∀ p l, rb p (ix2 0 l) = p (ix2 j l)) :
    outCov (F := Ideal) ra rb x0 x1 x2 (ix3 0 0 l) = cov X b n i j := by
  have hsum : ∀ k, covAt (F := Ideal) ra rb (nbrOf x0 x1 x2) (meanOf x0 x1 x2) k (ix2 0 l)
      = ∑ t ∈ Finset.range k, ra (rnd (nbrOf x0 x1 x2 t) (meanOf x0 x1 x2)) (ix2 0 l)
          * rb (rnd (nbrOf x0 x1 x2 t) (meanOf x0 x1 x2)) (ix2 0 l) := by
    intro k
    induction k with
    | zero => rw [Finset.sum_range_zero]; pointwise [covAt]
    | succ k ih => rw [Finset.sum_range_succ, ← ih]; rfl
  pointwise [outCov, covBlock]
  rw [hsum, Finset.sum_range]
  unfold cov
  refine Finset.sum_congr rfl fun t _ => ?_
  rw [ha, hb, rnd_at hX h0 h1 h2, rnd_at hX h0 h1 h2]

end Block

end Cert.KernelIdeal.Knn

end
-- ==== Proof.Arrays.lean ====
/-
  THE KERNEL'S ARRAYS: the point (b, q) of the grid reads cloud b, its transpose and query tile q, and writes the blocks
  of tile q; the blocks cover the arrays, so each array ends at its function of the clouds.
-/
module

public import proofs.«01_k».proof.Proof.Run
public import proofs.«01_k».proof.Proof.Values
public import Idealize.ShloMosaic.Lib.Pipeline.ValueKit
public import Idealize.ShloMosaic.Lib.Claim

@[expose] public section

set_option maxRecDepth 16384

noncomputable section

namespace Cert.KernelIdeal.Knn

open Idealize.ShloMosaic Idealize.ShloMosaic.TcCoe
open Idealize.ShloMosaic.Pipeline (Dat)
open Cert.KernelIdeal.Gen
open Cert.Knn

variable (m : (ℓ : Loc nD τ sig) → Buf (Elt Ideal) ℓ)

/-- The argument: the clouds. -/
abbrev clouds (c : Dev nD) : Clouds := m ((c : Thread nD τ).loc main_arg0)

/-- The point's cloud. -/
def cloudOf (t : Fin cfg0.N) : Fin 16 := ⟨t.val / 16, by have h : t.val < 256 := t.isLt; omega⟩
/-- The query at a lane of the point's tile. -/
def queryOf (t : Fin cfg0.N) (l : Fin 128) : Fin 2048 := ⟨t.val % 16 * 128 + l.val, by omega⟩

theorem idx0 : ∀ t : Fin cfg0.N, win0_0.index t = ![t.val / 16, 0, 0] := (by decide +kernel : ∀ t : Fin grid0.N, _)
theorem idx1 : ∀ t : Fin cfg0.N, win0_1.index t = ![t.val / 16, 0, 0] := (by decide +kernel : ∀ t : Fin grid0.N, _)
theorem idx2 : ∀ t : Fin cfg0.N, win0_2.index t = ![t.val / 16, 0, t.val % 16] := (by decide +kernel : ∀ t : Fin grid0.N, _)
theorem idx3 : ∀ t : Fin cfg0.N, win0_3.index t = ![t.val / 16, 0, 0, t.val % 16] := (by decide +kernel : ∀ t : Fin grid0.N, _)
theorem idx4 : ∀ t : Fin cfg0.N, win0_4.index t = ![t.val / 16, 0, t.val % 16] := (by decide +kernel : ∀ t : Fin grid0.N, _)
theorem idx5 : ∀ t : Fin cfg0.N, win0_5.index t = ![t.val / 16, 0, t.val % 16] := (by decide +kernel : ∀ t : Fin grid0.N, _)
theorem idx6 : ∀ t : Fin cfg0.N, win0_6.index t = ![t.val / 16, 0, t.val % 16] := (by decide +kernel : ∀ t : Fin grid0.N, _)
theorem idx7 : ∀ t : Fin cfg0.N, win0_7.index t = ![t.val / 16, 0, t.val % 16] := (by decide +kernel : ∀ t : Fin grid0.N, _)
theorem idx8 : ∀ t : Fin cfg0.N, win0_8.index t = ![t.val / 16, 0, t.val % 16] := (by decide +kernel : ∀ t : Fin grid0.N, _)
theorem idx9 : ∀ t : Fin cfg0.N, win0_9.index t = ![t.val / 16, 0, t.val % 16] := (by decide +kernel : ∀ t : Fin grid0.N, _)
theorem idx10 : ∀ t : Fin cfg0.N, win0_10.index t = ![t.val / 16, 0, t.val % 16] := (by decide +kernel : ∀ t : Fin grid0.N, _)

theorem blk0_at (c : Dev nD) (t : Fin cfg0.N) (p : Fin 2048) (a : Fin 3) :
    iblk m c 0 t (ix3 0 p a) = clouds m c (ix3 (cloudOf t) p a) := by
  blk_ext! [iblk, V, idx0 t, cloudOf]

/-- The transposed clouds, as the region finds them. -/
theorem flipped_eq (c : Dev nD) :
    V m c main_v0 = transpose S16x3x2048 [0, 2, 1] (clouds m c) transposes_S16x2048x3_S16x3x2048_0_2_1 := by
  show StableHlo.after hostOps0 (fun b => m (c, b)) (Proc.devRef .tc main_v0) = _
  after_results

theorem flipped_at (c : Dev nD) (b : Fin 16) (a : Fin 3) (p : Fin 2048) :
    V m c main_v0 (ix3 b a p) = clouds m c (ix3 b p a) := by
  rw [flipped_eq]
  pointwise

theorem blk1_at (c : Dev nD) (t : Fin cfg0.N) (a : Fin 3) (p : Fin 2048) :
    iblk m c 1 t (ix3 0 a p) = clouds m c (ix3 (cloudOf t) p a) := by
  have he : (win0_1.blk t).view.emb (ix3 0 a p) = (ix3 (cloudOf t) a p : S16x3x2048.Idx) := by
    blk_ext [idx1 t, cloudOf]
  exact (congrArg (V m c main_v0) he).trans (flipped_at m c _ a p)

theorem blk2_at (c : Dev nD) (t : Fin cfg0.N) (a : Fin 3) (l : Fin 128) :
    iblk m c 2 t (ix3 0 a l) = clouds m c (ix3 (cloudOf t) (queryOf t l) a) := by
  have he : (win0_2.blk t).view.emb (ix3 0 a l) = (ix3 (cloudOf t) a (queryOf t l) : S16x3x2048.Idx) := by
    blk_ext [idx2 t, cloudOf, queryOf]
  exact (congrArg (V m c main_v0) he).trans (flipped_at m c _ a _)

/-- The array of offsets. -/
def offArray (X : Clouds) : FVec Ideal S16x32x3x2048 .f32 := fun i => off X (i 0) (i 3) (i 1) (i 2)
/-- The array of centroids. -/
def meanArray (X : Clouds) : FVec Ideal S16x3x2048 .f32 := fun i => Cert.Knn.mean X (i 0) (i 2) (i 1)
/-- One array of covariance sums. -/
def covArray (X : Clouds) (a b : Fin 3) : FVec Ideal S16x1x2048 .f32 := fun i => cov X (i 0) (i 2) a b

section

variable (hX : ∀ c i, ∃ r : ℝ, clouds m c i = (r : EReal))

include hX in
theorem final3 (c : Dev nD) : (dats m 0 c).arrAt 3 cfg0.N = offArray (clouds m c) := by
  refine (dats m 0 c).arrAt_eq_of_covers 3 _ (by decide +kernel) fun t hf y => ?_
  blk_simp
  rw [left3]
  have hy : y = ix4 0 (y 1) (y 2) (y 3) := by
    funext x; fin_cases x
    · exact Subsingleton.elim (α := Fin 1) _ _
    all_goals rfl
  rw [hy]
  refine (outCent_at (hX c) (blk0_at m c t) (blk1_at m c t) (fun a => blk2_at m c t a (y 3)) (y 1) (y 2)).trans ?_
  have he : (win0_3.blk t).view.emb (ix4 0 (y 1) (y 2) (y 3)) = (ix4 (cloudOf t) (y 1) (y 2) (queryOf t (y 3)) : S16x32x3x2048.Idx) := by
    blk_ext [idx3 t, cloudOf, queryOf]
  exact (congrArg (offArray (clouds m c)) he).symm

include hX in
theorem final4 (c : Dev nD) : (dats m 0 c).arrAt 4 cfg0.N = meanArray (clouds m c) := by
  refine (dats m 0 c).arrAt_eq_of_covers 4 _ (by decide +kernel) fun t hf y => ?_
  blk_simp
  rw [left4]
  have hy : y = ix3 0 (y 1) (y 2) := by
    funext x; fin_cases x
    · exact Subsingleton.elim (α := Fin 1) _ _
    all_goals rfl
  rw [hy]
  refine (outMean_at (hX c) (blk0_at m c t) (blk1_at m c t) (fun a => blk2_at m c t a (y 2)) (y 1)).trans ?_
  have he : (win0_4.blk t).view.emb (ix3 0 (y 1) (y 2)) = (ix3 (cloudOf t) (y 1) (queryOf t (y 2)) : S16x3x2048.Idx) := by
    blk_ext [idx4 t, cloudOf, queryOf]
  exact (congrArg (meanArray (clouds m c)) he).symm

include hX in
theorem final5 (c : Dev nD) : (dats m 0 c).arrAt 5 cfg0.N = covArray (clouds m c) 0 0 := by
  refine (dats m 0 c).arrAt_eq_of_covers 5 _ (by decide +kernel) fun t hf y => ?_
  blk_simp
  rw [left5]
  have hy : y = ix3 0 0 (y 2) := by
    funext x; fin_cases x
    · exact Subsingleton.elim (α := Fin 1) _ _
    · exact Subsingleton.elim (α := Fin 1) _ _
    · rfl
  rw [hy]
  refine (outCov_at (hX c) (blk0_at m c t) (blk1_at m c t) (fun a => blk2_at m c t a (y 2)) rowX_at rowX_at).trans ?_
  have he : (win0_5.blk t).view.emb (ix3 0 0 (y 2)) = (ix3 (cloudOf t) 0 (queryOf t (y 2)) : S16x1x2048.Idx) := by
    blk_ext [idx5 t, cloudOf, queryOf]
  exact (congrArg (covArray (clouds m c) 0 0) he).symm

include hX in
theorem final6 (c : Dev nD) : (dats m 0 c).arrAt 6 cfg0.N = covArray (clouds m c) 0 1 := by
  refine (dats m 0 c).arrAt_eq_of_covers 6 _ (by decide +kernel) fun t hf y => ?_
  blk_simp
  rw [left6]
  have hy : y = ix3 0 0 (y 2) := by
    funext x; fin_cases x
    · exact Subsingleton.elim (α := Fin 1) _ _
    · exact Subsingleton.elim (α := Fin 1) _ _
    · rfl
  rw [hy]
  refine (outCov_at (hX c) (blk0_at m c t) (blk1_at m c t) (fun a => blk2_at m c t a (y 2)) rowX_at rowY_at).trans ?_
  have he : (win0_6.blk t).view.emb (ix3 0 0 (y 2)) = (ix3 (cloudOf t) 0 (queryOf t (y 2)) : S16x1x2048.Idx) := by
    blk_ext [idx6 t, cloudOf, queryOf]
  exact (congrArg (covArray (clouds m c) 0 1) he).symm

include hX in
theorem final7 (c : Dev nD) : (dats m 0 c).arrAt 7 cfg0.N = covArray (clouds m c) 0 2 := by
  refine (dats m 0 c).arrAt_eq_of_covers 7 _ (by decide +kernel) fun t hf y => ?_
  blk_simp
  rw [left7]
  have hy : y = ix3 0 0 (y 2) := by
    funext x; fin_cases x
    · exact Subsingleton.elim (α := Fin 1) _ _
    · exact Subsingleton.elim (α := Fin 1) _ _
    · rfl
  rw [hy]
  refine (outCov_at (hX c) (blk0_at m c t) (blk1_at m c t) (fun a => blk2_at m c t a (y 2)) rowX_at rowZ_at).trans ?_
  have he : (win0_7.blk t).view.emb (ix3 0 0 (y 2)) = (ix3 (cloudOf t) 0 (queryOf t (y 2)) : S16x1x2048.Idx) := by
    blk_ext [idx7 t, cloudOf, queryOf]
  exact (congrArg (covArray (clouds m c) 0 2) he).symm

include hX in
theorem final8 (c : Dev nD) : (dats m 0 c).arrAt 8 cfg0.N = covArray (clouds m c) 1 1 := by
  refine (dats m 0 c).arrAt_eq_of_covers 8 _ (by decide +kernel) fun t hf y => ?_
  blk_simp
  rw [left8]
  have hy : y = ix3 0 0 (y 2) := by
    funext x; fin_cases x
    · exact Subsingleton.elim (α := Fin 1) _ _
    · exact Subsingleton.elim (α := Fin 1) _ _
    · rfl
  rw [hy]
  refine (outCov_at (hX c) (blk0_at m c t) (blk1_at m c t) (fun a => blk2_at m c t a (y 2)) rowY_at rowY_at).trans ?_
  have he : (win0_8.blk t).view.emb (ix3 0 0 (y 2)) = (ix3 (cloudOf t) 0 (queryOf t (y 2)) : S16x1x2048.Idx) := by
    blk_ext [idx8 t, cloudOf, queryOf]
  exact (congrArg (covArray (clouds m c) 1 1) he).symm

include hX in
theorem final9 (c : Dev nD) : (dats m 0 c).arrAt 9 cfg0.N = covArray (clouds m c) 1 2 := by
  refine (dats m 0 c).arrAt_eq_of_covers 9 _ (by decide +kernel) fun t hf y => ?_
  blk_simp
  rw [left9]
  have hy : y = ix3 0 0 (y 2) := by
    funext x; fin_cases x
    · exact Subsingleton.elim (α := Fin 1) _ _
    · exact Subsingleton.elim (α := Fin 1) _ _
    · rfl
  rw [hy]
  refine (outCov_at (hX c) (blk0_at m c t) (blk1_at m c t) (fun a => blk2_at m c t a (y 2)) rowY_at rowZ_at).trans ?_
  have he : (win0_9.blk t).view.emb (ix3 0 0 (y 2)) = (ix3 (cloudOf t) 0 (queryOf t (y 2)) : S16x1x2048.Idx) := by
    blk_ext [idx9 t, cloudOf, queryOf]
  exact (congrArg (covArray (clouds m c) 1 2) he).symm

include hX in
theorem final10 (c : Dev nD) : (dats m 0 c).arrAt 10 cfg0.N = covArray (clouds m c) 2 2 := by
  refine (dats m 0 c).arrAt_eq_of_covers 10 _ (by decide +kernel) fun t hf y => ?_
  blk_simp
  rw [left10]
  have hy : y = ix3 0 0 (y 2) := by
    funext x; fin_cases x
    · exact Subsingleton.elim (α := Fin 1) _ _
    · exact Subsingleton.elim (α := Fin 1) _ _
    · rfl
  rw [hy]
  refine (outCov_at (hX c) (blk0_at m c t) (blk1_at m c t) (fun a => blk2_at m c t a (y 2)) rowZ_at rowZ_at).trans ?_
  have he : (win0_10.blk t).view.emb (ix3 0 0 (y 2)) = (ix3 (cloudOf t) 0 (queryOf t (y 2)) : S16x1x2048.Idx) := by
    blk_ext [idx10 t, cloudOf, queryOf]
  exact (congrArg (covArray (clouds m c) 2 2) he).symm

end

end Cert.KernelIdeal.Knn

end
-- ==== Proof.Result.lean ====
/-
  THE KERNEL'S RESULTS: after the two transposes that follow the region, under the precondition.
-/
module

public import proofs.«01_k».proof.Proof.Arrays
public import proofs.«01_k».proof.Proof.Gen.Pre_finite

@[expose] public section

set_option maxRecDepth 16384

noncomputable section

namespace Cert.KernelIdeal.Knn

open Idealize.ShloMosaic Idealize.ShloMosaic.TcCoe Idealize.SL.Sem
open Idealize.ShloMosaic.Pipeline (Dat)
open Cert.KernelIdeal.Gen
open Cert.Knn

variable (m : (ℓ : Loc nD τ sig) → Buf (Elt Ideal) ℓ) (ρ : Dev nD → PrngReg)

/-- Two windows are on one array, the transposed clouds; neither writes it. -/
theorem shared (c : Dev nD) : ∀ w w', w ≠ w' → Pipeline.arrRef spec0 w = Pipeline.arrRef spec0 w' →
    (dats m 0 c).arrAt w cfg0.N = V0 m c (Proc.devRef .tc (Pipeline.arrRef spec0 w)) := by
  intro w w' hne he
  have hw : w = 1 ∨ w = 2 := by revert w w'; decide
  rcases hw with rfl | rfl
  · exact ((dats m 0 c).arrAt_in 1 rfl _).trans (entry_eq m c 1)
  · exact ((dats m 0 c).arrAt_in 2 rfl _).trans (entry_eq m c 2)

/-- The first result is the centroids' array, transposed. -/
theorem tail2 (c : Dev nD) : Pipeline.afterTail₀ cfgs (dats m) 0 (V0 m) [hostOps1] c main_v2
    = transpose S16x2048x3 [0, 2, 1] ((dats m 0 c).arrAt 4 cfg0.N : FVec Ideal S16x3x2048 .f32) transposes_S16x3x2048_S16x2048x3_0_2_1 := by
  refine Eq.trans (b := transpose S16x2048x3 [0, 2, 1] (Pipeline.withArrays spec0 c (V0 m c) (fun w => (dats m 0 c).arrAt w cfg0.N) (Proc.devRef .tc main_v1_1) : FVec Ideal S16x3x2048 .f32) transposes_S16x3x2048_S16x2048x3_0_2_1) ?_ ?_
  · show StableHlo.after hostOps1 (Pipeline.withArrays spec0 c (V0 m c) (fun w => (dats m 0 c).arrAt w cfg0.N)) (Proc.devRef .tc main_v2) = _
    after_results
  · exact congrArg (fun A : FVec Ideal S16x3x2048 .f32 => transpose S16x2048x3 [0, 2, 1] A transposes_S16x3x2048_S16x2048x3_0_2_1)
      (Pipeline.withArrays_arr_shared spec0 c (V0 m c) (fun w => (dats m 0 c).arrAt w cfg0.N) (shared m c) 4)

/-- The second is the offsets' array, transposed. -/
theorem tail3 (c : Dev nD) : Pipeline.afterTail₀ cfgs (dats m) 0 (V0 m) [hostOps1] c main_v3
    = transpose S16x2048x32x3 [0, 3, 1, 2] ((dats m 0 c).arrAt 3 cfg0.N : FVec Ideal S16x32x3x2048 .f32) transposes_S16x32x3x2048_S16x2048x32x3_0_3_1_2 := by
  refine Eq.trans (b := transpose S16x2048x32x3 [0, 3, 1, 2] (Pipeline.withArrays spec0 c (V0 m c) (fun w => (dats m 0 c).arrAt w cfg0.N) (Proc.devRef .tc main_v1_0) : FVec Ideal S16x32x3x2048 .f32) transposes_S16x32x3x2048_S16x2048x32x3_0_3_1_2) ?_ ?_
  · show StableHlo.after hostOps1 (Pipeline.withArrays spec0 c (V0 m c) (fun w => (dats m 0 c).arrAt w cfg0.N)) (Proc.devRef .tc main_v3) = _
    after_results
  · exact congrArg (fun A : FVec Ideal S16x32x3x2048 .f32 => transpose S16x2048x32x3 [0, 3, 1, 2] A transposes_S16x32x3x2048_S16x2048x32x3_0_3_1_2)
      (Pipeline.withArrays_arr_shared spec0 c (V0 m c) (fun w => (dats m 0 c).arrAt w cfg0.N) (shared m c) 3)

/-- A conjunction of flags that is set has every flag set. -/
theorem fold_and_all {α : Type} [Fintype α] (f : α → BitVec 1) (h : Finset.fold IntOp.andi 1#1 f Finset.univ = 1#1) (a : α) :
    f a = 1#1 :=
  ((Finset.fold_op_rel_iff_and (op := IntOp.andi) (r := fun _ y : BitVec 1 => y = 1#1) (c := 1#1)
    (fun {x y z} => by revert y z; decide)).mp h).2 a (Finset.mem_univ a)

/-- Under the precondition every entry is a real number. -/
theorem real_of_pre (X : FVec Ideal S16x2048x3 .f32)
    (h : Cert.Pre_finite.fn (F := Ideal) X = fun _ => 1#1) (i : S16x2048x3.Idx) : ∃ r : ℝ, X i = (r : EReal) := by
  have h0 := congrFun h ix0
  revert h0
  pointwise [Cert.Pre_finite.fn]
  intro hfold
  have hi := fold_and_all _ hfold ((i 0 : Fin 16), (i 1 : Fin 2048), (i 2 : Fin 3))
  have hix : (ix3 (i 0) (i 1) (i 2) : S16x2048x3.Idx) = i := by funext a; fin_cases a <;> rfl
  have hlt : FloatOps.absf (F := Ideal) (φ := .f32) (X i) < Ideal.ofBits FTy.f32 2139095040#32 := by
    by_contra hn
    simp only [hix, decide_eq_false hn] at hi
    exact absurd hi (by decide)
  have htop : Ideal.ofBits FTy.f32 2139095040#32 = ⊤ := by simp [Ideal.ofBits, Ideal.ieee]
  rw [htop] at hlt
  have habs : max (X i : EReal) (-(X i : EReal)) < ⊤ := hlt
  generalize X i = x at habs
  induction x using EReal.rec with
  | bot => simp at habs
  | top => simp at habs
  | coe r => exact ⟨r, rfl⟩

/-- The centroids as returned. -/
def outCenter (X : Clouds) : FVec Ideal S16x2048x3 .f32 :=
  transpose S16x2048x3 [0, 2, 1] (meanArray X) transposes_S16x3x2048_S16x2048x3_0_2_1
/-- The offsets as returned. -/
def outOffs (X : Clouds) : FVec Ideal S16x2048x32x3 .f32 :=
  transpose S16x2048x32x3 [0, 3, 1, 2] (offArray X) transposes_S16x32x3x2048_S16x2048x32x3_0_3_1_2

theorem outCenter_at (X : Clouds) (b : Fin 16) (n : Fin 2048) (a : Fin 3) : outCenter X (ix3 b n a) = Cert.Knn.mean X b n a := by
  pointwise [outCenter]
  rfl

theorem outOffs_at (X : Clouds) (b : Fin 16) (n : Fin 2048) (t : Fin 32) (a : Fin 3) : outOffs X (ix4 b n t a) = off X b n t a := by
  pointwise [outOffs]
  rfl

/-- The run, every result at its function of the clouds. -/
theorem run (hX : ∀ c i, ∃ r : ℝ, clouds m c i = (r : EReal)) :
    θ_run defs (onTc (τ := τ) (main (F := Ideal))) ⟨m, fun _ => 0, ρ⟩ (fun r => ∀ c : Dev nD,
      r.2.mem ((c.tc : Thread nD τ).loc main_v2) = outCenter (clouds m c)
      ∧ r.2.mem ((c.tc : Thread nD τ).loc main_v3) = outOffs (clouds m c)
      ∧ r.2.mem ((c.tc : Thread nD τ).loc main_v1_2) = covArray (clouds m c) 0 0
      ∧ r.2.mem ((c.tc : Thread nD τ).loc main_v1_3) = covArray (clouds m c) 0 1
      ∧ r.2.mem ((c.tc : Thread nD τ).loc main_v1_4) = covArray (clouds m c) 0 2
      ∧ r.2.mem ((c.tc : Thread nD τ).loc main_v1_5) = covArray (clouds m c) 1 1
      ∧ r.2.mem ((c.tc : Thread nD τ).loc main_v1_6) = covArray (clouds m c) 1 2
      ∧ r.2.mem ((c.tc : Thread nD τ).loc main_v1_7) = covArray (clouds m c) 2 2
      ∧ r.2.mem ((c.tc : Thread nD τ).loc main_arg0) = m ((c.tc : Thread nD τ).loc main_arg0)) := by
  refine (θ_run defs _ _).mono (fun r h c => ?_) (launch m ρ)
  have hp := h.1
  refine ⟨(hp.rest_eq c main_v2 (Pipeline.mem_restRefs_of main_v2 (by decide) (by decide))).trans ?_,
    (hp.rest_eq c main_v3 (Pipeline.mem_restRefs_of main_v3 (by decide) (by decide))).trans ?_,
    (hp.out_eq c 5).trans (final5 m hX c), (hp.out_eq c 6).trans (final6 m hX c), (hp.out_eq c 7).trans (final7 m hX c),
    (hp.out_eq c 8).trans (final8 m hX c), (hp.out_eq c 9).trans (final9 m hX c), (hp.out_eq c 10).trans (final10 m hX c),
    (hp.in_eq c 0 rfl).trans ((entry_eq m c 0).trans (V_main_arg0 m c))⟩
  · rw [tail2, final4 m hX]; rfl
  · rw [tail3, final3 m hX]; rfl

end Cert.KernelIdeal.Knn

end
-- ==== Proof.Rotation.lean ====
/-
  Plane rotations over the reals. A symmetric 3×3 matrix R is held through a frame of three orthonormal vectors: the six
  entries are R's form on pairs of them (`Fit`). Turning two of the vectors by a cosine and a sine keeps this (`Fit.turn`),
  with the new entries the kernel computes. The cosine and the sine a rotation takes have squares that sum to one.
-/
module

public import proofs.«01_k».proof.Proof.Spec
public import Mathlib.Tactic.LinearCombination
public import Mathlib.Tactic.FieldSimp

@[expose] public section

noncomputable section

namespace Cert.Jac

/-! ## The cosine and the sine -/

/-- The smaller root's tangent. -/
def tanR (z : ℝ) : ℝ := (if 0 ≤ z then 1 else -1) / (|z| + Real.sqrt (1 + z * z))

/-- The tangent for the entries pp, pq, qq. -/
def tanOf (a b d : ℝ) : ℝ := tanR ((d - a) / (2 * b))

/-- The cosine; one where the entry pq is zero already. -/
def cosR (a b d : ℝ) : ℝ := if b = 0 then 1 else 1 / Real.sqrt (1 + tanOf a b d * tanOf a b d)

/-- The sine; zero where the entry pq is zero already. -/
def sinR (a b d : ℝ) : ℝ := if b = 0 then 0 else tanOf a b d * (1 / Real.sqrt (1 + tanOf a b d * tanOf a b d))

theorem cos_sin (a b d : ℝ) : cosR a b d * cosR a b d + sinR a b d * sinR a b d = 1 := by
  unfold cosR sinR
  split_ifs with hb
  · norm_num
  · have h0 : 0 < 1 + tanOf a b d * tanOf a b d := by
      have := mul_self_nonneg (tanOf a b d)
      linarith
    have hs : Real.sqrt (1 + tanOf a b d * tanOf a b d) * Real.sqrt (1 + tanOf a b d * tanOf a b d) = 1 + tanOf a b d * tanOf a b d :=
      Real.mul_self_sqrt h0.le
    have hne : Real.sqrt (1 + tanOf a b d * tanOf a b d) ≠ 0 := (Real.sqrt_pos.mpr h0).ne'
    field_simp
    exact (Real.sq_sqrt (by have := sq_nonneg (tanOf a b d); linarith)).symm

/-- The tangent is a root of t² + 2 z t − 1. -/
theorem tanR_root (z : ℝ) : tanR z * tanR z + 2 * z * tanR z = 1 := by
  have h1 : (0 : ℝ) < 1 + z * z := by have := mul_self_nonneg z; linarith
  have hs : Real.sqrt (1 + z * z) * Real.sqrt (1 + z * z) = 1 + z * z := Real.mul_self_sqrt h1.le
  have hp : 0 < Real.sqrt (1 + z * z) := Real.sqrt_pos.mpr h1
  unfold tanR
  generalize Real.sqrt (1 + z * z) = r at hs hp
  by_cases hz : 0 ≤ z
  · rw [if_pos hz, abs_of_nonneg hz]
    have hne : z + r ≠ 0 := by positivity
    field_simp
    linear_combination -hs
  · rw [if_neg hz, abs_of_neg (not_le.mp hz)]
    have hne : -z + r ≠ 0 := by
      have : 0 < -z + r := by linarith [not_le.mp hz]
      exact this.ne'
    field_simp
    linear_combination -hs

/-- The tangent is at most one in size. -/
theorem tanR_le (z : ℝ) : tanR z * tanR z ≤ 1 := by
  have h1 : (0 : ℝ) < 1 + z * z := by have := mul_self_nonneg z; linarith
  have hr : 1 ≤ Real.sqrt (1 + z * z) := by
    rw [Real.one_le_sqrt]; have := mul_self_nonneg z; linarith
  have hd : 1 ≤ |z| + Real.sqrt (1 + z * z) := by linarith [abs_nonneg z]
  unfold tanR
  have hq : ((if 0 ≤ z then 1 else -1 : ℝ)) * (if 0 ≤ z then 1 else -1) = 1 := by split_ifs <;> norm_num
  rw [div_mul_div_comm, hq, div_le_one (by positivity)]
  nlinarith

/-! ## Turning a pair -/

/-- The first of a pair, turned. -/
def lo (c s x y : ℝ) : ℝ := c * x - s * y

/-- The second of a pair, turned. -/
def hi (c s x y : ℝ) : ℝ := s * x + c * y

/-- A vector of three. -/
structure V3 where
  (a b c : ℝ)

/-- A symmetric matrix by its six entries. -/
structure M3 where
  (r00 r01 r02 r11 r12 r22 : ℝ)

def V3.lo (c s : ℝ) (x y : V3) : V3 := ⟨Jac.lo c s x.a y.a, Jac.lo c s x.b y.b, Jac.lo c s x.c y.c⟩
def V3.hi (c s : ℝ) (x y : V3) : V3 := ⟨Jac.hi c s x.a y.a, Jac.hi c s x.b y.b, Jac.hi c s x.c y.c⟩

/-- The inner product. -/
def dot (x y : V3) : ℝ := x.a * y.a + x.b * y.b + x.c * y.c

/-- The matrix's form. -/
def M3.form (R : M3) (x y : V3) : ℝ :=
  x.a * (R.r00 * y.a + R.r01 * y.b + R.r02 * y.c) + x.b * (R.r01 * y.a + R.r11 * y.b + R.r12 * y.c)
    + x.c * (R.r02 * y.a + R.r12 * y.b + R.r22 * y.c)

/-- Three orthonormal vectors, and the matrix's entries in them. -/
structure Fit (R : M3) (x y z : V3) (xx xy xz yy yz zz : ℝ) : Prop where
  nx : dot x x = 1
  ny : dot y y = 1
  nz : dot z z = 1
  oxy : dot x y = 0
  oxz : dot x z = 0
  oyz : dot y z = 0
  exx : xx = R.form x x
  exy : xy = R.form x y
  exz : xz = R.form x z
  eyy : yy = R.form y y
  eyz : yz = R.form y z
  ezz : zz = R.form z z

theorem dot_comm (x y : V3) : dot x y = dot y x := by unfold dot; ring
theorem form_comm (R : M3) (x y : V3) : R.form x y = R.form y x := by unfold M3.form; ring

variable {R : M3} {x y z : V3} {xx xy xz yy yz zz : ℝ}

/-- The first two exchanged. -/
theorem Fit.swap (h : Fit R x y z xx xy xz yy yz zz) : Fit R y x z yy xy yz xx xz zz :=
  ⟨h.ny, h.nx, h.nz, by rw [dot_comm]; exact h.oxy, h.oyz, h.oxz, h.eyy, by rw [form_comm]; exact h.exy, h.eyz, h.exx, h.exz, h.ezz⟩

/-- The last two exchanged. -/
theorem Fit.swap' (h : Fit R x y z xx xy xz yy yz zz) : Fit R x z y xx xz xy zz yz yy :=
  ⟨h.nx, h.nz, h.ny, h.oxz, h.oxy, by rw [dot_comm]; exact h.oyz, h.exx, h.exz, h.exy, h.ezz, by rw [form_comm]; exact h.eyz, h.eyy⟩

/-- The first two turned. -/
theorem Fit.turn (h : Fit R x y z xx xy xz yy yz zz) {c s : ℝ} (hcs : c * c + s * s = 1) :
    Fit R (V3.lo c s x y) (V3.hi c s x y) z (lo c s (lo c s xx xy) (lo c s xy yy)) (lo c s (hi c s xx xy) (hi c s xy yy))
      (lo c s xz yz) (hi c s (hi c s xx xy) (hi c s xy yy)) (hi c s xz yz) zz where
  nx := by
    have hx := h.nx; have hy := h.ny; have hxy := h.oxy
    simp only [dot, V3.lo, lo] at *
    linear_combination c * c * hx + s * s * hy - 2 * c * s * hxy + hcs
  ny := by
    have hx := h.nx; have hy := h.ny; have hxy := h.oxy
    simp only [dot, V3.hi, hi] at *
    linear_combination s * s * hx + c * c * hy + 2 * c * s * hxy + hcs
  nz := h.nz
  oxy := by
    have hx := h.nx; have hy := h.ny; have hxy := h.oxy
    simp only [dot, V3.hi, hi, V3.lo, lo] at *
    linear_combination c * s * hx - c * s * hy + (c * c - s * s) * hxy
  oxz := by
    have hxz := h.oxz; have hyz := h.oyz
    simp only [dot, V3.lo, lo] at *
    linear_combination c * hxz - s * hyz
  oyz := by
    have hxz := h.oxz; have hyz := h.oyz
    simp only [dot, V3.hi, hi] at *
    linear_combination s * hxz + c * hyz
  exx := by rw [h.exx, h.exy, h.eyy]; simp only [M3.form, V3.lo, lo]; ring
  exy := by rw [h.exx, h.exy, h.eyy]; simp only [M3.form, V3.lo, V3.hi, lo, hi]; ring
  exz := by rw [h.exz, h.eyz]; simp only [M3.form, V3.lo, lo]; ring
  eyy := by rw [h.exx, h.exy, h.eyy]; simp only [M3.form, V3.hi, hi]; ring
  eyz := by rw [h.exz, h.eyz]; simp only [M3.form, V3.hi, hi]; ring
  ezz := h.ezz

/-! ## The entry turned away -/

/-- A rotation makes the entry pq zero. -/
theorem turned_zero (a b d : ℝ) :
    lo (cosR a b d) (sinR a b d) (hi (cosR a b d) (sinR a b d) a b) (hi (cosR a b d) (sinR a b d) b d) = 0 := by
  unfold lo hi
  by_cases hb : b = 0
  · simp [cosR, sinR, hb]
  · have hroot := tanR_root ((d - a) / (2 * b))
    have hs : sinR a b d = tanOf a b d * cosR a b d := by unfold sinR cosR; rw [if_neg hb, if_neg hb]
    rw [hs]
    change tanOf a b d * tanOf a b d + 2 * ((d - a) / (2 * b)) * tanOf a b d = 1 at hroot
    generalize tanOf a b d = t at *
    generalize cosR a b d = c at *
    have h2 : t * t * b + (d - a) * t = b := by field_simp at hroot; linear_combination hroot
    linear_combination (-(c * c)) * h2

/-- The sine's square is at most a half. -/
theorem sin_half (a b d : ℝ) : sinR a b d * sinR a b d ≤ 1 / 2 := by
  by_cases hb : b = 0
  · simp [sinR, hb]
  · have hcs := cos_sin a b d
    have ht := tanR_le ((d - a) / (2 * b))
    have hs : sinR a b d = tanOf a b d * cosR a b d := by unfold sinR cosR; rw [if_neg hb, if_neg hb]
    change tanOf a b d * tanOf a b d ≤ 1 at ht
    have : sinR a b d * sinR a b d ≤ cosR a b d * cosR a b d := by
      rw [hs]
      have := mul_self_nonneg (cosR a b d)
      nlinarith
    linarith

/-! ## The sweep -/

/-- What a sweep carries at one place, in the order it is carried. -/
structure St where
  (w00 w01 w02 w11 w22 w12 v00 v01 v02 v10 v11 v12 v20 v21 v22 : ℝ)

/-- The rotation in the plane (0,2). -/
def turn02 (u : St) : St :=
  let c := cosR u.w00 u.w02 u.w22
  let s := sinR u.w00 u.w02 u.w22
  { w00 := lo c s (lo c s u.w00 u.w02) (lo c s u.w02 u.w22)
    w22 := hi c s (hi c s u.w00 u.w02) (hi c s u.w02 u.w22)
    w02 := lo c s (hi c s u.w00 u.w02) (hi c s u.w02 u.w22)
    w11 := u.w11, w01 := lo c s u.w01 u.w12, w12 := hi c s u.w01 u.w12
    v00 := lo c s u.v00 u.v02, v02 := hi c s u.v00 u.v02, v01 := u.v01
    v10 := lo c s u.v10 u.v12, v12 := hi c s u.v10 u.v12, v11 := u.v11
    v20 := lo c s u.v20 u.v22, v22 := hi c s u.v20 u.v22, v21 := u.v21 }

/-- The rotation in the plane (2,1). -/
def turn21 (u : St) : St :=
  let c := cosR u.w22 u.w12 u.w11
  let s := sinR u.w22 u.w12 u.w11
  { w22 := lo c s (lo c s u.w22 u.w12) (lo c s u.w12 u.w11)
    w11 := hi c s (hi c s u.w22 u.w12) (hi c s u.w12 u.w11)
    w12 := lo c s (hi c s u.w22 u.w12) (hi c s u.w12 u.w11)
    w00 := u.w00, w02 := lo c s u.w02 u.w01, w01 := hi c s u.w02 u.w01
    v02 := lo c s u.v02 u.v01, v01 := hi c s u.v02 u.v01, v00 := u.v00
    v12 := lo c s u.v12 u.v11, v11 := hi c s u.v12 u.v11, v10 := u.v10
    v22 := lo c s u.v22 u.v21, v21 := hi c s u.v22 u.v21, v20 := u.v20 }

/-- The rotation in the plane (0,1). -/
def turn01 (u : St) : St :=
  let c := cosR u.w00 u.w01 u.w11
  let s := sinR u.w00 u.w01 u.w11
  { w00 := lo c s (lo c s u.w00 u.w01) (lo c s u.w01 u.w11)
    w11 := hi c s (hi c s u.w00 u.w01) (hi c s u.w01 u.w11)
    w01 := lo c s (hi c s u.w00 u.w01) (hi c s u.w01 u.w11)
    w22 := u.w22, w02 := lo c s u.w02 u.w12, w12 := hi c s u.w02 u.w12
    v00 := lo c s u.v00 u.v01, v01 := hi c s u.v00 u.v01, v02 := u.v02
    v10 := lo c s u.v10 u.v11, v11 := hi c s u.v10 u.v11, v12 := u.v12
    v20 := lo c s u.v20 u.v21, v21 := hi c s u.v20 u.v21, v22 := u.v22 }

/-- The three in turn. -/
def sweepR (u : St) : St := turn01 (turn21 (turn02 u))

/-- The columns. -/
def St.colX (u : St) : V3 := ⟨u.v00, u.v10, u.v20⟩
def St.colY (u : St) : V3 := ⟨u.v01, u.v11, u.v21⟩
def St.colZ (u : St) : V3 := ⟨u.v02, u.v12, u.v22⟩

/-- The state fits the matrix. -/
def St.Fits (R : M3) (u : St) : Prop := Fit R u.colX u.colY u.colZ u.w00 u.w01 u.w02 u.w11 u.w12 u.w22

theorem turn02_fits {u : St} (h : u.Fits R) : (turn02 u).Fits R := by
  have h' := (Fit.swap' h).turn (cos_sin u.w00 u.w02 u.w22)
  exact h'.swap'

theorem turn21_fits {u : St} (h : u.Fits R) : (turn21 u).Fits R := by
  have h' := (Fit.swap (Fit.swap' (Fit.swap h))).turn (cos_sin u.w22 u.w12 u.w11)
  exact Fit.swap (Fit.swap' (Fit.swap h'))

theorem turn01_fits {u : St} (h : u.Fits R) : (turn01 u).Fits R := by
  exact Fit.turn h (cos_sin u.w00 u.w01 u.w11)

theorem sweepR_fits {u : St} (h : u.Fits R) : (sweepR u).Fits R := turn01_fits (turn21_fits (turn02_fits h))

/-- The start: the matrix, and the identity. -/
def startR (R : M3) : St :=
  { w00 := R.r00, w01 := R.r01, w02 := R.r02, w11 := R.r11, w22 := R.r22, w12 := R.r12
    v00 := 1, v01 := 0, v02 := 0, v10 := 0, v11 := 1, v12 := 0, v20 := 0, v21 := 0, v22 := 1 }

theorem startR_fits (R : M3) : (startR R).Fits R := by
  constructor <;> simp [startR, St.colX, St.colY, St.colZ, dot, M3.form]

theorem iterate_fits (R : M3) (n : ℕ) : (sweepR^[n] (startR R)).Fits R := by
  induction n with
  | zero => exact startR_fits R
  | succ n ih => rw [Function.iterate_succ_apply']; exact sweepR_fits ih

/-! ## How far from diagonal -/

/-- The squares off the diagonal. -/
def St.off (u : St) : ℝ := u.w01 * u.w01 + u.w02 * u.w02 + u.w12 * u.w12

/-- After a sweep the entry 01 is zero. -/
theorem sweepR_w01 (u : St) : (sweepR u).w01 = 0 := turned_zero _ _ _

/-- After a sweep the squares off the diagonal are at most half of what the first rotation leaves in the entry 01. -/
theorem sweepR_off (u : St) : (sweepR u).off ≤ 1 / 2 * ((turn02 u).w01 * (turn02 u).w01) := by
  have e02 : (turn02 u).w02 = 0 := turned_zero _ _ _
  have e12 : (turn21 (turn02 u)).w12 = 0 := turned_zero _ _ _
  have f02 : (turn21 (turn02 u)).w02 = lo (cosR (turn02 u).w22 (turn02 u).w12 (turn02 u).w11) (sinR (turn02 u).w22 (turn02 u).w12 (turn02 u).w11)
      (turn02 u).w02 (turn02 u).w01 := rfl
  rw [e02] at f02
  have hs := sin_half (turn02 u).w22 (turn02 u).w12 (turn02 u).w11
  have g01 : (sweepR u).w01 = 0 := sweepR_w01 u
  have g02 : (sweepR u).w02 = lo (cosR (turn21 (turn02 u)).w00 (turn21 (turn02 u)).w01 (turn21 (turn02 u)).w11)
      (sinR (turn21 (turn02 u)).w00 (turn21 (turn02 u)).w01 (turn21 (turn02 u)).w11) (turn21 (turn02 u)).w02 (turn21 (turn02 u)).w12 := rfl
  have g12 : (sweepR u).w12 = hi (cosR (turn21 (turn02 u)).w00 (turn21 (turn02 u)).w01 (turn21 (turn02 u)).w11)
      (sinR (turn21 (turn02 u)).w00 (turn21 (turn02 u)).w01 (turn21 (turn02 u)).w11) (turn21 (turn02 u)).w02 (turn21 (turn02 u)).w12 := rfl
  have hcs := cos_sin (turn21 (turn02 u)).w00 (turn21 (turn02 u)).w01 (turn21 (turn02 u)).w11
  unfold St.off
  rw [g01, g02, g12, e12, f02]
  generalize cosR (turn21 (turn02 u)).w00 (turn21 (turn02 u)).w01 (turn21 (turn02 u)).w11 = c at *
  generalize sinR (turn21 (turn02 u)).w00 (turn21 (turn02 u)).w01 (turn21 (turn02 u)).w11 = s at *
  generalize cosR (turn02 u).w22 (turn02 u).w12 (turn02 u).w11 = c2 at *
  generalize sinR (turn02 u).w22 (turn02 u).w12 (turn02 u).w11 = s2 at *
  generalize (turn02 u).w01 = w at *
  unfold lo hi
  have e : 0 * 0 + (c * (c2 * 0 - s2 * w) - s * 0) * (c * (c2 * 0 - s2 * w) - s * 0)
      + (s * (c2 * 0 - s2 * w) + c * 0) * (s * (c2 * 0 - s2 * w) + c * 0) = (s2 * s2) * (w * w) := by
    linear_combination (s2 * s2 * w * w) * hcs
  rw [e]
  exact mul_le_mul_of_nonneg_right hs (mul_self_nonneg w)

/-- A first sweep halves the squares off the diagonal. -/
theorem off_first (u : St) : (sweepR u).off ≤ 1 / 2 * u.off := by
  have h := sweepR_off u
  have f : (turn02 u).w01 = lo (cosR u.w00 u.w02 u.w22) (sinR u.w00 u.w02 u.w22) u.w01 u.w12 := rfl
  have hcs := cos_sin u.w00 u.w02 u.w22
  rw [f] at h
  generalize cosR u.w00 u.w02 u.w22 = c at *
  generalize sinR u.w00 u.w02 u.w22 = s at *
  have e : lo c s u.w01 u.w12 * lo c s u.w01 u.w12 + hi c s u.w01 u.w12 * hi c s u.w01 u.w12 = u.w01 * u.w01 + u.w12 * u.w12 := by
    unfold lo hi; linear_combination (u.w01 * u.w01 + u.w12 * u.w12) * hcs
  have h1 := mul_self_nonneg (hi c s u.w01 u.w12)
  have h2 := mul_self_nonneg u.w02
  unfold St.off at *
  linarith

/-- A later sweep, which finds a zero in the entry 01, quarters them. -/
theorem off_later (u : St) (hz : u.w01 = 0) : (sweepR u).off ≤ 1 / 4 * u.off := by
  have h := sweepR_off u
  have f : (turn02 u).w01 = lo (cosR u.w00 u.w02 u.w22) (sinR u.w00 u.w02 u.w22) u.w01 u.w12 := rfl
  have hs := sin_half u.w00 u.w02 u.w22
  rw [f, hz] at h
  generalize cosR u.w00 u.w02 u.w22 = c at *
  generalize sinR u.w00 u.w02 u.w22 = s at *
  have e : lo c s 0 u.w12 * lo c s 0 u.w12 = (s * s) * (u.w12 * u.w12) := by unfold lo; ring
  have h1 := mul_le_mul_of_nonneg_right hs (mul_self_nonneg u.w12)
  have h2 := mul_self_nonneg u.w02
  rw [e] at h
  unfold St.off at *
  rw [hz]
  linarith

theorem off_iterate (u : St) (n : ℕ) : (sweepR^[n + 1] u).off ≤ 1 / 2 * (1 / 4) ^ n * u.off := by
  induction n with
  | zero => simpa using off_first u
  | succ n ih =>
    rw [Function.iterate_succ_apply']
    have hz : (sweepR^[n + 1] u).w01 = 0 := by rw [Function.iterate_succ_apply']; exact sweepR_w01 _
    refine (off_later _ hz).trans ?_
    rw [pow_succ]
    linarith

/-- After eight sweeps the squares off the diagonal are at most 2 to the −15 of those at the start. -/
theorem off_eight (R : M3) : (sweepR^[8] (startR R)).off ≤ (R.r01 * R.r01 + R.r02 * R.r02 + R.r12 * R.r12) * (1 / 32768) := by
  have h := off_iterate (startR R) 7
  have e : (startR R).off = R.r01 * R.r01 + R.r02 * R.r02 + R.r12 * R.r12 := rfl
  rw [e] at h
  norm_num at h ⊢
  linarith

end Cert.Jac

end
-- ==== Proof.Sweeps.lean ====
/-
  THE SECOND CALL RUN: six planes in, nine out, one point. A sweep of three rotations carries the six planes of the matrix
  and the nine of the frame; eight sweeps are made, then three exchanges order the columns. The nine arrays end at these
  functions of the six. The arguments end unchanged, the counters at zero.
-/
module

public import proofs.«01_k».proof.Proof.Gen.FramesIdeal.Frame
public import proofs.«01_k».proof.Proof.Gen.FramesIdeal.Skeleton
public import proofs.«01_k».proof.Proof.Gen.FramesIdeal.Loops
public import Idealize.ShloMosaic.Lib.Claim
public import Idealize.ShloMosaic.Lib.VecWindow

@[expose] public section

set_option maxRecDepth 16384

noncomputable section

namespace Cert.FramesIdeal.Jac

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FramesIdeal.Gen

variable {F : FTy → Type} [FloatOps F]

local notation "𝕄" => MT nD τ sig Unit (Elt F) ℕ (UR sig nD τ) ℕ

/-! ## The sweeps -/

/-- One plane of numbers. -/
abbrev Plane (F : FTy → Type) : Type := FVec F S16x1x2048 .f32

/-- What a sweep carries: the matrix's entries 00, 01, 02, 11, 22, 12, then the frame's, row by row. -/
abbrev Carried (F : FTy → Type) : Type :=
  Plane F × Plane F × Plane F × Plane F × Plane F × Plane F × Plane F × Plane F × Plane F × Plane F × Plane F × Plane F × Plane F × Plane F × Plane F

/-- One sweep: the planes (0,2), (2,1), (0,1) are rotated in turn. -/
def sweep (x : Carried F) : Carried F :=
  let ⟨a16, a17, a18, a19, a20, a21, a22, a23, a24, a25, a26, a27, a28, a29, a30⟩ := x
  let v69 := k0_pay4 a16 a18 a20
  let v71 := k0_pay5 a16 a18 a20
  let v86 := k0_pay8 a16 a18 a20
  let v89 := k0_pay9 a16 a18 a20
  let v92 := k0_pay12 (k0_pay10 a16 a18 a20) (k0_pay11 a16 a18 a20)
  let v95 := k0_pay13 a17 a21 v69 v71
  let v98 := k0_pay14 a17 a21 v69 v71
  let v101 := k0_pay15 a22 a24 v69 v71
  let v104 := k0_pay16 a22 a24 v69 v71
  let v107 := k0_pay17 a25 a27 v69 v71
  let v110 := k0_pay18 a25 a27 v69 v71
  let v113 := k0_pay19 a28 a30 v69 v71
  let v116 := k0_pay20 a28 a30 v69 v71
  let v138 := k0_pay22 a17 a19 a21 v69 v71 v89
  let v139 := k0_pay23 a17 a19 a21 v69 v71 v89
  let v141 := k0_pay24 a17 a21 v69 v71
  let v142 := k0_pay25 (F := F)
  let v160 := k0_pay30 a19 v89 v98 v138 v139 v141 v142
  let v163 := k0_pay31 a19 v89 v98 v138 v139 v141 v142
  let v166 := k0_pay32 a19 v89 v98 v138 v139 v141 v142
  let v169 := k0_pay33 v92 v95 v138 v139 v141 v142
  let v172 := k0_pay34 v92 v95 v138 v139 v141 v142
  let v175 := k0_pay35 a23 v104 v138 v139 v141 v142
  let v178 := k0_pay36 a23 v104 v138 v139 v141 v142
  let v181 := k0_pay37 a26 v110 v138 v139 v141 v142
  let v184 := k0_pay38 a26 v110 v138 v139 v141 v142
  let v187 := k0_pay39 a29 v116 v138 v139 v141 v142
  let v190 := k0_pay40 a29 v116 v138 v139 v141 v142
  let v194 := k0_pay41 a19 v86 v89 v92 v95 v98 v138 v139 v141 v142
  let v196 := k0_pay42 a19 v86 v89 v92 v95 v98 v138 v139 v141 v142
  let minus : F .f32 := Scalar.ofBits .f32 0xBF800000#32
  let v197 := k0_pay43 (F := F)
  let v217 := k0_pay47 v172 v194 v196 minus v197
  let v219 := k0_pay48 v172 v194 v196 minus v197
  (k0_pay51 v86 v163 v172 v194 v196 minus v197, k0_pay53 v86 v163 v172 v194 v196 minus v197,
    k0_pay54 v166 v169 v172 v194 v196 minus v197, k0_pay52 v86 v163 v172 v194 v196 minus v197, v160,
    k0_pay55 v166 v169 v172 v194 v196 minus v197, k0_pay56 v101 v172 v178 v194 v196 minus v197,
    k0_pay61 (k0_pay57 v101 v172 v194 v196 minus v197) (k0_pay58 v172 v178 v194 v196 minus v197), v175,
    k0_pay62 v107 v184 v217 v219, k0_pay63 v107 v184 v217 v219, v181,
    k0_pay64 v113 v190 v217 v219, k0_pay65 v113 v190 v217 v219, v187)

/-- Before the first sweep: the six planes as given, and the identity. -/
def start (x0 x1 x2 x3 x4 x5 : Plane F) : Carried F :=
  (x0, x1, x2, x3, x5, x4, k0_pay59 (F := F), k0_pay60 (F := F), k0_pay60 (F := F), k0_pay60 (F := F), k0_pay59 (F := F), k0_pay60 (F := F), k0_pay60 (F := F), k0_pay60 (F := F), k0_pay59 (F := F))

/-- After `n` of them. -/
def swept (x0 x1 x2 x3 x4 x5 : Plane F) (n : ℕ) : Carried F := sweep^[n] (start x0 x1 x2 x3 x4 x5)

/-- The nine planes from what is carried last: the columns in the order of the diagonal's entries. -/
def sorted (x : Carried F) : Fin 9 → Plane F :=
  let ⟨w0, _, _, w3, w4, _, f6, f7, f8, f9, f10, f11, f12, f13, f14⟩ := x
  ![k0_pay82 w0 w3 w4 f6 f7 f8, k0_pay83 w0 w3 w4 f6 f7 f8, k0_pay76 w0 w3 w4 f6 f7 f8,
    k0_pay84 w0 w3 w4 f9 f10 f11, k0_pay85 w0 w3 w4 f9 f10 f11, k0_pay78 w0 w3 w4 f9 f10 f11,
    k0_pay86 w0 w3 w4 f12 f13 f14, k0_pay87 w0 w3 w4 f12 f13 f14, k0_pay80 w0 w3 w4 f12 f13 f14]

/-- The nine planes returned. -/
def frameOf (x0 x1 x2 x3 x4 x5 : Plane F) (j : Fin 9) : Plane F := sorted (swept x0 x1 x2 x3 x4 x5 8) j

/-! ## The body -/

/-- Before sweep `k` the carried planes are `k` sweeps in. -/
def carriedAt (x0 x1 x2 x3 x4 x5 : Plane F) (k : ℕ) (acc : Carried F) : sProp 𝕄 :=
  iprop(⌜acc = swept x0 x1 x2 x3 x4 x5 k⌝)

set_option maxHeartbeats 2000000 in
/-- One sweep. -/
theorem sweep_step (c : Dev nD) (E : Set ℕ)
    (arg0 : Memref sig .tc .vmem S16x1x2048 .f32) (harg0 : arg0.IsWhole)
    (arg1 : Memref sig .tc .vmem S16x1x2048 .f32) (harg1 : arg1.IsWhole)
    (arg2 : Memref sig .tc .vmem S16x1x2048 .f32) (harg2 : arg2.IsWhole)
    (arg3 : Memref sig .tc .vmem S16x1x2048 .f32) (harg3 : arg3.IsWhole)
    (arg4 : Memref sig .tc .vmem S16x1x2048 .f32) (harg4 : arg4.IsWhole)
    (arg5 : Memref sig .tc .vmem S16x1x2048 .f32) (harg5 : arg5.IsWhole)
    (arg6 : Memref sig .tc .vmem S16x1x2048 .f32) (harg6 : arg6.IsWhole)
    (arg7 : Memref sig .tc .vmem S16x1x2048 .f32) (harg7 : arg7.IsWhole)
    (arg8 : Memref sig .tc .vmem S16x1x2048 .f32) (harg8 : arg8.IsWhole)
    (arg9 : Memref sig .tc .vmem S16x1x2048 .f32) (harg9 : arg9.IsWhole)
    (arg10 : Memref sig .tc .vmem S16x1x2048 .f32) (harg10 : arg10.IsWhole)
    (arg11 : Memref sig .tc .vmem S16x1x2048 .f32) (harg11 : arg11.IsWhole)
    (arg12 : Memref sig .tc .vmem S16x1x2048 .f32) (harg12 : arg12.IsWhole)
    (arg13 : Memref sig .tc .vmem S16x1x2048 .f32) (harg13 : arg13.IsWhole)
    (arg14 : Memref sig .tc .vmem S16x1x2048 .f32) (harg14 : arg14.IsWhole)
    (x0 x1 x2 x3 x4 x5 : Plane F) (k : Fin k0_t1_loop.trips) (acc : Carried F) :
    (carriedAt x0 x1 x2 x3 x4 x5 k.val acc : sProp 𝕄)
      ⊢ wp frame (wpE (defs₀ (F := F)) Variants.none (c : Thread nD τ) none) E (k0_t1_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 k acc)
          (fun acc' => carriedAt x0 x1 x2 x3 x4 x5 (k.val + 1) acc') := by
  unfold carriedAt
  iintro %hacc
  have hnext : sweep acc = swept x0 x1 x2 x3 x4 x5 (k.val + 1) := by
    rw [hacc]; exact (Function.iterate_succ_apply' sweep k.val (start x0 x1 x2 x3 x4 x5)).symm
  clear hacc
  obtain ⟨a16, a17, a18, a19, a20, a21, a22, a23, a24, a25, a26, a27, a28, a29, a30⟩ := acc
  unfold k0_t1_body
  simp only [k0_part1_eq_skeleton, k0_part2_eq_skeleton, k0_part3_eq_skeleton, k0_part4_eq_skeleton]
  unfold k0_part1_skel k0_part2_skel k0_part3_skel k0_part4_skel
  sl_exec
  sl_step
  ipureintro
  exact hnext

set_option maxHeartbeats 4000000 in
/-- The body's triple: the six planes stay, the nine end at the frame's. -/
theorem body_run (c : Dev nD)
    (arg0 : Memref sig .tc .vmem S16x1x2048 .f32) (harg0 : arg0.IsWhole)
    (arg1 : Memref sig .tc .vmem S16x1x2048 .f32) (harg1 : arg1.IsWhole)
    (arg2 : Memref sig .tc .vmem S16x1x2048 .f32) (harg2 : arg2.IsWhole)
    (arg3 : Memref sig .tc .vmem S16x1x2048 .f32) (harg3 : arg3.IsWhole)
    (arg4 : Memref sig .tc .vmem S16x1x2048 .f32) (harg4 : arg4.IsWhole)
    (arg5 : Memref sig .tc .vmem S16x1x2048 .f32) (harg5 : arg5.IsWhole)
    (arg6 : Memref sig .tc .vmem S16x1x2048 .f32) (harg6 : arg6.IsWhole)
    (arg7 : Memref sig .tc .vmem S16x1x2048 .f32) (harg7 : arg7.IsWhole)
    (arg8 : Memref sig .tc .vmem S16x1x2048 .f32) (harg8 : arg8.IsWhole)
    (arg9 : Memref sig .tc .vmem S16x1x2048 .f32) (harg9 : arg9.IsWhole)
    (arg10 : Memref sig .tc .vmem S16x1x2048 .f32) (harg10 : arg10.IsWhole)
    (arg11 : Memref sig .tc .vmem S16x1x2048 .f32) (harg11 : arg11.IsWhole)
    (arg12 : Memref sig .tc .vmem S16x1x2048 .f32) (harg12 : arg12.IsWhole)
    (arg13 : Memref sig .tc .vmem S16x1x2048 .f32) (harg13 : arg13.IsWhole)
    (arg14 : Memref sig .tc .vmem S16x1x2048 .f32) (harg14 : arg14.IsWhole)
    (x0 x1 x2 x3 x4 x5 : Plane F) (E : Set ℕ) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (frameOf x0 x1 x2 x3 x4 x5 0) ∗ owns (c : Thread nD τ) arg7 fullShare (frameOf x0 x1 x2 x3 x4 x5 1) ∗ owns (c : Thread nD τ) arg8 fullShare (frameOf x0 x1 x2 x3 x4 x5 2) ∗ owns (c : Thread nD τ) arg9 fullShare (frameOf x0 x1 x2 x3 x4 x5 3) ∗ owns (c : Thread nD τ) arg10 fullShare (frameOf x0 x1 x2 x3 x4 x5 4) ∗ owns (c : Thread nD τ) arg11 fullShare (frameOf x0 x1 x2 x3 x4 x5 5) ∗ owns (c : Thread nD τ) arg12 fullShare (frameOf x0 x1 x2 x3 x4 x5 6) ∗ owns (c : Thread nD τ) arg13 fullShare (frameOf x0 x1 x2 x3 x4 x5 7) ∗ owns (c : Thread nD τ) arg14 fullShare (frameOf x0 x1 x2 x3 x4 x5 8)) -∗ K ⟨⟩))
      ⊢ wp frame (wpE (defs₀ (F := F)) Variants.none c none) E (cc0__eigh_kernel arg0 harg0 arg1 harg1 arg2 harg2 arg3 harg3 arg4 harg4 arg5 harg5 arg6 harg6 arg7 harg7 arg8 harg8 arg9 harg9 arg10 harg10 arg11 harg11 arg12 harg12 arg13 harg13 arg14 harg14) K := by
  simp only [cc0__eigh_kernel_eq_skeleton]; unfold cc0__eigh_kernel_skel
  simp only [k0_part5_eq_skeleton]; unfold k0_part5_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, Hk⟩
  obtain rfl := harg0.eq_unread hf0
  obtain rfl := harg1.eq_unread hf1
  obtain rfl := harg2.eq_unread hf2
  obtain rfl := harg3.eq_unread hf3
  obtain rfl := harg4.eq_unread hf4
  obtain rfl := harg5.eq_unread hf5
  have e0 : View.readAt (Elt F) arg0.view (Rect.unit ![0, 0, 0] S16x1x2048.size inb_S16x1x2048_S16x1x2048_0_0_0).toLoadRect
      (harg0.unread x0) = x0 := by rw [View.readAt_full, hf0]
  have e1 : View.readAt (Elt F) arg1.view (Rect.unit ![0, 0, 0] S16x1x2048.size inb_S16x1x2048_S16x1x2048_0_0_0).toLoadRect
      (harg1.unread x1) = x1 := by rw [View.readAt_full, hf1]
  have e2 : View.readAt (Elt F) arg2.view (Rect.unit ![0, 0, 0] S16x1x2048.size inb_S16x1x2048_S16x1x2048_0_0_0).toLoadRect
      (harg2.unread x2) = x2 := by rw [View.readAt_full, hf2]
  have e3 : View.readAt (Elt F) arg3.view (Rect.unit ![0, 0, 0] S16x1x2048.size inb_S16x1x2048_S16x1x2048_0_0_0).toLoadRect
      (harg3.unread x3) = x3 := by rw [View.readAt_full, hf3]
  have e4 : View.readAt (Elt F) arg4.view (Rect.unit ![0, 0, 0] S16x1x2048.size inb_S16x1x2048_S16x1x2048_0_0_0).toLoadRect
      (harg4.unread x4) = x4 := by rw [View.readAt_full, hf4]
  have e5 : View.readAt (Elt F) arg5.view (Rect.unit ![0, 0, 0] S16x1x2048.size inb_S16x1x2048_S16x1x2048_0_0_0).toLoadRect
      (harg5.unread x5) = x5 := by rw [View.readAt_full, hf5]
  sl_exec
  simp only [bind_assoc]
  sl_for (carriedAt x0 x1 x2 x3 x4 x5) $$ []
  · intro k acc
    exact sweep_step c E arg0 harg0 arg1 harg1 arg2 harg2 arg3 harg3 arg4 harg4 arg5 harg5 arg6 harg6 arg7 harg7 arg8 harg8 arg9 harg9 arg10 harg10 arg11 harg11 arg12 harg12 arg13 harg13 arg14 harg14 _ _ _ _ _ _ k acc
  · unfold carriedAt
    ipureintro; rfl
  iintro %acc HI
  unfold carriedAt
  icases HI with %hacc
  replace hacc : acc = swept x0 x1 x2 x3 x4 x5 8 := hacc.trans (congrArg _ (by decide +kernel))
  have hres : ∀ j, frameOf x0 x1 x2 x3 x4 x5 j = sorted acc j := fun j => by rw [hacc]; rfl
  clear hacc
  obtain ⟨w0, w1, w2, w3, w4, w5, g6, g7, g8, g9, g10, g11, g12, g13, g14⟩ := acc
  sl_exec
  sl_step
  iapply Hk
  isplitl [H0]
  · iexists _; isplitr; · ipureintro; exact harg0.read_unread _
    iexact H0
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; swap; · iexact H6
    ipureintro
    rw [hres]
    exact View.read_writes_full _ _ _ _ _
  isplitl [H7]
  · iexists _; isplitr; swap; · iexact H7
    ipureintro
    rw [hres]
    exact View.read_writes_full _ _ _ _ _
  isplitl [H8]
  · iexists _; isplitr; swap; · iexact H8
    ipureintro
    rw [hres]
    exact View.read_writes_full _ _ _ _ _
  isplitl [H9]
  · iexists _; isplitr; swap; · iexact H9
    ipureintro
    rw [hres]
    exact View.read_writes_full _ _ _ _ _
  isplitl [H10]
  · iexists _; isplitr; swap; · iexact H10
    ipureintro
    rw [hres]
    exact View.read_writes_full _ _ _ _ _
  isplitl [H11]
  · iexists _; isplitr; swap; · iexact H11
    ipureintro
    rw [hres]
    exact View.read_writes_full _ _ _ _ _
  isplitl [H12]
  · iexists _; isplitr; swap; · iexact H12
    ipureintro
    rw [hres]
    exact View.read_writes_full _ _ _ _ _
  isplitl [H13]
  · iexists _; isplitr; swap; · iexact H13
    ipureintro
    rw [hres]
    exact View.read_writes_full _ _ _ _ _
  iexists _; isplitr; swap; · iexact H14
  ipureintro
  rw [hres]
  exact View.read_writes_full _ _ _ _ _

/-! ## The buffers the body is called with -/

/-- Window 0's staging buffer at a point. -/
abbrev stg0 (t : Fin cfg0.N) : Memref sig .tc .vmem S16x1x2048 .f32 := win0_0.stage (cfg0.slots t 0)
/-- Window 1's staging buffer at a point. -/
abbrev stg1 (t : Fin cfg0.N) : Memref sig .tc .vmem S16x1x2048 .f32 := win0_1.stage (cfg0.slots t 1)
/-- Window 2's staging buffer at a point. -/
abbrev stg2 (t : Fin cfg0.N) : Memref sig .tc .vmem S16x1x2048 .f32 := win0_2.stage (cfg0.slots t 2)
/-- Window 3's staging buffer at a point. -/
abbrev stg3 (t : Fin cfg0.N) : Memref sig .tc .vmem S16x1x2048 .f32 := win0_3.stage (cfg0.slots t 3)
/-- Window 4's staging buffer at a point. -/
abbrev stg4 (t : Fin cfg0.N) : Memref sig .tc .vmem S16x1x2048 .f32 := win0_4.stage (cfg0.slots t 4)
/-- Window 5's staging buffer at a point. -/
abbrev stg5 (t : Fin cfg0.N) : Memref sig .tc .vmem S16x1x2048 .f32 := win0_5.stage (cfg0.slots t 5)
/-- Window 6's staging buffer at a point. -/
abbrev stg6 (t : Fin cfg0.N) : Memref sig .tc .vmem S16x1x2048 .f32 := win0_6.stage (cfg0.slots t 6)
/-- Window 7's staging buffer at a point. -/
abbrev stg7 (t : Fin cfg0.N) : Memref sig .tc .vmem S16x1x2048 .f32 := win0_7.stage (cfg0.slots t 7)
/-- Window 8's staging buffer at a point. -/
abbrev stg8 (t : Fin cfg0.N) : Memref sig .tc .vmem S16x1x2048 .f32 := win0_8.stage (cfg0.slots t 8)
/-- Window 9's staging buffer at a point. -/
abbrev stg9 (t : Fin cfg0.N) : Memref sig .tc .vmem S16x1x2048 .f32 := win0_9.stage (cfg0.slots t 9)
/-- Window 10's staging buffer at a point. -/
abbrev stg10 (t : Fin cfg0.N) : Memref sig .tc .vmem S16x1x2048 .f32 := win0_10.stage (cfg0.slots t 10)
/-- Window 11's staging buffer at a point. -/
abbrev stg11 (t : Fin cfg0.N) : Memref sig .tc .vmem S16x1x2048 .f32 := win0_11.stage (cfg0.slots t 11)
/-- Window 12's staging buffer at a point. -/
abbrev stg12 (t : Fin cfg0.N) : Memref sig .tc .vmem S16x1x2048 .f32 := win0_12.stage (cfg0.slots t 12)
/-- Window 13's staging buffer at a point. -/
abbrev stg13 (t : Fin cfg0.N) : Memref sig .tc .vmem S16x1x2048 .f32 := win0_13.stage (cfg0.slots t 13)
/-- Window 14's staging buffer at a point. -/
abbrev stg14 (t : Fin cfg0.N) : Memref sig .tc .vmem S16x1x2048 .f32 := win0_14.stage (cfg0.slots t 14)

variable (m : (ℓ : Loc nD τ sig) → Buf (Elt F) ℓ) (ρ : Dev nD → PrngReg)

/-- Between points only the generator register is owned, at some value. -/
theorem between_eq (c : Dev nD) : (Pipeline.ΦA spec0 c : sProp 𝕄) = iprop(BI.emp ∗ (∃ r, prngReg c r)) := by
  unfold Pipeline.ΦA; rw [scopedRest0_eq]

/-- The arrays as the region finds them; after the point each input's buffer at its block, each output's at its plane. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => frameOf (iblk m c 0 t) (iblk m c 1 t) (iblk m c 2 t) (iblk m c 3 t) (iblk m c 4 t) (iblk m c 5 t) 0
    | ⟨7, _⟩ => frameOf (iblk m c 0 t) (iblk m c 1 t) (iblk m c 2 t) (iblk m c 3 t) (iblk m c 4 t) (iblk m c 5 t) 1
    | ⟨8, _⟩ => frameOf (iblk m c 0 t) (iblk m c 1 t) (iblk m c 2 t) (iblk m c 3 t) (iblk m c 4 t) (iblk m c 5 t) 2
    | ⟨9, _⟩ => frameOf (iblk m c 0 t) (iblk m c 1 t) (iblk m c 2 t) (iblk m c 3 t) (iblk m c 4 t) (iblk m c 5 t) 3
    | ⟨10, _⟩ => frameOf (iblk m c 0 t) (iblk m c 1 t) (iblk m c 2 t) (iblk m c 3 t) (iblk m c 4 t) (iblk m c 5 t) 4
    | ⟨11, _⟩ => frameOf (iblk m c 0 t) (iblk m c 1 t) (iblk m c 2 t) (iblk m c 3 t) (iblk m c 4 t) (iblk m c 5 t) 5
    | ⟨12, _⟩ => frameOf (iblk m c 0 t) (iblk m c 1 t) (iblk m c 2 t) (iblk m c 3 t) (iblk m c 4 t) (iblk m c 5 t) 6
    | ⟨13, _⟩ => frameOf (iblk m c 0 t) (iblk m c 1 t) (iblk m c 2 t) (iblk m c 3 t) (iblk m c 4 t) (iblk m c 5 t) 7
    | ⟨14, _⟩ => frameOf (iblk m c 0 t) (iblk m c 1 t) (iblk m c 2 t) (iblk m c 3 t) (iblk m c 4 t) (iblk m c 5 t) 8
  Φ _ := Pipeline.ΦA spec0 c
  q _ := fullShare
  owed _ := 0

/-- The arrays at entry. -/
theorem entry_eq (c : Dev nD) (w : Fin cfg0.W) : (dats m 0 c).A w = V m c (Pipeline.arrRef spec0 w) := by
  dsimp only [dats]

/-- Window 0 after the point. -/
theorem left0 (c : Dev nD) (t : Fin cfg0.N) : (dats m 0 c).after 0 t = iblk m c 0 t := by dsimp only [dats]
/-- Window 1 after the point. -/
theorem left1 (c : Dev nD) (t : Fin cfg0.N) : (dats m 0 c).after 1 t = iblk m c 1 t := by dsimp only [dats]
/-- Window 2 after the point. -/
theorem left2 (c : Dev nD) (t : Fin cfg0.N) : (dats m 0 c).after 2 t = iblk m c 2 t := by dsimp only [dats]
/-- Window 3 after the point. -/
theorem left3 (c : Dev nD) (t : Fin cfg0.N) : (dats m 0 c).after 3 t = iblk m c 3 t := by dsimp only [dats]
/-- Window 4 after the point. -/
theorem left4 (c : Dev nD) (t : Fin cfg0.N) : (dats m 0 c).after 4 t = iblk m c 4 t := by dsimp only [dats]
/-- Window 5 after the point. -/
theorem left5 (c : Dev nD) (t : Fin cfg0.N) : (dats m 0 c).after 5 t = iblk m c 5 t := by dsimp only [dats]
/-- Window 6 after the point. -/
theorem left6 (c : Dev nD) (t : Fin cfg0.N) : (dats m 0 c).after 6 t = frameOf (iblk m c 0 t) (iblk m c 1 t) (iblk m c 2 t) (iblk m c 3 t) (iblk m c 4 t) (iblk m c 5 t) 0 := by dsimp only [dats]
/-- Window 7 after the point. -/
theorem left7 (c : Dev nD) (t : Fin cfg0.N) : (dats m 0 c).after 7 t = frameOf (iblk m c 0 t) (iblk m c 1 t) (iblk m c 2 t) (iblk m c 3 t) (iblk m c 4 t) (iblk m c 5 t) 1 := by dsimp only [dats]
/-- Window 8 after the point. -/
theorem left8 (c : Dev nD) (t : Fin cfg0.N) : (dats m 0 c).after 8 t = frameOf (iblk m c 0 t) (iblk m c 1 t) (iblk m c 2 t) (iblk m c 3 t) (iblk m c 4 t) (iblk m c 5 t) 2 := by dsimp only [dats]
/-- Window 9 after the point. -/
theorem left9 (c : Dev nD) (t : Fin cfg0.N) : (dats m 0 c).after 9 t = frameOf (iblk m c 0 t) (iblk m c 1 t) (iblk m c 2 t) (iblk m c 3 t) (iblk m c 4 t) (iblk m c 5 t) 3 := by dsimp only [dats]
/-- Window 10 after the point. -/
theorem left10 (c : Dev nD) (t : Fin cfg0.N) : (dats m 0 c).after 10 t = frameOf (iblk m c 0 t) (iblk m c 1 t) (iblk m c 2 t) (iblk m c 3 t) (iblk m c 4 t) (iblk m c 5 t) 4 := by dsimp only [dats]
/-- Window 11 after the point. -/
theorem left11 (c : Dev nD) (t : Fin cfg0.N) : (dats m 0 c).after 11 t = frameOf (iblk m c 0 t) (iblk m c 1 t) (iblk m c 2 t) (iblk m c 3 t) (iblk m c 4 t) (iblk m c 5 t) 5 := by dsimp only [dats]
/-- Window 12 after the point. -/
theorem left12 (c : Dev nD) (t : Fin cfg0.N) : (dats m 0 c).after 12 t = frameOf (iblk m c 0 t) (iblk m c 1 t) (iblk m c 2 t) (iblk m c 3 t) (iblk m c 4 t) (iblk m c 5 t) 6 := by dsimp only [dats]
/-- Window 13 after the point. -/
theorem left13 (c : Dev nD) (t : Fin cfg0.N) : (dats m 0 c).after 13 t = frameOf (iblk m c 0 t) (iblk m c 1 t) (iblk m c 2 t) (iblk m c 3 t) (iblk m c 4 t) (iblk m c 5 t) 7 := by dsimp only [dats]
/-- Window 14 after the point. -/
theorem left14 (c : Dev nD) (t : Fin cfg0.N) : (dats m 0 c).after 14 t = frameOf (iblk m c 0 t) (iblk m c 1 t) (iblk m c 2 t) (iblk m c 3 t) (iblk m c 4 t) (iblk m c 5 t) 8 := by dsimp only [dats]
/-- Window 0 before the point. -/
theorem found0 (c : Dev nD) (t : Fin cfg0.N) (d) : (dats m 0 c).before 0 t d = iblk m c 0 t :=
  before0_0_of m (dats m 0 c) (entry_eq m c 0) (left0 m c) t d
/-- Window 1 before the point. -/
theorem found1 (c : Dev nD) (t : Fin cfg0.N) (d) : (dats m 0 c).before 1 t d = iblk m c 1 t :=
  before0_1_of m (dats m 0 c) (entry_eq m c 1) (left1 m c) t d
/-- Window 2 before the point. -/
theorem found2 (c : Dev nD) (t : Fin cfg0.N) (d) : (dats m 0 c).before 2 t d = iblk m c 2 t :=
  before0_2_of m (dats m 0 c) (entry_eq m c 2) (left2 m c) t d
/-- Window 3 before the point. -/
theorem found3 (c : Dev nD) (t : Fin cfg0.N) (d) : (dats m 0 c).before 3 t d = iblk m c 3 t :=
  before0_3_of m (dats m 0 c) (entry_eq m c 3) (left3 m c) t d
/-- Window 4 before the point. -/
theorem found4 (c : Dev nD) (t : Fin cfg0.N) (d) : (dats m 0 c).before 4 t d = iblk m c 4 t :=
  before0_4_of m (dats m 0 c) (entry_eq m c 4) (left4 m c) t d
/-- Window 5 before the point. -/
theorem found5 (c : Dev nD) (t : Fin cfg0.N) (d) : (dats m 0 c).before 5 t d = iblk m c 5 t :=
  before0_5_of m (dats m 0 c) (entry_eq m c 5) (left5 m c) t d

/-- What the body is called with. -/
def handed (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d))
    ∗ (∃ d, owns (c : Thread nD τ) (stg5 t) fullShare ((dats m 0 c).before 5 t d))
    ∗ (∃ d, owns (c : Thread nD τ) (stg6 t) fullShare ((dats m 0 c).before 6 t d))
    ∗ (∃ d, owns (c : Thread nD τ) (stg7 t) fullShare ((dats m 0 c).before 7 t d))
    ∗ (∃ d, owns (c : Thread nD τ) (stg8 t) fullShare ((dats m 0 c).before 8 t d))
    ∗ (∃ d, owns (c : Thread nD τ) (stg9 t) fullShare ((dats m 0 c).before 9 t d))
    ∗ (∃ d, owns (c : Thread nD τ) (stg10 t) fullShare ((dats m 0 c).before 10 t d))
    ∗ (∃ d, owns (c : Thread nD τ) (stg11 t) fullShare ((dats m 0 c).before 11 t d))
    ∗ (∃ d, owns (c : Thread nD τ) (stg12 t) fullShare ((dats m 0 c).before 12 t d))
    ∗ (∃ d, owns (c : Thread nD τ) (stg13 t) fullShare ((dats m 0 c).before 13 t d))
    ∗ (∃ d, owns (c : Thread nD τ) (stg14 t) fullShare ((dats m 0 c).before 14 t d)))

/-- What it hands back. -/
def returned (c : Dev nD) (t : Fin cfg0.N) : sProp 𝕄 :=
  iprop((dats m 0 c).Φ t.succ ∗ (dats m 0 c).owesAt () t.succ
    ∗ owns (c : Thread nD τ) (stg0 t) fullShare ((dats m 0 c).after 0 t)
    ∗ owns (c : Thread nD τ) (stg1 t) fullShare ((dats m 0 c).after 1 t)
    ∗ owns (c : Thread nD τ) (stg2 t) fullShare ((dats m 0 c).after 2 t)
    ∗ owns (c : Thread nD τ) (stg3 t) fullShare ((dats m 0 c).after 3 t)
    ∗ owns (c : Thread nD τ) (stg4 t) fullShare ((dats m 0 c).after 4 t)
    ∗ owns (c : Thread nD τ) (stg5 t) fullShare ((dats m 0 c).after 5 t)
    ∗ owns (c : Thread nD τ) (stg6 t) fullShare ((dats m 0 c).after 6 t)
    ∗ owns (c : Thread nD τ) (stg7 t) fullShare ((dats m 0 c).after 7 t)
    ∗ owns (c : Thread nD τ) (stg8 t) fullShare ((dats m 0 c).after 8 t)
    ∗ owns (c : Thread nD τ) (stg9 t) fullShare ((dats m 0 c).after 9 t)
    ∗ owns (c : Thread nD τ) (stg10 t) fullShare ((dats m 0 c).after 10 t)
    ∗ owns (c : Thread nD τ) (stg11 t) fullShare ((dats m 0 c).after 11 t)
    ∗ owns (c : Thread nD τ) (stg12 t) fullShare ((dats m 0 c).after 12 t)
    ∗ owns (c : Thread nD τ) (stg13 t) fullShare ((dats m 0 c).after 13 t)
    ∗ owns (c : Thread nD τ) (stg14 t) fullShare ((dats m 0 c).after 14 t))

set_option maxHeartbeats 1600000 in
/-- The body's triple at a point. -/
theorem body_at (c : Dev nD) (t : Fin cfg0.N) :
    handed m c t ⊢ wp frame (wpE (defs₀ (F := F)) Variants.none c none) Set.univ (bodyAt0 t) (fun _ => returned m c t) := by
  unfold handed returned bodyAt0
  simp only [found0, found1, found2, found3, found4, found5]
  rw [show (dats m 0 c).Φ t.succ = (dats m 0 c).Φ t.castSucc from rfl,
    show (dats m 0 c).owesAt () t.succ = (dats m 0 c).owesAt () t.castSucc from rfl,
    left0, left1, left2, left3, left4, left5, left6, left7, left8, left9, left10, left11, left12, left13, left14]
  iintro ⟨Hg, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (body_run c _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  iintro ⟨H0, H1, H2, H3, H4, H5, H6, H7, H8, H9, H10, H11, H12, H13, H14⟩
  isplitl [Hg]; · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

/-- The pipeline's call at a point is the body on the point's buffers. -/
theorem call_eq (t : Fin cfg0.N) : defs₀ (F := F) .tc cfg0.body (cfg0.bodyArgs t (cfg0.slots t)) = bodyAt0 t := by
  unfold defs₀; rw [Defs.onTc_tc]

/-- The obligation. -/
theorem obligation (c : Dev nD) : BodyObligation (dats (F := F) m 0 c) (defs₀ (F := F)) Variants.none () Set.univ := fun t => by
  rw [bigSep_W0, bigSep_W0, call_eq]
  exact triple_restated (body_at m c t) rfl .rfl fun _ => .rfl

/-! ## The launch -/

set_option backward.isDefEq.respectTransparency.types false in
set_option maxHeartbeats 800000 in
/-- Every fair execution ends, with every array at what its write-back leaves and every counter zero. -/
theorem launch : θ_run defs (onTc (τ := τ) (main (F := F))) (s₀ m ρ) (fun r =>
    (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := entry_eq m) (hΦ := fun _ _ => rfl)

/-- The arguments end unchanged, the counters at zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (entry_eq m) ((θ_run defs _ _).mono (fun _ h => h.1) (launch m ρ)))
    ((θ_run defs _ _).mono (fun _ h => h.2) (launch m ρ))

end Cert.FramesIdeal.Jac

end
-- ==== Proof.Turn.lean ====
/-
  A sweep at one place. Where the carried planes hold reals, the sweep's planes hold the sweep of those reals.
-/
module

public import proofs.«01_k».proof.Proof.Rotation
public import proofs.«01_k».proof.Proof.Sweeps

@[expose] public section

set_option maxRecDepth 16384

noncomputable section

namespace Cert.FramesIdeal.Jac

open Idealize.ShloMosaic
open Cert.FramesIdeal.Gen
open Cert.Jac

/-- The plane holds this real at the place. -/
def At (p : Plane Ideal) (i : S16x1x2048.Idx) (r : ℝ) : Prop := (p i : EReal) = (r : EReal)

variable {i : S16x1x2048.Idx}

theorem lo_at {c s x y : Plane Ideal} {c' s' x' y' : ℝ} (hc : At c i c') (hs : At s i s') (hx : At x i x') (hy : At y i y') :
    At (subf (mulf c x) (mulf s y)) i (lo c' s' x' y') := by
  change ((c i : EReal) * (x i : EReal) - (s i : EReal) * (y i : EReal) : EReal) = _
  unfold At at *
  rw [hc, hs, hx, hy, lo]; push_cast; rfl

theorem hi_at {c s x y : Plane Ideal} {c' s' x' y' : ℝ} (hc : At c i c') (hs : At s i s') (hx : At x i x') (hy : At y i y') :
    At (addf (mulf s x) (mulf c y)) i (hi c' s' x' y') := by
  change ((s i : EReal) * (x i : EReal) + (c i : EReal) * (y i : EReal) : EReal) = _
  unfold At at *
  rw [hc, hs, hx, hy, hi]; push_cast; rfl

theorem one_eq : Ideal.ofBits .f32 0x3F800000#32 = ((1 : ℝ) : EReal) := by
  simp [Ideal.ofBits, Ideal.ieee, -EReal.coe_mul]; norm_num
theorem minus_eq : Ideal.ofBits .f32 0xBF800000#32 = ((-1 : ℝ) : EReal) := by
  simp [Ideal.ofBits, Ideal.ieee, -EReal.coe_mul]; norm_num
theorem nought_eq : Ideal.ofBits .f32 0x00000000#32 = ((0 : ℝ) : EReal) := by
  simp [Ideal.ofBits, Ideal.ieee, -EReal.coe_mul]
theorem dbl_eq : Ideal.ofBits .f32 0x40000000#32 = ((2 : ℝ) : EReal) := by
  simp [Ideal.ofBits, Ideal.ieee, -EReal.coe_mul]; norm_num

theorem div_real {x y : ℝ} (hy : y ≠ 0) : Ideal.div (x : EReal) (y : EReal) = ((x / y : ℝ) : EReal) := by
  rw [Ideal.div_coe hy, ← EReal.coe_mul]; congr 1; field_simp

theorem sqrt_real {x : ℝ} (hx : 0 ≤ x) : Ideal.sqrt (x : EReal) = ((Real.sqrt x : ℝ) : EReal) := by
  rw [Ideal.sqrt_coe, if_neg (not_lt.mpr hx)]

theorem abs_real (x : ℝ) : max (x : EReal) (-(x : EReal)) = ((|x| : ℝ) : EReal) := by
  rw [← EReal.coe_neg, abs_eq_max_neg]; exact (EReal.coe_strictMono.monotone.map_max).symm

/-- The constant plane. -/
abbrev const (b : BitVec 32) : Plane Ideal := broadcast S16x1x2048 (Scalar.ofBits (F := Ideal) .f32 b)

/-- The half cotangent of the double angle. -/
def zetaP (a b d : Plane Ideal) : Plane Ideal := divf (subf d a) (mulf (const 0x40000000#32) b)
/-- The tangent. -/
def tanP (z : Plane Ideal) : Plane Ideal :=
  divf (select (cmpf .oge z (const 0x00000000#32)) (const 0x3F800000#32) (const 0xBF800000#32))
    (addf (absf z) (sqrt (addf (const 0x3F800000#32) (mulf z z))))
/-- The cosine of a tangent. -/
def rawP (t : Plane Ideal) : Plane Ideal :=
  divf (const 0x3F800000#32) (sqrt (addf (const 0x3F800000#32) (mulf t t)))
/-- The cosine. -/
def cosP (a b d : Plane Ideal) : Plane Ideal :=
  select (cmpf .oeq b (const 0x00000000#32)) (const 0x3F800000#32) (rawP (tanP (zetaP a b d)))
/-- The sine. -/
def sinP (a b d : Plane Ideal) : Plane Ideal :=
  select (cmpf .oeq b (const 0x00000000#32)) (const 0x00000000#32) (mulf (tanP (zetaP a b d)) (rawP (tanP (zetaP a b d))))

theorem zeta_at {a b d : Plane Ideal} {a' b' d' : ℝ} (ha : At a i a') (hb : At b i b') (hd : At d i d') (h0 : b' ≠ 0) :
    At (zetaP a b d) i ((d' - a') / (2 * b')) := by
  change Ideal.div ((d i : EReal) - (a i : EReal)) (Ideal.ofBits .f32 0x40000000#32 * (b i : EReal)) = _
  unfold At at *
  rw [ha, hb, hd, dbl_eq, ← EReal.coe_sub, ← EReal.coe_mul, div_real (mul_ne_zero two_ne_zero h0)]

theorem sel_at {p : Prop} [Decidable p] (x y : EReal) : (Scalar.select (BitVec.ofBool (decide p)) x y : EReal) = if p then x else y := by
  by_cases h : p <;> simp [Scalar.select, h]

theorem tan_at {z : Plane Ideal} {z' : ℝ} (hz : At z i z') : At (tanP z) i (tanR z') := by
  change Ideal.div (Scalar.select (Ideal.cmp .oge (z i : EReal) (Ideal.ofBits .f32 0x00000000#32)) (Ideal.ofBits .f32 0x3F800000#32) (Ideal.ofBits .f32 0xBF800000#32) : EReal)
    (max (z i : EReal) (-(z i : EReal)) + Ideal.sqrt (Ideal.ofBits .f32 0x3F800000#32 + (z i : EReal) * (z i : EReal))) = _
  unfold At at *
  have h1 : (0 : ℝ) < 1 + z' * z' := by have := mul_self_nonneg z'; linarith
  have h2 : |z'| + Real.sqrt (1 + z' * z') ≠ 0 := (add_pos_of_nonneg_of_pos (abs_nonneg _) (Real.sqrt_pos.mpr h1)).ne'
  rw [hz, one_eq, minus_eq, nought_eq, abs_real, ← EReal.coe_mul, ← EReal.coe_add, sqrt_real h1.le, ← EReal.coe_add]
  have hsel : (Scalar.select (Ideal.cmp .oge (z' : EReal) ((0 : ℝ) : EReal)) ((1 : ℝ) : EReal) ((-1 : ℝ) : EReal) : EReal)
      = ((if 0 ≤ z' then 1 else -1 : ℝ) : EReal) := by
    by_cases h : 0 ≤ z' <;> simp [Scalar.select, Ideal.cmp, h]
  rw [hsel, div_real h2]; rfl

theorem raw_at {t : Plane Ideal} {t' : ℝ} (ht : At t i t') : At (rawP t) i (1 / Real.sqrt (1 + t' * t')) := by
  change Ideal.div (Ideal.ofBits .f32 0x3F800000#32) (Ideal.sqrt (Ideal.ofBits .f32 0x3F800000#32 + (t i : EReal) * (t i : EReal))) = _
  unfold At at *
  have h1 : (0 : ℝ) < 1 + t' * t' := by have := mul_self_nonneg t'; linarith
  rw [ht, one_eq, ← EReal.coe_mul, ← EReal.coe_add, sqrt_real h1.le, div_real (Real.sqrt_pos.mpr h1).ne']

theorem flag_at {b x y : Plane Ideal} {b' : ℝ} (hb : At b i b') :
    (select (cmpf .oeq b (const 0x00000000#32)) x y i : EReal) = if b' = 0 then (x i : EReal) else (y i : EReal) := by
  change (Scalar.select (Ideal.cmp .oeq (b i : EReal) (Ideal.ofBits .f32 0x00000000#32)) (x i : EReal) (y i : EReal) : EReal) = _
  unfold At at *
  rw [hb, nought_eq]
  by_cases h : b' = 0 <;> simp [Scalar.select, Ideal.cmp, h]

theorem cos_at {a b d : Plane Ideal} {a' b' d' : ℝ} (ha : At a i a') (hb : At b i b') (hd : At d i d') :
    At (cosP a b d) i (cosR a' b' d') := by
  have h := flag_at (x := const 0x3F800000#32) (y := rawP (tanP (zetaP a b d))) hb
  refine h.trans ?_
  unfold cosR
  split_ifs with h0
  · exact one_eq
  · exact raw_at (tan_at (zeta_at ha hb hd h0))

theorem sin_at {a b d : Plane Ideal} {a' b' d' : ℝ} (ha : At a i a') (hb : At b i b') (hd : At d i d') :
    At (sinP a b d) i (sinR a' b' d') := by
  have h := flag_at (x := const 0x00000000#32) (y := mulf (tanP (zetaP a b d)) (rawP (tanP (zetaP a b d)))) hb
  refine h.trans ?_
  unfold sinR
  split_ifs with h0
  · exact nought_eq
  · have ht := tan_at (zeta_at ha hb hd h0)
    have hr := raw_at ht
    change ((tanP (zetaP a b d) i : EReal) * (rawP (tanP (zetaP a b d)) i : EReal) : EReal) = _
    unfold At at ht hr
    rw [ht, hr, ← EReal.coe_mul]; rfl

/-- The carried planes hold this state at the place. -/
def Holds (x : Carried Ideal) (i : S16x1x2048.Idx) (u : St) : Prop :=
  let ⟨a16, a17, a18, a19, a20, a21, a22, a23, a24, a25, a26, a27, a28, a29, a30⟩ := x
  At a16 i u.w00 ∧ At a17 i u.w01 ∧ At a18 i u.w02 ∧ At a19 i u.w11 ∧ At a20 i u.w22 ∧ At a21 i u.w12
    ∧ At a22 i u.v00 ∧ At a23 i u.v01 ∧ At a24 i u.v02 ∧ At a25 i u.v10 ∧ At a26 i u.v11 ∧ At a27 i u.v12
    ∧ At a28 i u.v20 ∧ At a29 i u.v21 ∧ At a30 i u.v22

set_option maxHeartbeats 1600000 in
theorem sweep_at {x : Carried Ideal} {u : St} (h : Holds x i u) : Holds (sweep x) i (sweepR u) := by
  obtain ⟨a16, a17, a18, a19, a20, a21, a22, a23, a24, a25, a26, a27, a28, a29, a30⟩ := x
  obtain ⟨h16, h17, h18, h19, h20, h21, h22, h23, h24, h25, h26, h27, h28, h29, h30⟩ := h
  -- the plane (0,2)
  let v69 : Plane Ideal := k0_pay4 (F := Ideal) a16 a18 a20
  let v71 : Plane Ideal := k0_pay5 (F := Ideal) a16 a18 a20
  let v86 : Plane Ideal := k0_pay8 (F := Ideal) a16 a18 a20
  let v89 : Plane Ideal := k0_pay9 (F := Ideal) a16 a18 a20
  have c1 : At (v69) i _ := cos_at h16 h18 h20
  have s1 : At (v71) i _ := sin_at h16 h18 h20
  have w86 : At (v86) i _ := lo_at c1 s1 (lo_at c1 s1 h16 h18) (lo_at c1 s1 h18 h20)
  have w89 : At (v89) i _ := hi_at c1 s1 (hi_at c1 s1 h16 h18) (hi_at c1 s1 h18 h20)
  let v92 : Plane Ideal := (k0_pay12 (F := Ideal) (k0_pay10 (F := Ideal) a16 a18 a20) (k0_pay11 (F := Ideal) a16 a18 a20))
  let v95 : Plane Ideal := (k0_pay13 (F := Ideal) a17 a21 v69 v71)
  let v98 : Plane Ideal := (k0_pay14 (F := Ideal) a17 a21 v69 v71)
  have w92 : At (v92) i _ := lo_at c1 s1 (hi_at c1 s1 h16 h18) (hi_at c1 s1 h18 h20)
  have w95 : At (v95) i _ := lo_at c1 s1 h17 h21
  have w98 : At (v98) i _ := hi_at c1 s1 h17 h21
  let v101 : Plane Ideal := k0_pay15 (F := Ideal) a22 a24 v69 v71
  have w101 : At (v101) i _ := lo_at c1 s1 h22 h24
  let v104 : Plane Ideal := k0_pay16 (F := Ideal) a22 a24 v69 v71
  have w104 : At (v104) i _ := hi_at c1 s1 h22 h24
  let v107 : Plane Ideal := k0_pay17 (F := Ideal) a25 a27 v69 v71
  have w107 : At (v107) i _ := lo_at c1 s1 h25 h27
  let v110 : Plane Ideal := k0_pay18 (F := Ideal) a25 a27 v69 v71
  have w110 : At (v110) i _ := hi_at c1 s1 h25 h27
  let v113 : Plane Ideal := k0_pay19 (F := Ideal) a28 a30 v69 v71
  have w113 : At (v113) i _ := lo_at c1 s1 h28 h30
  let v116 : Plane Ideal := k0_pay20 (F := Ideal) a28 a30 v69 v71
  have w116 : At (v116) i _ := hi_at c1 s1 h28 h30
  let v138 : Plane Ideal := (k0_pay22 (F := Ideal) a17 a19 a21 v69 v71 v89)
  let v139 : Plane Ideal := (k0_pay23 (F := Ideal) a17 a19 a21 v69 v71 v89)
  let v141 : IVec S16x1x2048 1 := (k0_pay24 (F := Ideal) a17 a21 v69 v71)
  -- the plane (2,1)
  have c2 : At (k0_pay26 (F := Ideal) v138 v141 (k0_pay25 (F := Ideal))) i _ := cos_at w89 w98 h19
  have s2 : At (k0_pay27 (F := Ideal) v139 v141) i _ := sin_at w89 w98 h19
  let v160 : Plane Ideal := (k0_pay30 (F := Ideal) a19 v89 v98 v138 v139 v141 (k0_pay25 (F := Ideal)))
  let v163 : Plane Ideal := (k0_pay31 (F := Ideal) a19 v89 v98 v138 v139 v141 (k0_pay25 (F := Ideal)))
  let v166 : Plane Ideal := (k0_pay32 (F := Ideal) a19 v89 v98 v138 v139 v141 (k0_pay25 (F := Ideal)))
  have w160 : At (v160) i _ := lo_at c2 s2 (lo_at c2 s2 w89 w98) (lo_at c2 s2 w98 h19)
  have w163 : At (v163) i _ := hi_at c2 s2 (hi_at c2 s2 w89 w98) (hi_at c2 s2 w98 h19)
  have w166 : At (v166) i _ := lo_at c2 s2 (hi_at c2 s2 w89 w98) (hi_at c2 s2 w98 h19)
  let v169 : Plane Ideal := (k0_pay33 (F := Ideal) v92 v95 v138 v139 v141 (k0_pay25 (F := Ideal)))
  let v172 : Plane Ideal := (k0_pay34 (F := Ideal) v92 v95 v138 v139 v141 (k0_pay25 (F := Ideal)))
  have w169 : At (v169) i _ := lo_at c2 s2 w92 w95
  have w172 : At (v172) i _ := hi_at c2 s2 w92 w95
  let v175 : Plane Ideal := k0_pay35 (F := Ideal) a23 v104 v138 v139 v141 (k0_pay25 (F := Ideal))
  have w175 : At (v175) i _ := lo_at c2 s2 w104 h23
  let v178 : Plane Ideal := k0_pay36 (F := Ideal) a23 v104 v138 v139 v141 (k0_pay25 (F := Ideal))
  have w178 : At (v178) i _ := hi_at c2 s2 w104 h23
  let v181 : Plane Ideal := k0_pay37 (F := Ideal) a26 v110 v138 v139 v141 (k0_pay25 (F := Ideal))
  have w181 : At (v181) i _ := lo_at c2 s2 w110 h26
  let v184 : Plane Ideal := k0_pay38 (F := Ideal) a26 v110 v138 v139 v141 (k0_pay25 (F := Ideal))
  have w184 : At (v184) i _ := hi_at c2 s2 w110 h26
  let v187 : Plane Ideal := k0_pay39 (F := Ideal) a29 v116 v138 v139 v141 (k0_pay25 (F := Ideal))
  have w187 : At (v187) i _ := lo_at c2 s2 w116 h29
  let v190 : Plane Ideal := k0_pay40 (F := Ideal) a29 v116 v138 v139 v141 (k0_pay25 (F := Ideal))
  have w190 : At (v190) i _ := hi_at c2 s2 w116 h29
  let v194 : Plane Ideal := (k0_pay41 (F := Ideal) a19 v86 v89 v92 v95 v98 v138 v139 v141 (k0_pay25 (F := Ideal)))
  let v196 := (k0_pay42 (F := Ideal) a19 v86 v89 v92 v95 v98 v138 v139 v141 (k0_pay25 (F := Ideal)))
  -- the plane (0,1)
  let v217 : Plane Ideal := (k0_pay47 (F := Ideal) v172 v194 v196 (Scalar.ofBits (F := Ideal) .f32 0xBF800000#32) (k0_pay43 (F := Ideal)))
  let v219 : Plane Ideal := (k0_pay48 (F := Ideal) v172 v194 v196 (Scalar.ofBits (F := Ideal) .f32 0xBF800000#32) (k0_pay43 (F := Ideal)))
  have c3 : At (v217) i _ := cos_at w86 w172 w163
  have s3 : At (v219) i _ := sin_at w86 w172 w163
  have z0 : At (k0_pay51 (F := Ideal) v86 v163 v172 v194 v196 (Scalar.ofBits (F := Ideal) .f32 0xBF800000#32) (k0_pay43 (F := Ideal))) i _ := lo_at c3 s3 (lo_at c3 s3 w86 w172) (lo_at c3 s3 w172 w163)
  have z3 : At (k0_pay52 (F := Ideal) v86 v163 v172 v194 v196 (Scalar.ofBits (F := Ideal) .f32 0xBF800000#32) (k0_pay43 (F := Ideal))) i _ := hi_at c3 s3 (hi_at c3 s3 w86 w172) (hi_at c3 s3 w172 w163)
  have z1 : At (k0_pay53 (F := Ideal) v86 v163 v172 v194 v196 (Scalar.ofBits (F := Ideal) .f32 0xBF800000#32) (k0_pay43 (F := Ideal))) i _ := lo_at c3 s3 (hi_at c3 s3 w86 w172) (hi_at c3 s3 w172 w163)
  have z2 : At (k0_pay54 (F := Ideal) v166 v169 v172 v194 v196 (Scalar.ofBits (F := Ideal) .f32 0xBF800000#32) (k0_pay43 (F := Ideal))) i _ := lo_at c3 s3 w169 w166
  have z5 : At (k0_pay55 (F := Ideal) v166 v169 v172 v194 v196 (Scalar.ofBits (F := Ideal) .f32 0xBF800000#32) (k0_pay43 (F := Ideal))) i _ := hi_at c3 s3 w169 w166
  have z6 : At (k0_pay56 (F := Ideal) v101 v172 v178 v194 v196 (Scalar.ofBits (F := Ideal) .f32 0xBF800000#32) (k0_pay43 (F := Ideal))) i _ := lo_at c3 s3 w101 w178
  have z7 : At (k0_pay61 (F := Ideal) (k0_pay57 (F := Ideal) v101 v172 v194 v196 (Scalar.ofBits (F := Ideal) .f32 0xBF800000#32) (k0_pay43 (F := Ideal))) (k0_pay58 (F := Ideal) v172 v178 v194 v196 (Scalar.ofBits (F := Ideal) .f32 0xBF800000#32) (k0_pay43 (F := Ideal)))) i _ := hi_at c3 s3 w101 w178
  have z9 : At (k0_pay62 (F := Ideal) v107 v184 v217 v219) i _ := lo_at c3 s3 w107 w184
  have z10 : At (k0_pay63 (F := Ideal) v107 v184 v217 v219) i _ := hi_at c3 s3 w107 w184
  have z12 : At (k0_pay64 (F := Ideal) v113 v190 v217 v219) i _ := lo_at c3 s3 w113 w190
  have z13 : At (k0_pay65 (F := Ideal) v113 v190 v217 v219) i _ := hi_at c3 s3 w113 w190
  exact ⟨z0, z1, z2, z3, w160, z5, z6, z7, w175, z9, z10, w181, z12, z13, w187⟩

end Cert.FramesIdeal.Jac

end
-- ==== Proof.Orthonormal.lean ====
/-
  What the second call's nine planes satisfy where the six given hold reals. At each place the carried reals fit the matrix, so on the
  columns put in order the matrix's form ascends, and the squares of its values on two different ones are small.
-/
module

public import proofs.«01_k».proof.Proof.Turn
public import proofs.«01_k».proof.Proof.Gen.Post_orthonormal
public import proofs.«01_k».proof.Proof.Gen.Post_ascending
public import proofs.«01_k».proof.Proof.Gen.Post_nearly_diagonal
public import proofs.«01_k».proof.Proof.Gen.Pre_finite_planes

@[expose] public section

set_option maxRecDepth 16384

noncomputable section

namespace Cert.Jac

/-! ## Three in order -/

variable {α β : Type}

/-- The first of three, when the keys `a`, `b`, `d` are put in order by three exchanges. -/
def ord0 (a b d : ℝ) (x y z : α) : α :=
  if (if d < (if b < a then a else b) then d else (if b < a then a else b)) < (if b < a then b else a)
    then (if d < (if b < a then a else b) then z else (if b < a then x else y)) else (if b < a then y else x)
/-- The second. -/
def ord1 (a b d : ℝ) (x y z : α) : α :=
  if (if d < (if b < a then a else b) then d else (if b < a then a else b)) < (if b < a then b else a)
    then (if b < a then y else x) else (if d < (if b < a then a else b) then z else (if b < a then x else y))
/-- The third. -/
def ord2 (a b d : ℝ) (x y z : α) : α := if d < (if b < a then a else b) then (if b < a then x else y) else z

theorem ord0_map (f : α → β) (a b d : ℝ) (x y z : α) : f (ord0 a b d x y z) = ord0 a b d (f x) (f y) (f z) := by
  unfold ord0; split_ifs <;> rfl
theorem ord1_map (f : α → β) (a b d : ℝ) (x y z : α) : f (ord1 a b d x y z) = ord1 a b d (f x) (f y) (f z) := by
  unfold ord1; split_ifs <;> rfl
theorem ord2_map (f : α → β) (a b d : ℝ) (x y z : α) : f (ord2 a b d x y z) = ord2 a b d (f x) (f y) (f z) := by
  unfold ord2; split_ifs <;> rfl

/-- The columns in order fit the matrix too, and its form ascends on them. -/
theorem ordered_fits {R : M3} {x y z : V3} {xx xy xz yy yz zz : ℝ} (h : Fit R x y z xx xy xz yy yz zz) :
    ∃ l0 k01 k02 l1 k12 l2, Fit R (ord0 xx yy zz x y z) (ord1 xx yy zz x y z) (ord2 xx yy zz x y z) l0 k01 k02 l1 k12 l2
      ∧ l0 ≤ l1 ∧ l1 ≤ l2 ∧ k01 * k01 + k02 * k02 + k12 * k12 = xy * xy + xz * xz + yz * yz := by
  unfold ord0 ord1 ord2
  by_cases hp : yy < xx
  · simp only [hp, if_true]
    by_cases hq : zz < xx
    · simp only [hq, if_true]
      by_cases hr : zz < yy
      · simp only [hr, if_true]
        exact ⟨_, _, _, _, _, _, h.swap.swap'.swap, hr.le, hp.le, by ring⟩
      · simp only [hr, if_false]
        exact ⟨_, _, _, _, _, _, h.swap.swap', not_lt.mp hr, hq.le, by ring⟩
    · simp only [hq, if_false]
      have hr : ¬ xx < yy := not_lt.mpr hp.le
      simp only [hr, if_false]
      exact ⟨_, _, _, _, _, _, h.swap, hp.le, not_lt.mp hq, by ring⟩
  · simp only [hp, if_false]
    by_cases hq : zz < yy
    · simp only [hq, if_true]
      by_cases hr : zz < xx
      · simp only [hr, if_true]
        exact ⟨_, _, _, _, _, _, h.swap'.swap, hr.le, not_lt.mp hp, by ring⟩
      · simp only [hr, if_false]
        exact ⟨_, _, _, _, _, _, h.swap', not_lt.mp hr, hq.le, by ring⟩
    · simp only [hq, if_false, hp]
      exact ⟨_, _, _, _, _, _, h, not_lt.mp hp, not_lt.mp hq, by ring⟩

/-- The nine entries, row by row, of the columns in order. -/
def orderedR (u : St) : Fin 9 → ℝ :=
  ![ord0 u.w00 u.w11 u.w22 u.v00 u.v01 u.v02, ord1 u.w00 u.w11 u.w22 u.v00 u.v01 u.v02, ord2 u.w00 u.w11 u.w22 u.v00 u.v01 u.v02,
    ord0 u.w00 u.w11 u.w22 u.v10 u.v11 u.v12, ord1 u.w00 u.w11 u.w22 u.v10 u.v11 u.v12, ord2 u.w00 u.w11 u.w22 u.v10 u.v11 u.v12,
    ord0 u.w00 u.w11 u.w22 u.v20 u.v21 u.v22, ord1 u.w00 u.w11 u.w22 u.v20 u.v21 u.v22, ord2 u.w00 u.w11 u.w22 u.v20 u.v21 u.v22]

/-- The nine entries of the frame of a symmetric matrix. -/
def frameR (R : M3) : Fin 9 → ℝ := orderedR (sweepR^[8] (startR R))

/-- A column of the nine. -/
def colR (f : Fin 9 → ℝ) (j : Fin 3) : V3 := ![⟨f 0, f 3, f 6⟩, ⟨f 1, f 4, f 7⟩, ⟨f 2, f 5, f 8⟩] j

/-- The frame fits the matrix, its columns' keys ascending. -/
theorem frame_fits (R : M3) : ∃ l0 k01 k02 l1 k12 l2, Fit R (colR (frameR R) 0) (colR (frameR R) 1) (colR (frameR R) 2) l0 k01 k02 l1 k12 l2
    ∧ l0 ≤ l1 ∧ l1 ≤ l2 ∧ k01 * k01 + k02 * k02 + k12 * k12 ≤ (R.r01 * R.r01 + R.r02 * R.r02 + R.r12 * R.r12) * (1 / 32768) := by
  have h := ordered_fits (iterate_fits R 8)
  have ho := off_eight R
  generalize hu : sweepR^[8] (startR R) = u at h ho
  have e0 : ord0 u.w00 u.w11 u.w22 u.colX u.colY u.colZ = colR (frameR R) 0 := by
    unfold frameR; rw [hu]; unfold ord0; simp only [colR, orderedR, ord0]; split_ifs <;> rfl
  have e1 : ord1 u.w00 u.w11 u.w22 u.colX u.colY u.colZ = colR (frameR R) 1 := by
    unfold frameR; rw [hu]; unfold ord1; simp only [colR, orderedR, ord1]; split_ifs <;> rfl
  have e2 : ord2 u.w00 u.w11 u.w22 u.colX u.colY u.colZ = colR (frameR R) 2 := by
    unfold frameR; rw [hu]; unfold ord2; simp only [colR, orderedR, ord2]; split_ifs <;> rfl
  rw [e0, e1, e2] at h
  obtain ⟨l0, k01, k02, l1, k12, l2, hf, h1, h2, h3⟩ := h
  exact ⟨l0, k01, k02, l1, k12, l2, hf, h1, h2, h3.trans_le ho⟩

end Cert.Jac

namespace Cert.FramesIdeal.Jac

open Idealize.ShloMosaic
open Cert.FramesIdeal.Gen
open Cert.Jac

variable {i : S16x1x2048.Idx}

/-- A choice by a comparison of two planes. -/
theorem less_at {a b x y : Plane Ideal} {a' b' x' y' : ℝ} (ha : At a i a') (hb : At b i b') (hx : At x i x') (hy : At y i y') :
    At (select (cmpf .olt a b) x y) i (if a' < b' then x' else y') := by
  change (Scalar.select (Ideal.cmp .olt (a i : EReal) (b i : EReal)) (x i : EReal) (y i : EReal) : EReal) = _
  unfold At at *
  rw [ha, hb, hx, hy]
  by_cases h : a' < b' <;> simp [Scalar.select, Ideal.cmp, h]

set_option maxHeartbeats 800000 in
/-- The planes in order hold the reals in order. -/
theorem sorted_at {x : Carried Ideal} {u : St} (h : Holds x i u) (j : Fin 9) : At (sorted x j) i (orderedR u j) := by
  obtain ⟨w0, w1, w2, w3, w4, w5, f6, f7, f8, f9, f10, f11, f12, f13, f14⟩ := x
  obtain ⟨h0, h1, h2, h3, h4, h5, h6, h7, h8, h9, h10, h11, h12, h13, h14⟩ := h
  have l0 := less_at h3 h0 h3 h0
  have l1 := less_at h3 h0 h0 h3
  have m1 := less_at h4 l1 h4 l1
  have t0 : ∀ {x y z : Plane Ideal} {x' y' z' : ℝ}, At x i x' → At y i y' → At z i z' →
      At _ i (ord0 u.w00 u.w11 u.w22 x' y' z') := fun hx hy hz =>
    less_at m1 l0 (less_at h4 l1 hz (less_at h3 h0 hx hy)) (less_at h3 h0 hy hx)
  have t1 : ∀ {x y z : Plane Ideal} {x' y' z' : ℝ}, At x i x' → At y i y' → At z i z' →
      At _ i (ord1 u.w00 u.w11 u.w22 x' y' z') := fun hx hy hz =>
    less_at m1 l0 (less_at h3 h0 hy hx) (less_at h4 l1 hz (less_at h3 h0 hx hy))
  have t2 : ∀ {x y z : Plane Ideal} {x' y' z' : ℝ}, At x i x' → At y i y' → At z i z' →
      At _ i (ord2 u.w00 u.w11 u.w22 x' y' z') := fun hx hy hz =>
    less_at h4 l1 (less_at h3 h0 hx hy) hz
  fin_cases j
  · exact t0 h6 h7 h8
  · exact t1 h6 h7 h8
  · exact t2 h6 h7 h8
  · exact t0 h9 h10 h11
  · exact t1 h9 h10 h11
  · exact t2 h9 h10 h11
  · exact t0 h12 h13 h14
  · exact t1 h12 h13 h14
  · exact t2 h12 h13 h14

/-- The matrix at a place. -/
theorem frame_at {x0 x1 x2 x3 x4 x5 : Plane Ideal} {R : M3} (h0 : At x0 i R.r00) (h1 : At x1 i R.r01) (h2 : At x2 i R.r02)
    (h3 : At x3 i R.r11) (h4 : At x4 i R.r12) (h5 : At x5 i R.r22) (j : Fin 9) :
    At (frameOf x0 x1 x2 x3 x4 x5 j) i (frameR R j) := by
  refine sorted_at ?_ j
  have hs : Holds (start x0 x1 x2 x3 x4 x5) i (startR R) :=
    ⟨h0, h1, h2, h3, h5, h4, one_eq, nought_eq, nought_eq, nought_eq, one_eq, nought_eq, nought_eq, nought_eq, one_eq⟩
  have hn : ∀ n, Holds (swept x0 x1 x2 x3 x4 x5 n) i (sweepR^[n] (startR R)) := by
    intro n
    induction n with
    | zero => exact hs
    | succ n ih =>
      unfold swept at *
      rw [Function.iterate_succ_apply', Function.iterate_succ_apply']
      exact sweep_at ih
  exact hn 8

/-! ## The two properties -/

theorem mul_at {x y : Plane Ideal} {x' y' : ℝ} (hx : At x i x') (hy : At y i y') : At (mulf x y) i (x' * y') := by
  change ((x i : EReal) * (y i : EReal) : EReal) = _
  unfold At at *
  rw [hx, hy, EReal.coe_mul]
theorem add_at {x y : Plane Ideal} {x' y' : ℝ} (hx : At x i x') (hy : At y i y') : At (addf x y) i (x' + y') := by
  change ((x i : EReal) + (y i : EReal) : EReal) = _
  unfold At at *
  rw [hx, hy, EReal.coe_add]
theorem same_at {x y : Plane Ideal} {r : ℝ} (hx : At x i r) (hy : At y i r) : cmpf .oeq x y i = 1#1 := by
  change Ideal.cmp .oeq (x i : EReal) (y i : EReal) = 1#1
  unfold At at *
  rw [hx, hy]; simp [Ideal.cmp]
theorem upto_at {x y : Plane Ideal} {x' y' : ℝ} (hx : At x i x') (hy : At y i y') (h : x' ≤ y') : cmpf .ole x y i = 1#1 := by
  change Ideal.cmp .ole (x i : EReal) (y i : EReal) = 1#1
  unfold At at *
  rw [hx, hy]; simp [Ideal.cmp, h]
/-- The constant 2 to the −15. -/
theorem small_eq : At (const 0x38000000#32) i (1 / 32768) := by
  change Ideal.ofBits .f32 0x38000000#32 = _
  simp [Ideal.ofBits, Ideal.ieee, -EReal.coe_mul]
  norm_num

theorem both_at {a b : IVec S16x1x2048 1} (ha : a i = 1#1) (hb : b i = 1#1) : andi a b i = 1#1 := by
  change IntOp.andi (a i) (b i) = 1#1
  rw [ha, hb]; rfl
theorem of_both {a b : IVec S16x1x2048 1} (h : andi a b i = 1#1) : a i = 1#1 ∧ b i = 1#1 := by
  change IntOp.andi (a i) (b i) = 1#1 at h
  revert h
  generalize a i = p
  generalize b i = q
  revert p q
  decide

/-- A finite entry is a real. -/
theorem real_at {x : Plane Ideal} (h : cmpf .olt (Host.absf x) (const 0x7F800000#32) i = 1#1) : ∃ r : ℝ, At x i r := by
  change Ideal.cmp .olt (max (x i : EReal) (-(x i : EReal))) (Ideal.ofBits .f32 0x7F800000#32) = 1#1 at h
  have htop : Ideal.ofBits .f32 0x7F800000#32 = ⊤ := by simp [Ideal.ofBits, Ideal.ieee]
  rw [htop] at h
  have hlt : max (x i : EReal) (-(x i : EReal)) < ⊤ := by
    by_contra hn
    simp [Ideal.cmp, hn] at h
  unfold At
  generalize (x i : EReal) = e at hlt
  induction e using EReal.rec with
  | bot => simp at hlt
  | top => simp at hlt
  | coe r => exact ⟨r, rfl⟩

/-- Where the precondition holds, each place holds a real matrix. -/
theorem matrix_at {x0 x1 x2 x3 x4 x5 : Plane Ideal} (h : Cert.Pre_finite_planes.fn (F := Ideal) x0 x1 x2 x3 x4 x5 = fun _ => 1#1)
    (i : S16x1x2048.Idx) : ∃ R : M3, At x0 i R.r00 ∧ At x1 i R.r01 ∧ At x2 i R.r02 ∧ At x3 i R.r11 ∧ At x4 i R.r12 ∧ At x5 i R.r22 := by
  have hi := congrFun h i
  obtain ⟨hi, h5⟩ := of_both hi
  obtain ⟨hi, h4⟩ := of_both hi
  obtain ⟨hi, h3⟩ := of_both hi
  obtain ⟨hi, h2⟩ := of_both hi
  obtain ⟨h0, h1⟩ := of_both hi
  obtain ⟨r0, h0⟩ := real_at h0
  obtain ⟨r1, h1⟩ := real_at h1
  obtain ⟨r2, h2⟩ := real_at h2
  obtain ⟨r3, h3⟩ := real_at h3
  obtain ⟨r4, h4⟩ := real_at h4
  obtain ⟨r5, h5⟩ := real_at h5
  exact ⟨⟨r0, r1, r2, r3, r4, r5⟩, h0, h1, h2, h3, h4, h5⟩

variable {x0 x1 x2 x3 x4 x5 : Plane Ideal}

set_option maxHeartbeats 800000 in
theorem ascending_holds (h : Cert.Pre_finite_planes.fn (F := Ideal) x0 x1 x2 x3 x4 x5 = fun _ => 1#1) :
    Cert.Post_ascending.fn (F := Ideal) x0 x1 x2 x3 x4 x5 (frameOf x0 x1 x2 x3 x4 x5 0) (frameOf x0 x1 x2 x3 x4 x5 1) (frameOf x0 x1 x2 x3 x4 x5 2) (frameOf x0 x1 x2 x3 x4 x5 3) (frameOf x0 x1 x2 x3 x4 x5 4) (frameOf x0 x1 x2 x3 x4 x5 5) (frameOf x0 x1 x2 x3 x4 x5 6) (frameOf x0 x1 x2 x3 x4 x5 7) (frameOf x0 x1 x2 x3 x4 x5 8) = fun _ => 1#1 := by
  funext i
  obtain ⟨R, h0, h1, h2, h3, h4, h5⟩ := matrix_at h i
  have f := frame_at h0 h1 h2 h3 h4 h5
  obtain ⟨l0, k01, k02, l1, k12, l2, hf, h01, h12, -⟩ := frame_fits R
  have q : ∀ {a b c : Fin 9}, At _ i (R.form ⟨frameR R a, frameR R b, frameR R c⟩ ⟨frameR R a, frameR R b, frameR R c⟩) :=
    fun {a b c} => add_at (add_at
      (mul_at (f a) (add_at (add_at (mul_at h0 (f a)) (mul_at h1 (f b))) (mul_at h2 (f c))))
      (mul_at (f b) (add_at (add_at (mul_at h1 (f a)) (mul_at h3 (f b))) (mul_at h4 (f c)))))
      (mul_at (f c) (add_at (add_at (mul_at h2 (f a)) (mul_at h4 (f b))) (mul_at h5 (f c))))
  rw [hf.exx, hf.eyy] at h01
  rw [hf.eyy, hf.ezz] at h12
  exact both_at (upto_at (q (a := 0) (b := 3) (c := 6)) (q (a := 1) (b := 4) (c := 7)) h01)
    (upto_at (q (a := 1) (b := 4) (c := 7)) (q (a := 2) (b := 5) (c := 8)) h12)

set_option maxHeartbeats 800000 in
theorem nearly_diagonal_holds (h : Cert.Pre_finite_planes.fn (F := Ideal) x0 x1 x2 x3 x4 x5 = fun _ => 1#1) :
    Cert.Post_nearly_diagonal.fn (F := Ideal) x0 x1 x2 x3 x4 x5 (frameOf x0 x1 x2 x3 x4 x5 0) (frameOf x0 x1 x2 x3 x4 x5 1) (frameOf x0 x1 x2 x3 x4 x5 2) (frameOf x0 x1 x2 x3 x4 x5 3) (frameOf x0 x1 x2 x3 x4 x5 4) (frameOf x0 x1 x2 x3 x4 x5 5) (frameOf x0 x1 x2 x3 x4 x5 6) (frameOf x0 x1 x2 x3 x4 x5 7) (frameOf x0 x1 x2 x3 x4 x5 8) = fun _ => 1#1 := by
  funext i
  obtain ⟨R, h0, h1, h2, h3, h4, h5⟩ := matrix_at h i
  have f := frame_at h0 h1 h2 h3 h4 h5
  obtain ⟨l0, k01, k02, l1, k12, l2, hf, -, -, hk⟩ := frame_fits R
  have q : ∀ {a b c x y z : Fin 9}, At _ i (R.form ⟨frameR R a, frameR R b, frameR R c⟩ ⟨frameR R x, frameR R y, frameR R z⟩) :=
    fun {a b c x y z} => add_at (add_at
      (mul_at (f a) (add_at (add_at (mul_at h0 (f x)) (mul_at h1 (f y))) (mul_at h2 (f z))))
      (mul_at (f b) (add_at (add_at (mul_at h1 (f x)) (mul_at h3 (f y))) (mul_at h4 (f z)))))
      (mul_at (f c) (add_at (add_at (mul_at h2 (f x)) (mul_at h4 (f y))) (mul_at h5 (f z))))
  have q01 := q (a := 0) (b := 3) (c := 6) (x := 1) (y := 4) (z := 7)
  have q02 := q (a := 0) (b := 3) (c := 6) (x := 2) (y := 5) (z := 8)
  have q12 := q (a := 1) (b := 4) (c := 7) (x := 2) (y := 5) (z := 8)
  rw [hf.exy, hf.exz, hf.eyz] at hk
  exact upto_at (add_at (add_at (mul_at q01 q01) (mul_at q02 q02)) (mul_at q12 q12))
    (mul_at (add_at (add_at (mul_at h1 h1) (mul_at h2 h2)) (mul_at h4 h4)) small_eq) hk

end Cert.FramesIdeal.Jac

end
-- ==== Proof.FrameArrays.lean ====
/-
  THE SECOND CALL'S ARRAYS: its one point reads the six arrays whole and writes the nine whole. With the precondition the
  nine are orthonormal at each place and the matrix's form ascends on their columns.
-/
module

public import proofs.«01_k».proof.Proof.Orthonormal
public import Idealize.ShloMosaic.Lib.Pipeline.ValueKit

@[expose] public section

set_option maxRecDepth 16384

noncomputable section

namespace Cert.FramesIdeal.Jac

open Idealize.ShloMosaic Idealize.ShloMosaic.TcCoe
open Idealize.ShloMosaic.Pipeline (Dat)
open Idealize.SL.Sem
open Cert.FramesIdeal.Gen

variable (m : (ℓ : Loc nD τ sig) → Buf (Elt Ideal) ℓ) (ρ : Dev nD → PrngReg)

theorem idx0 : ∀ t : Fin cfg0.N, win0_0.index t = ![0, 0, 0] := (by decide +kernel : ∀ t : Fin grid0.N, _)
theorem idx1 : ∀ t : Fin cfg0.N, win0_1.index t = ![0, 0, 0] := (by decide +kernel : ∀ t : Fin grid0.N, _)
theorem idx2 : ∀ t : Fin cfg0.N, win0_2.index t = ![0, 0, 0] := (by decide +kernel : ∀ t : Fin grid0.N, _)
theorem idx3 : ∀ t : Fin cfg0.N, win0_3.index t = ![0, 0, 0] := (by decide +kernel : ∀ t : Fin grid0.N, _)
theorem idx4 : ∀ t : Fin cfg0.N, win0_4.index t = ![0, 0, 0] := (by decide +kernel : ∀ t : Fin grid0.N, _)
theorem idx5 : ∀ t : Fin cfg0.N, win0_5.index t = ![0, 0, 0] := (by decide +kernel : ∀ t : Fin grid0.N, _)
theorem idx6 : ∀ t : Fin cfg0.N, win0_6.index t = ![0, 0, 0] := (by decide +kernel : ∀ t : Fin grid0.N, _)
theorem idx7 : ∀ t : Fin cfg0.N, win0_7.index t = ![0, 0, 0] := (by decide +kernel : ∀ t : Fin grid0.N, _)
theorem idx8 : ∀ t : Fin cfg0.N, win0_8.index t = ![0, 0, 0] := (by decide +kernel : ∀ t : Fin grid0.N, _)
theorem idx9 : ∀ t : Fin cfg0.N, win0_9.index t = ![0, 0, 0] := (by decide +kernel : ∀ t : Fin grid0.N, _)
theorem idx10 : ∀ t : Fin cfg0.N, win0_10.index t = ![0, 0, 0] := (by decide +kernel : ∀ t : Fin grid0.N, _)
theorem idx11 : ∀ t : Fin cfg0.N, win0_11.index t = ![0, 0, 0] := (by decide +kernel : ∀ t : Fin grid0.N, _)
theorem idx12 : ∀ t : Fin cfg0.N, win0_12.index t = ![0, 0, 0] := (by decide +kernel : ∀ t : Fin grid0.N, _)
theorem idx13 : ∀ t : Fin cfg0.N, win0_13.index t = ![0, 0, 0] := (by decide +kernel : ∀ t : Fin grid0.N, _)
theorem idx14 : ∀ t : Fin cfg0.N, win0_14.index t = ![0, 0, 0] := (by decide +kernel : ∀ t : Fin grid0.N, _)

/-- Argument 0. -/
abbrev given0 (c : Dev nD) : Plane Ideal := m ((c.tc : Thread nD τ).loc main_arg0)
theorem blk0_eq (c : Dev nD) (t : Fin cfg0.N) : iblk m c 0 t = given0 m c := by
  funext y
  have hy : (win0_0.blk t).view.emb y = (y : S16x1x2048.Idx) := by
    blk_ext [idx0 t]
  exact congrArg (given0 m c) hy

/-- Argument 1. -/
abbrev given1 (c : Dev nD) : Plane Ideal := m ((c.tc : Thread nD τ).loc main_arg1)
theorem blk1_eq (c : Dev nD) (t : Fin cfg0.N) : iblk m c 1 t = given1 m c := by
  funext y
  have hy : (win0_1.blk t).view.emb y = (y : S16x1x2048.Idx) := by
    blk_ext [idx1 t]
  exact congrArg (given1 m c) hy

/-- Argument 2. -/
abbrev given2 (c : Dev nD) : Plane Ideal := m ((c.tc : Thread nD τ).loc main_arg2)
theorem blk2_eq (c : Dev nD) (t : Fin cfg0.N) : iblk m c 2 t = given2 m c := by
  funext y
  have hy : (win0_2.blk t).view.emb y = (y : S16x1x2048.Idx) := by
    blk_ext [idx2 t]
  exact congrArg (given2 m c) hy

/-- Argument 3. -/
abbrev given3 (c : Dev nD) : Plane Ideal := m ((c.tc : Thread nD τ).loc main_arg3)
theorem blk3_eq (c : Dev nD) (t : Fin cfg0.N) : iblk m c 3 t = given3 m c := by
  funext y
  have hy : (win0_3.blk t).view.emb y = (y : S16x1x2048.Idx) := by
    blk_ext [idx3 t]
  exact congrArg (given3 m c) hy

/-- Argument 4. -/
abbrev given4 (c : Dev nD) : Plane Ideal := m ((c.tc : Thread nD τ).loc main_arg4)
theorem blk4_eq (c : Dev nD) (t : Fin cfg0.N) : iblk m c 4 t = given4 m c := by
  funext y
  have hy : (win0_4.blk t).view.emb y = (y : S16x1x2048.Idx) := by
    blk_ext [idx4 t]
  exact congrArg (given4 m c) hy

/-- Argument 5. -/
abbrev given5 (c : Dev nD) : Plane Ideal := m ((c.tc : Thread nD τ).loc main_arg5)
theorem blk5_eq (c : Dev nD) (t : Fin cfg0.N) : iblk m c 5 t = given5 m c := by
  funext y
  have hy : (win0_5.blk t).view.emb y = (y : S16x1x2048.Idx) := by
    blk_ext [idx5 t]
  exact congrArg (given5 m c) hy

theorem final6 (c : Dev nD) : (dats m 0 c).arrAt 6 cfg0.N = frameOf (given0 m c) (given1 m c) (given2 m c) (given3 m c) (given4 m c) (given5 m c) 0 := by
  refine (dats m 0 c).arrAt_eq_of_covers 6 _ (by decide +kernel) fun t hf y => ?_
  blk_simp
  rw [left6, blk0_eq, blk1_eq, blk2_eq, blk3_eq, blk4_eq, blk5_eq]
  have hy : (win0_6.blk t).view.emb y = (y : S16x1x2048.Idx) := by
    blk_ext [idx6 t]
  exact (congrArg (frameOf (given0 m c) (given1 m c) (given2 m c) (given3 m c) (given4 m c) (given5 m c) 0) hy).symm

theorem final7 (c : Dev nD) : (dats m 0 c).arrAt 7 cfg0.N = frameOf (given0 m c) (given1 m c) (given2 m c) (given3 m c) (given4 m c) (given5 m c) 1 := by
  refine (dats m 0 c).arrAt_eq_of_covers 7 _ (by decide +kernel) fun t hf y => ?_
  blk_simp
  rw [left7, blk0_eq, blk1_eq, blk2_eq, blk3_eq, blk4_eq, blk5_eq]
  have hy : (win0_7.blk t).view.emb y = (y : S16x1x2048.Idx) := by
    blk_ext [idx7 t]
  exact (congrArg (frameOf (given0 m c) (given1 m c) (given2 m c) (given3 m c) (given4 m c) (given5 m c) 1) hy).symm

theorem final8 (c : Dev nD) : (dats m 0 c).arrAt 8 cfg0.N = frameOf (given0 m c) (given1 m c) (given2 m c) (given3 m c) (given4 m c) (given5 m c) 2 := by
  refine (dats m 0 c).arrAt_eq_of_covers 8 _ (by decide +kernel) fun t hf y => ?_
  blk_simp
  rw [left8, blk0_eq, blk1_eq, blk2_eq, blk3_eq, blk4_eq, blk5_eq]
  have hy : (win0_8.blk t).view.emb y = (y : S16x1x2048.Idx) := by
    blk_ext [idx8 t]
  exact (congrArg (frameOf (given0 m c) (given1 m c) (given2 m c) (given3 m c) (given4 m c) (given5 m c) 2) hy).symm

theorem final9 (c : Dev nD) : (dats m 0 c).arrAt 9 cfg0.N = frameOf (given0 m c) (given1 m c) (given2 m c) (given3 m c) (given4 m c) (given5 m c) 3 := by
  refine (dats m 0 c).arrAt_eq_of_covers 9 _ (by decide +kernel) fun t hf y => ?_
  blk_simp
  rw [left9, blk0_eq, blk1_eq, blk2_eq, blk3_eq, blk4_eq, blk5_eq]
  have hy : (win0_9.blk t).view.emb y = (y : S16x1x2048.Idx) := by
    blk_ext [idx9 t]
  exact (congrArg (frameOf (given0 m c) (given1 m c) (given2 m c) (given3 m c) (given4 m c) (given5 m c) 3) hy).symm

theorem final10 (c : Dev nD) : (dats m 0 c).arrAt 10 cfg0.N = frameOf (given0 m c) (given1 m c) (given2 m c) (given3 m c) (given4 m c) (given5 m c) 4 := by
  refine (dats m 0 c).arrAt_eq_of_covers 10 _ (by decide +kernel) fun t hf y => ?_
  blk_simp
  rw [left10, blk0_eq, blk1_eq, blk2_eq, blk3_eq, blk4_eq, blk5_eq]
  have hy : (win0_10.blk t).view.emb y = (y : S16x1x2048.Idx) := by
    blk_ext [idx10 t]
  exact (congrArg (frameOf (given0 m c) (given1 m c) (given2 m c) (given3 m c) (given4 m c) (given5 m c) 4) hy).symm

theorem final11 (c : Dev nD) : (dats m 0 c).arrAt 11 cfg0.N = frameOf (given0 m c) (given1 m c) (given2 m c) (given3 m c) (given4 m c) (given5 m c) 5 := by
  refine (dats m 0 c).arrAt_eq_of_covers 11 _ (by decide +kernel) fun t hf y => ?_
  blk_simp
  rw [left11, blk0_eq, blk1_eq, blk2_eq, blk3_eq, blk4_eq, blk5_eq]
  have hy : (win0_11.blk t).view.emb y = (y : S16x1x2048.Idx) := by
    blk_ext [idx11 t]
  exact (congrArg (frameOf (given0 m c) (given1 m c) (given2 m c) (given3 m c) (given4 m c) (given5 m c) 5) hy).symm

theorem final12 (c : Dev nD) : (dats m 0 c).arrAt 12 cfg0.N = frameOf (given0 m c) (given1 m c) (given2 m c) (given3 m c) (given4 m c) (given5 m c) 6 := by
  refine (dats m 0 c).arrAt_eq_of_covers 12 _ (by decide +kernel) fun t hf y => ?_
  blk_simp
  rw [left12, blk0_eq, blk1_eq, blk2_eq, blk3_eq, blk4_eq, blk5_eq]
  have hy : (win0_12.blk t).view.emb y = (y : S16x1x2048.Idx) := by
    blk_ext [idx12 t]
  exact (congrArg (frameOf (given0 m c) (given1 m c) (given2 m c) (given3 m c) (given4 m c) (given5 m c) 6) hy).symm

theorem final13 (c : Dev nD) : (dats m 0 c).arrAt 13 cfg0.N = frameOf (given0 m c) (given1 m c) (given2 m c) (given3 m c) (given4 m c) (given5 m c) 7 := by
  refine (dats m 0 c).arrAt_eq_of_covers 13 _ (by decide +kernel) fun t hf y => ?_
  blk_simp
  rw [left13, blk0_eq, blk1_eq, blk2_eq, blk3_eq, blk4_eq, blk5_eq]
  have hy : (win0_13.blk t).view.emb y = (y : S16x1x2048.Idx) := by
    blk_ext [idx13 t]
  exact (congrArg (frameOf (given0 m c) (given1 m c) (given2 m c) (given3 m c) (given4 m c) (given5 m c) 7) hy).symm

theorem final14 (c : Dev nD) : (dats m 0 c).arrAt 14 cfg0.N = frameOf (given0 m c) (given1 m c) (given2 m c) (given3 m c) (given4 m c) (given5 m c) 8 := by
  refine (dats m 0 c).arrAt_eq_of_covers 14 _ (by decide +kernel) fun t hf y => ?_
  blk_simp
  rw [left14, blk0_eq, blk1_eq, blk2_eq, blk3_eq, blk4_eq, blk5_eq]
  have hy : (win0_14.blk t).view.emb y = (y : S16x1x2048.Idx) := by
    blk_ext [idx14 t]
  exact (congrArg (frameOf (given0 m c) (given1 m c) (given2 m c) (given3 m c) (given4 m c) (given5 m c) 8) hy).symm

/-- The nine arrays end at the frame's planes, the six unchanged. -/
theorem run : θ_run defs (onTc (τ := τ) (main (F := Ideal))) ⟨m, fun _ => 0, ρ⟩ (fun r => ∀ c : Dev nD,
      r.2.mem ((c.tc : Thread nD τ).loc main_v0_0) = frameOf (given0 m c) (given1 m c) (given2 m c) (given3 m c) (given4 m c) (given5 m c) 0
      ∧ r.2.mem ((c.tc : Thread nD τ).loc main_v0_1) = frameOf (given0 m c) (given1 m c) (given2 m c) (given3 m c) (given4 m c) (given5 m c) 1
      ∧ r.2.mem ((c.tc : Thread nD τ).loc main_v0_2) = frameOf (given0 m c) (given1 m c) (given2 m c) (given3 m c) (given4 m c) (given5 m c) 2
      ∧ r.2.mem ((c.tc : Thread nD τ).loc main_v0_3) = frameOf (given0 m c) (given1 m c) (given2 m c) (given3 m c) (given4 m c) (given5 m c) 3
      ∧ r.2.mem ((c.tc : Thread nD τ).loc main_v0_4) = frameOf (given0 m c) (given1 m c) (given2 m c) (given3 m c) (given4 m c) (given5 m c) 4
      ∧ r.2.mem ((c.tc : Thread nD τ).loc main_v0_5) = frameOf (given0 m c) (given1 m c) (given2 m c) (given3 m c) (given4 m c) (given5 m c) 5
      ∧ r.2.mem ((c.tc : Thread nD τ).loc main_v0_6) = frameOf (given0 m c) (given1 m c) (given2 m c) (given3 m c) (given4 m c) (given5 m c) 6
      ∧ r.2.mem ((c.tc : Thread nD τ).loc main_v0_7) = frameOf (given0 m c) (given1 m c) (given2 m c) (given3 m c) (given4 m c) (given5 m c) 7
      ∧ r.2.mem ((c.tc : Thread nD τ).loc main_v0_8) = frameOf (given0 m c) (given1 m c) (given2 m c) (given3 m c) (given4 m c) (given5 m c) 8
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine (θ_run defs _ _).mono (fun r h c => ?_) (launch m ρ)
  have hp := h.1
  exact ⟨(hp.out_eq c 6).trans (final6 m c), (hp.out_eq c 7).trans (final7 m c), (hp.out_eq c 8).trans (final8 m c), (hp.out_eq c 9).trans (final9 m c), (hp.out_eq c 10).trans (final10 m c), (hp.out_eq c 11).trans (final11 m c), (hp.out_eq c 12).trans (final12 m c), (hp.out_eq c 13).trans (final13 m c), (hp.out_eq c 14).trans (final14 m c), (hp.in_eq c 0 rfl).trans ((entry_eq m c 0).trans (V_main_arg0 m c)), (hp.in_eq c 1 rfl).trans ((entry_eq m c 1).trans (V_main_arg1 m c)), (hp.in_eq c 2 rfl).trans ((entry_eq m c 2).trans (V_main_arg2 m c)), (hp.in_eq c 3 rfl).trans ((entry_eq m c 3).trans (V_main_arg3 m c)), (hp.in_eq c 4 rfl).trans ((entry_eq m c 4).trans (V_main_arg4 m c)), (hp.in_eq c 5 rfl).trans ((entry_eq m c 5).trans (V_main_arg5 m c))⟩

end Cert.FramesIdeal.Jac

end
-- ==== Proof.Always.lean ====
/-
  The columns of the frame are orthonormal whatever the six planes hold, infinite entries included: over the extended reals the
  tangent of every rotation is a real between −1 and 1, so its cosine and sine are reals whose squares sum to one.
-/
module

public import proofs.«01_k».proof.Proof.Orthonormal

@[expose] public section

noncomputable section

namespace Cert.Jac

/-- Three orthonormal columns. -/
structure Ortho (x y z : V3) : Prop where
  nx : dot x x = 1
  ny : dot y y = 1
  nz : dot z z = 1
  oxy : dot x y = 0
  oxz : dot x z = 0
  oyz : dot y z = 0

variable {x y z : V3}

theorem Ortho.swap (h : Ortho x y z) : Ortho y x z :=
  ⟨h.ny, h.nx, h.nz, by rw [dot_comm]; exact h.oxy, h.oyz, h.oxz⟩

theorem Ortho.swap' (h : Ortho x y z) : Ortho x z y :=
  ⟨h.nx, h.nz, h.ny, h.oxz, h.oxy, by rw [dot_comm]; exact h.oyz⟩

/-- The first two turned. -/
theorem Ortho.turn (h : Ortho x y z) {c s : ℝ} (hcs : c * c + s * s = 1) : Ortho (V3.lo c s x y) (V3.hi c s x y) z :=
  have f : Fit ⟨0, 0, 0, 0, 0, 0⟩ x y z 0 0 0 0 0 0 :=
    ⟨h.nx, h.ny, h.nz, h.oxy, h.oxz, h.oyz, by simp [M3.form], by simp [M3.form], by simp [M3.form], by simp [M3.form], by simp [M3.form],
      by simp [M3.form]⟩
  have g := f.turn hcs
  ⟨g.nx, g.ny, g.nz, g.oxy, g.oxz, g.oyz⟩

end Cert.Jac

namespace Cert.FramesIdeal.Jac

open Idealize.ShloMosaic
open Cert.FramesIdeal.Gen
open Cert.Jac

variable {i : S16x1x2048.Idx}

/-- The tangent is a real, whatever the plane holds. -/
theorem tan_any (z : Plane Ideal) (i : S16x1x2048.Idx) : ∃ t : ℝ, At (tanP z) i t := by
  by_cases hb : (z i : EReal) = ⊥ ∨ (z i : EReal) = ⊤
  · refine ⟨0, ?_⟩
    change Ideal.div (Scalar.select (Ideal.cmp .oge (z i : EReal) (Ideal.ofBits .f32 0x00000000#32)) (Ideal.ofBits .f32 0x3F800000#32) (Ideal.ofBits .f32 0xBF800000#32) : EReal)
      (max (z i : EReal) (-(z i : EReal)) + Ideal.sqrt (Ideal.ofBits .f32 0x3F800000#32 + (z i : EReal) * (z i : EReal))) = _
    have hsq : (z i : EReal) * (z i : EReal) = ⊤ := by rcases hb with h | h <;> rw [h] <;> rfl
    have hab : max (z i : EReal) (-(z i : EReal)) = ⊤ := by rcases hb with h | h <;> rw [h] <;> simp
    have hden : ∀ u : EReal, Ideal.div u ⊤ = 0 := fun u => by simp [Ideal.div]
    rw [hsq, hab, one_eq, EReal.coe_add_top, Ideal.sqrt_top, EReal.top_add_top, hden]
    rfl
  · rw [not_or] at hb
    exact ⟨_, tan_at (z' := EReal.toReal (z i)) (EReal.coe_toReal hb.2 hb.1).symm⟩

/-- Cosine and sine are reals whose squares sum to one, whatever the planes hold. -/
theorem rot_at (a b d : Plane Ideal) : ∃ c s : ℝ, At (cosP a b d) i c ∧ At (sinP a b d) i s ∧ c * c + s * s = 1 := by
  by_cases hb : (b i : EReal) = ((0 : ℝ) : EReal)
  · have h0 : At b i 0 := hb
    have hc := flag_at (x := const 0x3F800000#32) (y := rawP (tanP (zetaP a b d))) h0
    have hs := flag_at (x := const 0x00000000#32) (y := mulf (tanP (zetaP a b d)) (rawP (tanP (zetaP a b d)))) h0
    rw [if_pos rfl] at hc hs
    exact ⟨1, 0, hc.trans one_eq, hs.trans nought_eq, by norm_num⟩
  · obtain ⟨t, ht⟩ := tan_any (zetaP a b d) i
    have hr := raw_at ht
    have hm : At (mulf (tanP (zetaP a b d)) (rawP (tanP (zetaP a b d)))) i (t * (1 / Real.sqrt (1 + t * t))) := mul_at ht hr
    have other : ∀ u v : Plane Ideal, (select (cmpf .oeq b (const 0x00000000#32)) u v i : EReal) = (v i : EReal) := by
      intro u v
      change (Scalar.select (Ideal.cmp .oeq (b i : EReal) (Ideal.ofBits .f32 0x00000000#32)) (u i : EReal) (v i : EReal) : EReal) = _
      rw [nought_eq]
      simp only [Ideal.cmp, hb, decide_false]
      rfl
    refine ⟨_, _, (other _ _).trans hr, (other _ _).trans hm, ?_⟩
    have h1 : (0 : ℝ) < 1 + t * t := by have := mul_self_nonneg t; linarith
    have hq : Real.sqrt (1 + t * t) * Real.sqrt (1 + t * t) = 1 + t * t := Real.mul_self_sqrt h1.le
    have hp : Real.sqrt (1 + t * t) ≠ 0 := (Real.sqrt_pos.mpr h1).ne'
    generalize Real.sqrt (1 + t * t) = r at hq hp
    field_simp
    linear_combination -hq

/-- Nine planes hold, at the place, three orthonormal columns. -/
def Cols (p0 p1 p2 p3 p4 p5 p6 p7 p8 : Plane Ideal) (i : S16x1x2048.Idx) : Prop :=
  ∃ X Y Z : V3, Ortho X Y Z ∧ At p0 i X.a ∧ At p1 i Y.a ∧ At p2 i Z.a ∧ At p3 i X.b ∧ At p4 i Y.b ∧ At p5 i Z.b
    ∧ At p6 i X.c ∧ At p7 i Y.c ∧ At p8 i Z.c

/-- The carried planes of the frame hold orthonormal columns. -/
def HoldsCols (x : Carried Ideal) (i : S16x1x2048.Idx) : Prop :=
  let ⟨_, _, _, _, _, _, a22, a23, a24, a25, a26, a27, a28, a29, a30⟩ := x
  Cols a22 a23 a24 a25 a26 a27 a28 a29 a30 i

set_option maxHeartbeats 1600000 in
theorem sweep_cols {x : Carried Ideal} (h : HoldsCols x i) : HoldsCols (sweep x) i := by
  obtain ⟨a16, a17, a18, a19, a20, a21, a22, a23, a24, a25, a26, a27, a28, a29, a30⟩ := x
  obtain ⟨X, Y, Z, o, h22, h23, h24, h25, h26, h27, h28, h29, h30⟩ := h
  -- the plane (0,2)
  let v69 : Plane Ideal := k0_pay4 (F := Ideal) a16 a18 a20
  let v71 : Plane Ideal := k0_pay5 (F := Ideal) a16 a18 a20
  let v86 : Plane Ideal := k0_pay8 (F := Ideal) a16 a18 a20
  let v89 : Plane Ideal := k0_pay9 (F := Ideal) a16 a18 a20
  obtain ⟨c1', s1', g1, k1, e1⟩ := rot_at (i := i) a16 a18 a20
  have c1 : At (v69) i c1' := g1
  have s1 : At (v71) i s1' := k1
  let v92 : Plane Ideal := (k0_pay12 (F := Ideal) (k0_pay10 (F := Ideal) a16 a18 a20) (k0_pay11 (F := Ideal) a16 a18 a20))
  let v95 : Plane Ideal := (k0_pay13 (F := Ideal) a17 a21 v69 v71)
  let v98 : Plane Ideal := (k0_pay14 (F := Ideal) a17 a21 v69 v71)
  let v101 : Plane Ideal := k0_pay15 (F := Ideal) a22 a24 v69 v71
  have w101 : At (v101) i _ := lo_at c1 s1 h22 h24
  let v104 : Plane Ideal := k0_pay16 (F := Ideal) a22 a24 v69 v71
  have w104 : At (v104) i _ := hi_at c1 s1 h22 h24
  let v107 : Plane Ideal := k0_pay17 (F := Ideal) a25 a27 v69 v71
  have w107 : At (v107) i _ := lo_at c1 s1 h25 h27
  let v110 : Plane Ideal := k0_pay18 (F := Ideal) a25 a27 v69 v71
  have w110 : At (v110) i _ := hi_at c1 s1 h25 h27
  let v113 : Plane Ideal := k0_pay19 (F := Ideal) a28 a30 v69 v71
  have w113 : At (v113) i _ := lo_at c1 s1 h28 h30
  let v116 : Plane Ideal := k0_pay20 (F := Ideal) a28 a30 v69 v71
  have w116 : At (v116) i _ := hi_at c1 s1 h28 h30
  let v138 : Plane Ideal := (k0_pay22 (F := Ideal) a17 a19 a21 v69 v71 v89)
  let v139 : Plane Ideal := (k0_pay23 (F := Ideal) a17 a19 a21 v69 v71 v89)
  let v141 : IVec S16x1x2048 1 := (k0_pay24 (F := Ideal) a17 a21 v69 v71)
  -- the plane (2,1)
  obtain ⟨c2', s2', g2, k2, e2⟩ := rot_at (i := i) v89 v98 a19
  have c2 : At (k0_pay26 (F := Ideal) v138 v141 (k0_pay25 (F := Ideal))) i c2' := g2
  have s2 : At (k0_pay27 (F := Ideal) v139 v141) i s2' := k2
  let v160 : Plane Ideal := (k0_pay30 (F := Ideal) a19 v89 v98 v138 v139 v141 (k0_pay25 (F := Ideal)))
  let v163 : Plane Ideal := (k0_pay31 (F := Ideal) a19 v89 v98 v138 v139 v141 (k0_pay25 (F := Ideal)))
  let v166 : Plane Ideal := (k0_pay32 (F := Ideal) a19 v89 v98 v138 v139 v141 (k0_pay25 (F := Ideal)))
  let v169 : Plane Ideal := (k0_pay33 (F := Ideal) v92 v95 v138 v139 v141 (k0_pay25 (F := Ideal)))
  let v172 : Plane Ideal := (k0_pay34 (F := Ideal) v92 v95 v138 v139 v141 (k0_pay25 (F := Ideal)))
  let v175 : Plane Ideal := k0_pay35 (F := Ideal) a23 v104 v138 v139 v141 (k0_pay25 (F := Ideal))
  have w175 : At (v175) i _ := lo_at c2 s2 w104 h23
  let v178 : Plane Ideal := k0_pay36 (F := Ideal) a23 v104 v138 v139 v141 (k0_pay25 (F := Ideal))
  have w178 : At (v178) i _ := hi_at c2 s2 w104 h23
  let v181 : Plane Ideal := k0_pay37 (F := Ideal) a26 v110 v138 v139 v141 (k0_pay25 (F := Ideal))
  have w181 : At (v181) i _ := lo_at c2 s2 w110 h26
  let v184 : Plane Ideal := k0_pay38 (F := Ideal) a26 v110 v138 v139 v141 (k0_pay25 (F := Ideal))
  have w184 : At (v184) i _ := hi_at c2 s2 w110 h26
  let v187 : Plane Ideal := k0_pay39 (F := Ideal) a29 v116 v138 v139 v141 (k0_pay25 (F := Ideal))
  have w187 : At (v187) i _ := lo_at c2 s2 w116 h29
  let v190 : Plane Ideal := k0_pay40 (F := Ideal) a29 v116 v138 v139 v141 (k0_pay25 (F := Ideal))
  have w190 : At (v190) i _ := hi_at c2 s2 w116 h29
  let v194 : Plane Ideal := (k0_pay41 (F := Ideal) a19 v86 v89 v92 v95 v98 v138 v139 v141 (k0_pay25 (F := Ideal)))
  let v196 := (k0_pay42 (F := Ideal) a19 v86 v89 v92 v95 v98 v138 v139 v141 (k0_pay25 (F := Ideal)))
  -- the plane (0,1)
  let v217 : Plane Ideal := (k0_pay47 (F := Ideal) v172 v194 v196 (Scalar.ofBits (F := Ideal) .f32 0xBF800000#32) (k0_pay43 (F := Ideal)))
  let v219 : Plane Ideal := (k0_pay48 (F := Ideal) v172 v194 v196 (Scalar.ofBits (F := Ideal) .f32 0xBF800000#32) (k0_pay43 (F := Ideal)))
  obtain ⟨c3', s3', g3, k3, e3⟩ := rot_at (i := i) v86 v172 v163
  have c3 : At (v217) i c3' := g3
  have s3 : At (v219) i s3' := k3
  have z6 : At (k0_pay56 (F := Ideal) v101 v172 v178 v194 v196 (Scalar.ofBits (F := Ideal) .f32 0xBF800000#32) (k0_pay43 (F := Ideal))) i _ := lo_at c3 s3 w101 w178
  have z7 : At (k0_pay61 (F := Ideal) (k0_pay57 (F := Ideal) v101 v172 v194 v196 (Scalar.ofBits (F := Ideal) .f32 0xBF800000#32) (k0_pay43 (F := Ideal))) (k0_pay58 (F := Ideal) v172 v178 v194 v196 (Scalar.ofBits (F := Ideal) .f32 0xBF800000#32) (k0_pay43 (F := Ideal)))) i _ := hi_at c3 s3 w101 w178
  have z9 : At (k0_pay62 (F := Ideal) v107 v184 v217 v219) i _ := lo_at c3 s3 w107 w184
  have z10 : At (k0_pay63 (F := Ideal) v107 v184 v217 v219) i _ := hi_at c3 s3 w107 w184
  have z12 : At (k0_pay64 (F := Ideal) v113 v190 v217 v219) i _ := lo_at c3 s3 w113 w190
  have z13 : At (k0_pay65 (F := Ideal) v113 v190 v217 v219) i _ := hi_at c3 s3 w113 w190
  have o1 := ((o.swap'.turn e1).swap'.swap'.swap.swap'.turn e2)
  have o2 := (o1.swap'.swap.swap'.turn e3).swap'.swap'
  exact ⟨_, _, _, o2, z6, z7, w175, z9, z10, w181, z12, z13, w187⟩

theorem sel1 {c : IVec S16x1x2048 1} {x y : Plane Ideal} {r : ℝ} (hc : c i = 1#1) (hx : At x i r) : At (select c x y) i r := by
  change (Scalar.select (c i) (x i : EReal) (y i : EReal) : EReal) = _
  rw [hc]; exact hx

theorem sel0 {c : IVec S16x1x2048 1} {x y : Plane Ideal} {r : ℝ} (hc : c i = 0#1) (hy : At y i r) : At (select c x y) i r := by
  change (Scalar.select (c i) (x i : EReal) (y i : EReal) : EReal) = _
  rw [hc]; exact hy

theorem bit (b : BitVec 1) : b = 1#1 ∨ b = 0#1 := by
  revert b; decide

set_option maxHeartbeats 1600000 in
/-- Put in order, the columns stay orthonormal. -/
theorem sorted_cols {x : Carried Ideal} (h : HoldsCols x i) : Cols (sorted x 0) (sorted x 1) (sorted x 2) (sorted x 3) (sorted x 4)
    (sorted x 5) (sorted x 6) (sorted x 7) (sorted x 8) i := by
  obtain ⟨w0, w1, w2, w3, w4, w5, f6, f7, f8, f9, f10, f11, f12, f13, f14⟩ := x
  obtain ⟨X, Y, Z, h, h0, h1, h2, h3, h4, h5, h6, h7, h8⟩ := h
  let p : IVec S16x1x2048 1 := cmpf .olt w3 w0
  let l1 : Plane Ideal := select p w0 w3
  let q : IVec S16x1x2048 1 := cmpf .olt w4 l1
  let r : IVec S16x1x2048 1 := cmpf .olt (select q w4 l1) (select p w3 w0)
  rcases bit (p i) with hp | hp <;> rcases bit (q i) with hq | hq <;> rcases bit (r i) with hr | hr
  · exact ⟨Z, Y, X, h.swap.swap'.swap, sel1 hr (sel1 hq h2), sel1 hr (sel1 hp h1), sel1 hq (sel1 hp h0), sel1 hr (sel1 hq h5), sel1 hr (sel1 hp h4), sel1 hq (sel1 hp h3), sel1 hr (sel1 hq h8), sel1 hr (sel1 hp h7), sel1 hq (sel1 hp h6)⟩
  · exact ⟨Y, Z, X, h.swap.swap', sel0 hr (sel1 hp h1), sel0 hr (sel1 hq h2), sel1 hq (sel1 hp h0), sel0 hr (sel1 hp h4), sel0 hr (sel1 hq h5), sel1 hq (sel1 hp h3), sel0 hr (sel1 hp h7), sel0 hr (sel1 hq h8), sel1 hq (sel1 hp h6)⟩
  · exact ⟨X, Y, Z, h, sel1 hr (sel0 hq (sel1 hp h0)), sel1 hr (sel1 hp h1), sel0 hq h2, sel1 hr (sel0 hq (sel1 hp h3)), sel1 hr (sel1 hp h4), sel0 hq h5, sel1 hr (sel0 hq (sel1 hp h6)), sel1 hr (sel1 hp h7), sel0 hq h8⟩
  · exact ⟨Y, X, Z, h.swap, sel0 hr (sel1 hp h1), sel0 hr (sel0 hq (sel1 hp h0)), sel0 hq h2, sel0 hr (sel1 hp h4), sel0 hr (sel0 hq (sel1 hp h3)), sel0 hq h5, sel0 hr (sel1 hp h7), sel0 hr (sel0 hq (sel1 hp h6)), sel0 hq h8⟩
  · exact ⟨Z, X, Y, h.swap'.swap, sel1 hr (sel1 hq h2), sel1 hr (sel0 hp h0), sel1 hq (sel0 hp h1), sel1 hr (sel1 hq h5), sel1 hr (sel0 hp h3), sel1 hq (sel0 hp h4), sel1 hr (sel1 hq h8), sel1 hr (sel0 hp h6), sel1 hq (sel0 hp h7)⟩
  · exact ⟨X, Z, Y, h.swap', sel0 hr (sel0 hp h0), sel0 hr (sel1 hq h2), sel1 hq (sel0 hp h1), sel0 hr (sel0 hp h3), sel0 hr (sel1 hq h5), sel1 hq (sel0 hp h4), sel0 hr (sel0 hp h6), sel0 hr (sel1 hq h8), sel1 hq (sel0 hp h7)⟩
  · exact ⟨Y, X, Z, h.swap, sel1 hr (sel0 hq (sel0 hp h1)), sel1 hr (sel0 hp h0), sel0 hq h2, sel1 hr (sel0 hq (sel0 hp h4)), sel1 hr (sel0 hp h3), sel0 hq h5, sel1 hr (sel0 hq (sel0 hp h7)), sel1 hr (sel0 hp h6), sel0 hq h8⟩
  · exact ⟨X, Y, Z, h, sel0 hr (sel0 hp h0), sel0 hr (sel0 hq (sel0 hp h1)), sel0 hq h2, sel0 hr (sel0 hp h3), sel0 hr (sel0 hq (sel0 hp h4)), sel0 hq h5, sel0 hr (sel0 hp h6), sel0 hr (sel0 hq (sel0 hp h7)), sel0 hq h8⟩

/-- The frame's columns are orthonormal. -/
theorem frame_cols (x0 x1 x2 x3 x4 x5 : Plane Ideal) (i : S16x1x2048.Idx) :
    Cols (frameOf x0 x1 x2 x3 x4 x5 0) (frameOf x0 x1 x2 x3 x4 x5 1) (frameOf x0 x1 x2 x3 x4 x5 2) (frameOf x0 x1 x2 x3 x4 x5 3)
      (frameOf x0 x1 x2 x3 x4 x5 4) (frameOf x0 x1 x2 x3 x4 x5 5) (frameOf x0 x1 x2 x3 x4 x5 6) (frameOf x0 x1 x2 x3 x4 x5 7)
      (frameOf x0 x1 x2 x3 x4 x5 8) i := by
  have hs : HoldsCols (start x0 x1 x2 x3 x4 x5) i :=
    ⟨⟨1, 0, 0⟩, ⟨0, 1, 0⟩, ⟨0, 0, 1⟩, ⟨by simp [dot], by simp [dot], by simp [dot], by simp [dot], by simp [dot], by simp [dot]⟩,
      one_eq, nought_eq, nought_eq, nought_eq, one_eq, nought_eq, nought_eq, nought_eq, one_eq⟩
  have hn : ∀ n, HoldsCols (swept x0 x1 x2 x3 x4 x5 n) i := by
    intro n
    induction n with
    | zero => exact hs
    | succ n ih =>
      unfold swept at *
      rw [Function.iterate_succ_apply']
      exact sweep_cols ih
  exact sorted_cols (hn 8)

set_option maxHeartbeats 800000 in
theorem orthonormal_holds (x0 x1 x2 x3 x4 x5 : Plane Ideal) :
    Cert.Post_orthonormal.fn (F := Ideal) x0 x1 x2 x3 x4 x5 (frameOf x0 x1 x2 x3 x4 x5 0) (frameOf x0 x1 x2 x3 x4 x5 1) (frameOf x0 x1 x2 x3 x4 x5 2) (frameOf x0 x1 x2 x3 x4 x5 3) (frameOf x0 x1 x2 x3 x4 x5 4) (frameOf x0 x1 x2 x3 x4 x5 5) (frameOf x0 x1 x2 x3 x4 x5 6) (frameOf x0 x1 x2 x3 x4 x5 7) (frameOf x0 x1 x2 x3 x4 x5 8) = fun _ => 1#1 := by
  funext i
  obtain ⟨X, Y, Z, hf, f0, f1, f2, f3, f4, f5, f6, f7, f8⟩ := frame_cols x0 x1 x2 x3 x4 x5 i
  have d : ∀ {a b c x y z : Plane Ideal} {u v : V3}, At a i u.a → At b i u.b → At c i u.c → At x i v.a → At y i v.b → At z i v.c →
      At (addf (addf (mulf a x) (mulf b y)) (mulf c z)) i (dot u v) := fun ha hb hc hx hy hz => add_at (add_at (mul_at ha hx) (mul_at hb hy)) (mul_at hc hz)
  have d00 := d f0 f3 f6 f0 f3 f6
  have d11 := d f1 f4 f7 f1 f4 f7
  have d22 := d f2 f5 f8 f2 f5 f8
  have d01 := d f0 f3 f6 f1 f4 f7
  have d02 := d f0 f3 f6 f2 f5 f8
  have d12 := d f1 f4 f7 f2 f5 f8
  rw [hf.nx] at d00; rw [hf.ny] at d11; rw [hf.nz] at d22; rw [hf.oxy] at d01; rw [hf.oxz] at d02; rw [hf.oyz] at d12
  have o : At (const 0x3F800000#32) i 1 := one_eq
  have n : At (const 0x00000000#32) i 0 := nought_eq
  exact both_at (both_at (both_at (both_at (both_at (same_at d00 o) (same_at d11 o)) (same_at d22 o)) (same_at d01 n)) (same_at d02 n)) (same_at d12 n)

end Cert.FramesIdeal.Jac

end
-- ==== Proof.lean ====
/-
  The claims: each program runs to its end with its argument unchanged and every counter at zero; the idealization names one
  constant; under the precondition that every entry is finite, the kernel's eight results and the reference's are the same
  functions of the clouds.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite
public import proofs.«01_k».proof.Proof.Gen.Frames
public import proofs.«01_k».proof.Proof.Gen.Frames.Skeleton
public import proofs.«01_k».proof.Proof.Gen.Frames.Loops
public import proofs.«01_k».proof.Proof.Gen.Frames.Launch
public import proofs.«01_k».proof.Proof.Gen.Frames.Points
public import proofs.«01_k».proof.Proof.Gen.Frames.Frame
public import proofs.«01_k».proof.Proof.Gen.FramesIdeal
public import proofs.«01_k».proof.Proof.Gen.FramesIdeal.Skeleton
public import proofs.«01_k».proof.Proof.Gen.FramesIdeal.Loops
public import proofs.«01_k».proof.Proof.Gen.FramesIdeal.Launch
public import proofs.«01_k».proof.Proof.Gen.FramesIdeal.Points
public import proofs.«01_k».proof.Proof.Gen.FramesIdeal.Frame
public import proofs.«01_k».proof.Proof.Gen.Post_orthonormal
public import proofs.«01_k».proof.Proof.Gen.Post_ascending
public import proofs.«01_k».proof.Proof.Gen.Post_nearly_diagonal
public import proofs.«01_k».proof.Proof.Gen.Pre_finite_planes
public import proofs.«01_k».proof.Proof.Printed
public import proofs.«01_k».proof.Proof.Reference
public import proofs.«01_k».proof.Proof.Result
public import proofs.«01_k».proof.Proof.PrintedFrames
public import proofs.«01_k».proof.Proof.FrameArrays
public import proofs.«01_k».proof.Proof.Always
public import Idealize.ShloMosaic.Adequacy
public import Idealize.ShloMosaic.Init

@[expose] public section

noncomputable section

namespace Cert.Proof

open Idealize.ShloMosaic Idealize.SL.Sem

theorem frame_kernel : Cert.quiescent_Kernel := fun m ρ _ => Cert.Kernel.Knn.quiescent m ρ

theorem frame_ideal : Cert.quiescent_KernelIdeal := fun m ρ _ => Cert.KernelIdeal.Knn.quiescent m ρ

theorem frame_ideal_finite : Cert.quiescent_KernelIdeal_pre_finite := fun m ρ _ => Cert.KernelIdeal.Knn.quiescent m ρ

theorem frame_reference : Cert.quiescent_ReferenceIdeal := fun m ρ _ =>
  (θ_run Cert.ReferenceIdeal.defs _ _).mono (fun r h => ⟨fun c => (h c).2.2.2.2.2.2.2.2,
      Idealize.ShloMosaic.sem_eq_zero_of_no_sems (by decide) r.2⟩)
    (Cert.ReferenceIdeal.Value.run (F := Ideal) m ρ)

theorem frame_reference_finite : Cert.quiescent_ReferenceIdeal_pre_finite := fun m ρ _ => frame_reference m ρ trivial

theorem named : Cert.preserves_Kernel_KernelIdeal :=
  IdealRules.named_const.statement Cert.KernelIdeal.κ "mask" .f32 0xFF61B1E6#32 ⊥ rfl

section Values

variable (X : Cert.Knn.Clouds)

theorem center_eq : Cert.ReferenceIdeal.Knn.means (Cert.ReferenceIdeal.Knn.neigh X) = Cert.KernelIdeal.Knn.outCenter X := by
  funext i
  have hi : i = ix3 (i 0) (i 1) (i 2) := by funext a; fin_cases a <;> rfl
  rw [hi]
  exact (Cert.ReferenceIdeal.Knn.means_at X (i 0) (i 1) (i 2)).trans (Cert.KernelIdeal.Knn.outCenter_at X (i 0) (i 1) (i 2)).symm

theorem offs_eq : Cert.ReferenceIdeal.Knn.offs (Cert.ReferenceIdeal.Knn.neigh X) = Cert.KernelIdeal.Knn.outOffs X := by
  funext i
  have hi : i = ix4 (i 0) (i 1) (i 2) (i 3) := by funext a; fin_cases a <;> rfl
  rw [hi]
  exact (Cert.ReferenceIdeal.Knn.offs_at X (i 0) (i 1) (i 2) (i 3)).trans
    (Cert.KernelIdeal.Knn.outOffs_at X (i 0) (i 1) (i 2) (i 3)).symm

theorem cov00_eq : Cert.ReferenceIdeal.Knn.cov00 (Cert.ReferenceIdeal.Knn.offs (Cert.ReferenceIdeal.Knn.neigh X))
    = Cert.KernelIdeal.Knn.covArray X 0 0 := by
  funext i
  have hi : i = ix3 (i 0) 0 (i 2) := by
    funext a; fin_cases a
    · rfl
    · exact Subsingleton.elim (α := Fin 1) _ _
    · rfl
  rw [hi]
  exact Cert.ReferenceIdeal.Knn.cov00_at X (i 0) (i 2)

theorem cov01_eq : Cert.ReferenceIdeal.Knn.cov01 (Cert.ReferenceIdeal.Knn.offs (Cert.ReferenceIdeal.Knn.neigh X))
    = Cert.KernelIdeal.Knn.covArray X 0 1 := by
  funext i
  have hi : i = ix3 (i 0) 0 (i 2) := by
    funext a; fin_cases a
    · rfl
    · exact Subsingleton.elim (α := Fin 1) _ _
    · rfl
  rw [hi]
  exact Cert.ReferenceIdeal.Knn.cov01_at X (i 0) (i 2)

theorem cov02_eq : Cert.ReferenceIdeal.Knn.cov02 (Cert.ReferenceIdeal.Knn.offs (Cert.ReferenceIdeal.Knn.neigh X))
    = Cert.KernelIdeal.Knn.covArray X 0 2 := by
  funext i
  have hi : i = ix3 (i 0) 0 (i 2) := by
    funext a; fin_cases a
    · rfl
    · exact Subsingleton.elim (α := Fin 1) _ _
    · rfl
  rw [hi]
  exact Cert.ReferenceIdeal.Knn.cov02_at X (i 0) (i 2)

theorem cov11_eq : Cert.ReferenceIdeal.Knn.cov11 (Cert.ReferenceIdeal.Knn.offs (Cert.ReferenceIdeal.Knn.neigh X))
    = Cert.KernelIdeal.Knn.covArray X 1 1 := by
  funext i
  have hi : i = ix3 (i 0) 0 (i 2) := by
    funext a; fin_cases a
    · rfl
    · exact Subsingleton.elim (α := Fin 1) _ _
    · rfl
  rw [hi]
  exact Cert.ReferenceIdeal.Knn.cov11_at X (i 0) (i 2)

theorem cov12_eq : Cert.ReferenceIdeal.Knn.cov12 (Cert.ReferenceIdeal.Knn.offs (Cert.ReferenceIdeal.Knn.neigh X))
    = Cert.KernelIdeal.Knn.covArray X 1 2 := by
  funext i
  have hi : i = ix3 (i 0) 0 (i 2) := by
    funext a; fin_cases a
    · rfl
    · exact Subsingleton.elim (α := Fin 1) _ _
    · rfl
  rw [hi]
  exact Cert.ReferenceIdeal.Knn.cov12_at X (i 0) (i 2)

theorem cov22_eq : Cert.ReferenceIdeal.Knn.cov22 (Cert.ReferenceIdeal.Knn.offs (Cert.ReferenceIdeal.Knn.neigh X))
    = Cert.KernelIdeal.Knn.covArray X 2 2 := by
  funext i
  have hi : i = ix3 (i 0) 0 (i 2) := by
    funext a; fin_cases a
    · rfl
    · exact Subsingleton.elim (α := Fin 1) _ _
    · rfl
  rw [hi]
  exact Cert.ReferenceIdeal.Knn.cov22_at X (i 0) (i 2)

end Values

theorem values : Cert.algebraic_KernelIdeal_ReferenceIdeal_pre_finite := by
  intro m g m' g' hpre hagree
  have hX : ∀ c i, ∃ r : ℝ, Cert.KernelIdeal.Knn.clouds m c i = (r : EReal) := fun c i =>
    Cert.KernelIdeal.Knn.real_of_pre _ (hpre c) i
  refine ⟨fun c => Cert.KernelIdeal.Knn.outCenter (Cert.KernelIdeal.Knn.clouds m c),
    fun c => Cert.KernelIdeal.Knn.outOffs (Cert.KernelIdeal.Knn.clouds m c),
    fun c => Cert.KernelIdeal.Knn.covArray (Cert.KernelIdeal.Knn.clouds m c) 0 0,
    fun c => Cert.KernelIdeal.Knn.covArray (Cert.KernelIdeal.Knn.clouds m c) 0 1,
    fun c => Cert.KernelIdeal.Knn.covArray (Cert.KernelIdeal.Knn.clouds m c) 0 2,
    fun c => Cert.KernelIdeal.Knn.covArray (Cert.KernelIdeal.Knn.clouds m c) 1 1,
    fun c => Cert.KernelIdeal.Knn.covArray (Cert.KernelIdeal.Knn.clouds m c) 1 2,
    fun c => Cert.KernelIdeal.Knn.covArray (Cert.KernelIdeal.Knn.clouds m c) 2 2,
    Cert.KernelIdeal.Knn.run m g hX, ?_⟩
  refine (θ_run Cert.ReferenceIdeal.defs _ _).mono (fun r h c => ?_) (Cert.ReferenceIdeal.Value.run (F := Ideal) m' g')
  obtain ⟨h0, h1, h2, h3, h4, h5, h6, h7, harg⟩ := h c
  have e := hagree c
  refine ⟨h0.trans ?_, h1.trans ?_, h2.trans ?_, h3.trans ?_, h4.trans ?_, h5.trans ?_, h6.trans ?_, h7.trans ?_, harg⟩
  · rw [Cert.ReferenceIdeal.Knn.res_center, e]; exact center_eq _
  · rw [Cert.ReferenceIdeal.Knn.res_offs, e]; exact offs_eq _
  · rw [Cert.ReferenceIdeal.Knn.res_cov00, e]; exact cov00_eq _
  · rw [Cert.ReferenceIdeal.Knn.res_cov01, e]; exact cov01_eq _
  · rw [Cert.ReferenceIdeal.Knn.res_cov02, e]; exact cov02_eq _
  · rw [Cert.ReferenceIdeal.Knn.res_cov11, e]; exact cov11_eq _
  · rw [Cert.ReferenceIdeal.Knn.res_cov12, e]; exact cov12_eq _
  · rw [Cert.ReferenceIdeal.Knn.res_cov22, e]; exact cov22_eq _

theorem frame_frames : Cert.quiescent_Frames := fun m ρ _ => Cert.Frames.Jac.quiescent m ρ

theorem frame_frames_ideal : Cert.quiescent_FramesIdeal := fun m ρ _ => Cert.FramesIdeal.Jac.quiescent m ρ

theorem frame_frames_finite : Cert.quiescent_FramesIdeal_pre_finite_planes := fun m ρ _ => Cert.FramesIdeal.Jac.quiescent m ρ

theorem frames_same : Cert.preserves_Frames_FramesIdeal := trivial

theorem orthonormal : Cert.holds_FramesIdeal_orthonormal := by
  intro m g _
  refine (θ_run Cert.FramesIdeal.defs _ _).mono (fun r h c => ?_) (Cert.FramesIdeal.Jac.run m g)
  obtain ⟨v0, v1, v2, v3, v4, v5, v6, v7, v8, a0, a1, a2, a3, a4, a5⟩ := h c
  refine ⟨a0, a1, a2, a3, a4, a5, ?_⟩
  rw [v0, v1, v2, v3, v4, v5, v6, v7, v8]
  exact Cert.FramesIdeal.Jac.orthonormal_holds _ _ _ _ _ _

theorem ascending : Cert.holds_FramesIdeal_ascending_pre_finite_planes := by
  intro m g hpre
  refine (θ_run Cert.FramesIdeal.defs _ _).mono (fun r h c => ?_) (Cert.FramesIdeal.Jac.run m g)
  obtain ⟨v0, v1, v2, v3, v4, v5, v6, v7, v8, a0, a1, a2, a3, a4, a5⟩ := h c
  refine ⟨a0, a1, a2, a3, a4, a5, ?_⟩
  rw [v0, v1, v2, v3, v4, v5, v6, v7, v8]
  exact Cert.FramesIdeal.Jac.ascending_holds (hpre c)

theorem nearly_diagonal : Cert.holds_FramesIdeal_nearly_diagonal_pre_finite_planes := by
  intro m g hpre
  refine (θ_run Cert.FramesIdeal.defs _ _).mono (fun r h c => ?_) (Cert.FramesIdeal.Jac.run m g)
  obtain ⟨v0, v1, v2, v3, v4, v5, v6, v7, v8, a0, a1, a2, a3, a4, a5⟩ := h c
  refine ⟨a0, a1, a2, a3, a4, a5, ?_⟩
  rw [v0, v1, v2, v3, v4, v5, v6, v7, v8]
  exact Cert.FramesIdeal.Jac.nearly_diagonal_holds (hpre c)

theorem claim : Cert.Claim :=
  ⟨Cert.Kernel.Gen.facts, Cert.KernelIdeal.Gen.facts, Cert.ReferenceIdeal.Gen.facts, Cert.Frames.Gen.facts, Cert.FramesIdeal.Gen.facts,
    Cert.Pre_finite.Gen.facts, Cert.Pre_finite_planes.Gen.facts, Cert.Post_orthonormal.Gen.facts, Cert.Post_ascending.Gen.facts, Cert.Post_nearly_diagonal.Gen.facts,
    frame_kernel, frame_ideal, frame_ideal_finite, frame_reference, frame_reference_finite, frame_frames, frame_frames_ideal,
    frame_frames_finite, named, values, frames_same, orthonormal, ascending, nearly_diagonal⟩

end Cert.Proof

end
